-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 4, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 4, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 4, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S1x1024x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_inputs_ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S1x1024x2048 : S_.BroadcastsInDim S1x1024x2048 (![] : Fin 0 → Fin S1x1024x2048.rank)
  reducesTo_S1x1024x2048_S_d0_1_2 : S1x1024x2048.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S1x1024x2048 .f32) (main_arg1 : FVec F S2048x512 .f32) (main_arg2 : FVec F S512x2048 .f32) (main_arg3 : FVec F S512x2048 .f32) (main_arg4 : FVec F S2048x2048 .f32) (main_arg5 : FVec F S2048x512 .f32) (main_arg6 : FVec F S2048x32 .f32) (main_arg7 : FVec F S2048x2048 .f32) : IVec S_ 1 :=
  let main_v0 : FVec F S1x1024x2048 .f32 := Host.absf main_arg0
  let main_cst : FVec F S_ .f32 := constant S_ .f32 0x7F800000#32
  let main_v1 : FVec F S1x1024x2048 .f32 := broadcastInDim S1x1024x2048 ![] bcast_S_S1x1024x2048 main_cst
  let main_v2 : IVec S1x1024x2048 1 := cmpf .olt main_v0 main_v1
  let main_c : IVec S_ 1 := constantI S_ 1 1#1
  let main_v3 : IVec S_ 1 := (fun x v => Host.reduce IntOp.andi x v reducesTo_S1x1024x2048_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S1x1024x2048 : Shape := ⟨3, ![1, 1024, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S128x1024 : Shape := ⟨2, ![128, 1024]⟩
abbrev S4x128x5120 : Shape := ⟨3, ![4, 128, 5120]⟩
abbrev S4x3 : Shape := ⟨2, ![4, 3]⟩
abbrev S_ : Shape := ⟨0, ![]⟩
abbrev S1x1 : Shape := ⟨2, ![1, 1]⟩
abbrev S1x128x1024 : Shape := ⟨3, ![1, 128, 1024]⟩
abbrev S1x128x2048 : Shape := ⟨3, ![1, 128, 2048]⟩
abbrev S16x1024x32 : Shape := ⟨3, ![16, 1024, 32]⟩
abbrev S1024x32 : Shape := ⟨2, ![1024, 32]⟩
abbrev S1024x512 : Shape := ⟨2, ![1024, 512]⟩
abbrev S1x1024x32 : Shape := ⟨3, ![1, 1024, 32]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 15
  | .vmem => 29
  | .smem => 0
  | _ => 0

abbrev bufTy : (tb : Table) → Fin (tcTables nBuf tb) → BufTy
  | .hbm, ⟨0, _⟩ => ⟨S1x1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S16x1024x32, .f32⟩
  | .hbm, ⟨12, _⟩ => ⟨S1024x32, .f32⟩
  | .hbm, ⟨13, _⟩ => ⟨S1024x2048, .f32⟩
  | .hbm, ⟨14, _⟩ => ⟨S1x1024x2048, .f32⟩
  | .local _ .vmem, ⟨0, _⟩ => ⟨S1x1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S1024x2048, .f32⟩
  | .local _ .vmem, ⟨5, _⟩ => ⟨S1024x2048, .f32⟩
  | .local _ .vmem, ⟨6, _⟩ => ⟨S128x1024, .f32⟩
  | .local _ .vmem, ⟨7, _⟩ => ⟨S4x128x5120, .f32⟩
  | .local _ .vmem, ⟨8, _⟩ => ⟨S1x1024x2048, .f32⟩
  | .local _ .vmem, ⟨9, _⟩ => ⟨S2048x2048, .f32⟩
  | .local _ .vmem, ⟨10, _⟩ => ⟨S2048x512, .f32⟩
  | .local _ .vmem, ⟨11, _⟩ => ⟨S2048x32, .f32⟩
  | .local _ .vmem, ⟨12, _⟩ => ⟨S1024x2048, .f32⟩
  | .local _ .vmem, ⟨13, _⟩ => ⟨S16x1024x32, .f32⟩
  | .local _ .vmem, ⟨14, _⟩ => ⟨S1024x32, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1x1024x32, .f32⟩
  | .local _ .vmem, ⟨22, _⟩ => ⟨S1x1024x32, .f32⟩
  | .local _ .vmem, ⟨23, _⟩ => ⟨S1024x32, .f32⟩
  | .local _ .vmem, ⟨24, _⟩ => ⟨S1024x128, .f32⟩
  | .local _ .vmem, ⟨25, _⟩ => ⟨S1024x128, .f32⟩
  | .local _ .vmem, ⟨26, _⟩ => ⟨S1024x2048, .f32⟩
  | .local _ .vmem, ⟨27, _⟩ => ⟨S2048x2048, .f32⟩
  | .local _ .vmem, ⟨28, _⟩ => ⟨S1x1024x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 30
abbrev cc1_sem1_0 : DmaSem sig := 31
abbrev cc1_sem2_0 : DmaSem sig := 32
abbrev cc1_sem3_0 : DmaSem sig := 33
abbrev cc1_sem4_0 : DmaSem sig := 34
abbrev cc1_sem5_0 : DmaSem sig := 35
abbrev cc1_sem6_0 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem5_0 : DmaSem sig := 46
abbrev cc2_sem5_1 : DmaSem sig := 47
abbrev cc3_sem0_0 : DmaSem sig := 48
abbrev cc3_sem1_0 : DmaSem sig := 49
abbrev cc3_sem2_0 : DmaSem sig := 50
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v43 : BitVec 32 := Scalar.muli v2 c16_i32_22
  let v44 : BitVec 32 := Scalar.addi c0_i32_23 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v45 : BitVec 32 := Scalar.muli v5 c4_i32_24
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_25 : BitVec 32 := 1#32
  let v47 : BitVec 32 := Scalar.muli v19 c1_i32_25
  let v48 : BitVec 32 := Scalar.addi v46 v47
  v48.toNat
def k0_dev2 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v49 : BitVec 32 := Scalar.muli v2 c16_i32_27
  let v50 : BitVec 32 := Scalar.addi c0_i32_28 v49
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v51 : BitVec 32 := Scalar.muli v5 c4_i32_29
  let v52 : BitVec 32 := Scalar.addi v50 v51
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v20 : BitVec 32 := Scalar.addi v8 c3_i32
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_30 : BitVec 32 := 1#32
  let v53 : BitVec 32 := Scalar.muli v30 c1_i32_30
  let v54 : BitVec 32 := Scalar.addi v52 v53
  v54.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v31 : BitVec 32 := Scalar.addi v8 c2_i32_14
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c1_i32_35 : BitVec 32 := 1#32
  let v59 : BitVec 32 := Scalar.muli v41 c1_i32_35
  let v60 : BitVec 32 := Scalar.addi v58 v59
  v60.toNat
def k0_off1 (d0 : Dev nD) (c1_i32_2 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_44 : BitVec 32 := 0#32
  ![v19.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_43 : BitVec 32 := 0#32
  ![v8.toNat, 0]
def k0_off3 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_49 : BitVec 32 := 0#32
  let c0_i32_50 : BitVec 32 := 0#32
  ![v8.toNat, 0, 0]
def k0_dev4 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v69 : BitVec 32 := Scalar.muli v2 c16_i32_45
  let v70 : BitVec 32 := Scalar.addi c0_i32_46 v69
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v71 : BitVec 32 := Scalar.muli v5 c4_i32_47
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_48 : BitVec 32 := 1#32
  let v73 : BitVec 32 := Scalar.muli v19 c1_i32_48
  let v74 : BitVec 32 := Scalar.addi v72 v73
  v74.toNat
def k0_off4 (d0 : Dev nD) (c1_i32_2 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_52 : BitVec 32 := 1#32
  ![v19.toNat, 1]
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  ![v8.toNat, 1]
def k0_off6 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_57 : BitVec 32 := 0#32
  let c1024_i32 : BitVec 32 := 1024#32
  ![v8.toNat, 0, 1024]
def k0_dev5 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v81 : BitVec 32 := Scalar.muli v2 c16_i32_53
  let v82 : BitVec 32 := Scalar.addi c0_i32_54 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v83 : BitVec 32 := Scalar.muli v5 c4_i32_55
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_56 : BitVec 32 := 1#32
  let v85 : BitVec 32 := Scalar.muli v19 c1_i32_56
  let v86 : BitVec 32 := Scalar.addi v84 v85
  v86.toNat
def k0_off7 (d0 : Dev nD) (c1_i32_2 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c2_i32_59 : BitVec 32 := 2#32
  ![v19.toNat, 2]
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_58 : BitVec 32 := 2#32
  ![v8.toNat, 2]
def k0_off9 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_64 : BitVec 32 := 0#32
  let c3072_i32 : BitVec 32 := 3072#32
  ![v8.toNat, 0, 3072]
def k0_dev6 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v93 : BitVec 32 := Scalar.muli v2 c16_i32_60
  let v94 : BitVec 32 := Scalar.addi c0_i32_61 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v95 : BitVec 32 := Scalar.muli v5 c4_i32_62
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_63 : BitVec 32 := 1#32
  let v97 : BitVec 32 := Scalar.muli v19 c1_i32_63
  let v98 : BitVec 32 := Scalar.addi v96 v97
  v98.toNat
def k0_dev7 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v105 : BitVec 32 := Scalar.muli v2 c16_i32_67
  let v106 : BitVec 32 := Scalar.addi c0_i32_68 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v107 : BitVec 32 := Scalar.muli v5 c4_i32_69
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v20 : BitVec 32 := Scalar.addi v8 c3_i32
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_70 : BitVec 32 := 1#32
  let v109 : BitVec 32 := Scalar.muli v30 c1_i32_70
  let v110 : BitVec 32 := Scalar.addi v108 v109
  v110.toNat
def k0_dev8 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v117 : BitVec 32 := Scalar.muli v2 c16_i32_75
  let v118 : BitVec 32 := Scalar.addi c0_i32_76 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v119 : BitVec 32 := Scalar.muli v5 c4_i32_77
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v20 : BitVec 32 := Scalar.addi v8 c3_i32
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_78 : BitVec 32 := 1#32
  let v121 : BitVec 32 := Scalar.muli v30 c1_i32_78
  let v122 : BitVec 32 := Scalar.addi v120 v121
  v122.toNat
def k0_dev9 (d0 : Dev nD) : Nat :=
  let c0_i32_84 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_83 : BitVec 32 := 16#32
  let v129 : BitVec 32 := Scalar.muli v2 c16_i32_83
  let v130 : BitVec 32 := Scalar.addi c0_i32_84 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v131 : BitVec 32 := Scalar.muli v5 c4_i32_85
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v20 : BitVec 32 := Scalar.addi v8 c3_i32
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c1_i32_86 : BitVec 32 := 1#32
  let v133 : BitVec 32 := Scalar.muli v30 c1_i32_86
  let v134 : BitVec 32 := Scalar.addi v132 v133
  v134.toNat
def k0_dev10 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v141 : BitVec 32 := Scalar.muli v2 c16_i32_91
  let v142 : BitVec 32 := Scalar.addi c0_i32_92 v141
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v143 : BitVec 32 := Scalar.muli v5 c4_i32_93
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v31 : BitVec 32 := Scalar.addi v8 c2_i32_14
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c1_i32_94 : BitVec 32 := 1#32
  let v145 : BitVec 32 := Scalar.muli v41 c1_i32_94
  let v146 : BitVec 32 := Scalar.addi v144 v145
  v146.toNat
def k0_dev11 (d0 : Dev nD) : Nat :=
  let c0_i32_100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_99 : BitVec 32 := 16#32
  let v153 : BitVec 32 := Scalar.muli v2 c16_i32_99
  let v154 : BitVec 32 := Scalar.addi c0_i32_100 v153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v155 : BitVec 32 := Scalar.muli v5 c4_i32_101
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v31 : BitVec 32 := Scalar.addi v8 c2_i32_14
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c1_i32_102 : BitVec 32 := 1#32
  let v157 : BitVec 32 := Scalar.muli v41 c1_i32_102
  let v158 : BitVec 32 := Scalar.addi v156 v157
  v158.toNat
def k0_dev12 (d0 : Dev nD) : Nat :=
  let c0_i32_108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_107 : BitVec 32 := 16#32
  let v165 : BitVec 32 := Scalar.muli v2 c16_i32_107
  let v166 : BitVec 32 := Scalar.addi c0_i32_108 v165
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_109 : BitVec 32 := 4#32
  let v167 : BitVec 32 := Scalar.muli v5 c4_i32_109
  let v168 : BitVec 32 := Scalar.addi v166 v167
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v31 : BitVec 32 := Scalar.addi v8 c2_i32_14
  let c4_i32_15 : BitVec 32 := 4#32
  let c0_i32_16 : BitVec 32 := 0#32
  let v32 : BitVec 1 := Scalar.cmpi .eq c4_i32_15 c0_i32_16
  let c1_i32_17 : BitVec 32 := 1#32
  let v33 : BitVec 32 := Scalar.select v32 c1_i32_17 c4_i32_15
  let v34 : BitVec 32 := Scalar.remsi v31 v33
  let c0_i32_19 : BitVec 32 := 0#32
  let v36 : BitVec 1 := Scalar.cmpi .slt v34 c0_i32_19
  let c0_i32_20 : BitVec 32 := 0#32
  let v37 : BitVec 1 := Scalar.cmpi .slt v33 c0_i32_20
  let v38 : BitVec 1 := Scalar.xori v36 v37
  let c0_i32_18 : BitVec 32 := 0#32
  let v35 : BitVec 1 := Scalar.cmpi .ne v34 c0_i32_18
  let v39 : BitVec 1 := Scalar.andi v38 v35
  let v40 : BitVec 32 := Scalar.addi v34 v33
  let v41 : BitVec 32 := Scalar.select v39 v40 v34
  let c1_i32_110 : BitVec 32 := 1#32
  let v169 : BitVec 32 := Scalar.muli v41 c1_i32_110
  let v170 : BitVec 32 := Scalar.addi v168 v169
  v170.toNat
def k0_off10 (d0 : Dev nD) (c1_i32_2 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_131 : BitVec 32 := 0#32
  let c0_i32_132 : BitVec 32 := 0#32
  ![v19.toNat, 0, 0]
def k0_off11 (d0 : Dev nD) (c1_i32_2 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_139 : BitVec 32 := 0#32
  let c1024_i32_140 : BitVec 32 := 1024#32
  ![v19.toNat, 0, 1024]
def k0_off12 (d0 : Dev nD) (c1_i32_2 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_147 : BitVec 32 := 0#32
  let c3072_i32_148 : BitVec 32 := 3072#32
  ![v19.toNat, 0, 3072]
def k0_off13 (d0 : Dev nD) (c1_i32_2 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v216 : Index := Scalar.indexCast v19
  let c0_149 : Index := 0#32
  let c0_150 : Index := 0#32
  ![v216.toNat, 0, 0]
def k0_off14 (d0 : Dev nD) (c1_i32_2 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v221 : Index := Scalar.indexCast v19
  let c0_153 : Index := 0#32
  let c1024 : Index := 1024#32
  ![v221.toNat, 0, 1024]
def k0_off15 (d0 : Dev nD) (c1_i32_2 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v229 : Index := Scalar.indexCast v19
  let c0_159 : Index := 0#32
  let c3072 : Index := 3072#32
  ![v229.toNat, 0, 3072]
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S1x1024x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x1024x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := .none

abbrev stage3_0 : Fin 1 → Memref sig .tc .vmem S1024x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S2048x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1024x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
-- ==== ReferenceIdeal.lean ====
abbrev S1x1024x2048 : Shape := ⟨3, ![1, 1024, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S1x1024x512 : Shape := ⟨3, ![1, 1024, 512]⟩
abbrev S1x1024x16x128 : Shape := ⟨4, ![1, 1024, 16, 128]⟩
abbrev S1x1024x16x32 : Shape := ⟨4, ![1, 1024, 16, 32]⟩
abbrev S1x1024x32 : Shape := ⟨3, ![1, 1024, 32]⟩
abbrev S1x1024x1x32 : Shape := ⟨4, ![1, 1024, 1, 32]⟩
abbrev S1x16x1024x1024 : Shape := ⟨4, ![1, 16, 1024, 1024]⟩
abbrev S_ : Shape := ⟨0, ![]⟩
abbrev S1x16x1024 : Shape := ⟨3, ![1, 16, 1024]⟩
abbrev S1x16x1024x1 : Shape := ⟨4, ![1, 16, 1024, 1]⟩
abbrev S1x16x128x1024 : Shape := ⟨4, ![1, 16, 128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1x1024x512, .f32⟩
  | .hbm, ⟨9, _⟩ => ⟨S1x1024x2048, .f32⟩
  | .hbm, ⟨10, _⟩ => ⟨S1x1024x16x128, .f32⟩
  | .hbm, ⟨11, _⟩ => ⟨S1x1024x2048, .f32⟩
  | .hbm, ⟨12, _⟩ => ⟨S1x1024x16x128, .f32⟩
  | .hbm, ⟨13, _⟩ => ⟨S1x1024x2048, .f32⟩
  | .hbm, ⟨14, _⟩ => ⟨S1x1024x16x128, .f32⟩
  | .hbm, ⟨15, _⟩ => ⟨S1x1024x512, .f32⟩
  | .hbm, ⟨16, _⟩ => ⟨S1x1024x16x32, .f32⟩
  | .hbm, ⟨17, _⟩ => ⟨S1x1024x32, .f32⟩
  | .hbm, ⟨18, _⟩ => ⟨S1x1024x1x32, .f32⟩
  | .hbm, ⟨19, _⟩ => ⟨S1x16x1024x1024, .f32⟩
  | .hbm, ⟨20, _⟩ => ⟨S1x1024x16x32, .f32⟩
  | .hbm, ⟨21, _⟩ => ⟨S1x16x1024x1024, .f32⟩
  | .hbm, ⟨22, _⟩ => ⟨S1x16x1024x1024, .f32⟩
  | .hbm, ⟨23, _⟩ => ⟨S_, .f32⟩
  | .hbm, ⟨24, _⟩ => ⟨S1x16x1024x1024, .f32⟩
  | .hbm, ⟨25, _⟩ => ⟨S1x16x1024x1024, .f32⟩
  | .hbm, ⟨26, _⟩ => ⟨S_, .f32⟩
  | .hbm, ⟨27, _⟩ => ⟨S1x16x1024, .f32⟩
  | .hbm, ⟨28, _⟩ => ⟨S1x16x1024x1, .f32⟩
  | .hbm, ⟨29, _⟩ => ⟨S1x16x1024x1024, .f32⟩
  | .hbm, ⟨30, _⟩ => ⟨S1x16x1024x1024, .f32⟩
  | .hbm, ⟨31, _⟩ => ⟨S1x16x1024x1024, .f32⟩
  | .hbm, ⟨32, _⟩ => ⟨S_, .f32⟩
  | .hbm, ⟨33, _⟩ => ⟨S1x16x1024, .f32⟩
  | .hbm, ⟨34, _⟩ => ⟨S1x16x1024x1, .f32⟩
  | .hbm, ⟨35, _⟩ => ⟨S1x16x1024x1024, .f32⟩
  | .hbm, ⟨36, _⟩ => ⟨S1x16x1024x1024, .f32⟩
  | .hbm, ⟨37, _⟩ => ⟨S1x16x128x1024, .f32⟩
  | .hbm, ⟨38, _⟩ => ⟨S1x1024x16x128, .f32⟩
  | .hbm, ⟨39, _⟩ => ⟨S1x1024x2048, .f32⟩
  | .hbm, ⟨40, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.RunKernelIdeal.Mesh.lean ====
/-
# The mesh, the buffers and the semaphores

The 32 devices are numbered row-major over the axes `x`, `y`, `z`; data is exchanged only between the four
devices that differ in `z`. A device names its peers by their `z` coordinate: `at_ w c` is the device of `c`'s
group whose coordinate is `w`. The kernel addresses them at distances 1, 3 and 2 along `z`, in this order. Here
are the closed forms of every device and every offset that the kernel computes from its own number.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueLayout

@[expose] public section

noncomputable section

namespace Cert.KernelIdeal.Run

open Cert.KernelIdeal Cert.KernelIdeal.Gen
open Idealize.ShloMosaic Idealize.ShloMosaic.TcCoe
open Idealize.ShloMosaic.ValueIdx (ix1 ix2 ix3 eq_ix1 eq_ix2 eq_ix3)

/-! ## Devices -/

/-- The `z` coordinate of a device. -/
def zc (c : Dev nD) : Fin 4 := ⟨c.val % 4, Nat.mod_lt _ (by decide)⟩

/-- The device of `c`'s group whose `z` coordinate is `w`. -/
def at_ (w : Fin 4) (c : Dev nD) : Dev nD :=
  ⟨4 * (c.val / 4) + w.val, by
    have h1 : c.val < 32 := c.isLt
    have h2 := w.isLt
    show _ < 32
    omega⟩

theorem zc_at (w : Fin 4) (c : Dev nD) : zc (at_ w c) = w := by
  apply Fin.ext; show (4 * (c.val / 4) + w.val) % 4 = w.val; have := w.isLt; omega
theorem at_at (w v : Fin 4) (c : Dev nD) : at_ w (at_ v c) = at_ w c := by
  apply Fin.ext; show 4 * ((4 * (c.val / 4) + v.val) / 4) + w.val = 4 * (c.val / 4) + w.val; have := v.isLt; omega
theorem at_self (c : Dev nD) : at_ (zc c) c = c := by
  apply Fin.ext; show 4 * (c.val / 4) + c.val % 4 = c.val; omega
/-- Seen from its peer, a device is the peer's peer. -/
theorem at_back (w : Fin 4) (c : Dev nD) : at_ (zc c) (at_ w c) = c := by rw [at_at, at_self]

/-- The coordinate at distance `r` along the ring of four. -/
def pz (r : Fin 4) (c : Dev nD) : Fin 4 := zc c + r
/-- The device at distance `r`. -/
abbrev pd (r : Fin 4) (c : Dev nD) : Dev nD := at_ (pz r c) c

theorem pz_ne (r : Fin 4) (hr : r ≠ 0) (c : Dev nD) : pz r c ≠ zc c := by
  unfold pz; generalize zc c = z; revert r z; decide
theorem pz_inj (r r' : Fin 4) (h : r ≠ r') (c : Dev nD) : pz r c ≠ pz r' c := by
  unfold pz; generalize zc c = z; revert r r' z; decide
theorem zc_pd (r : Fin 4) (c : Dev nD) : zc (pd r c) = pz r c := zc_at _ _
theorem pz_zero (c : Dev nD) : pz 0 c = zc c := by unfold pz; generalize zc c = z; revert z; decide

/-! ## What the kernel computes from its number -/

theorem dev1_eq (c : Dev nD) : (⟨k0_dev1 c, k0_dev1_lt c⟩ : Dev nD) = pd 1 c := by revert c; decide
theorem dev2_eq (c : Dev nD) : (⟨k0_dev2 c, k0_dev2_lt c⟩ : Dev nD) = pd 3 c := by revert c; decide
theorem dev3_eq (c : Dev nD) : (⟨k0_dev3 c, k0_dev3_lt c⟩ : Dev nD) = pd 2 c := by revert c; decide
theorem dev4_eq (c : Dev nD) : (⟨k0_dev4 c, k0_dev4_lt c⟩ : Dev nD) = pd 1 c := by revert c; decide
theorem dev5_eq (c : Dev nD) : (⟨k0_dev5 c, k0_dev5_lt c⟩ : Dev nD) = pd 1 c := by revert c; decide
theorem dev6_eq (c : Dev nD) : (⟨k0_dev6 c, k0_dev6_lt c⟩ : Dev nD) = pd 1 c := by revert c; decide
theorem dev7_eq (c : Dev nD) : (⟨k0_dev7 c, k0_dev7_lt c⟩ : Dev nD) = pd 3 c := by revert c; decide
theorem dev8_eq (c : Dev nD) : (⟨k0_dev8 c, k0_dev8_lt c⟩ : Dev nD) = pd 3 c := by revert c; decide
theorem dev9_eq (c : Dev nD) : (⟨k0_dev9 c, k0_dev9_lt c⟩ : Dev nD) = pd 3 c := by revert c; decide
theorem dev10_eq (c : Dev nD) : (⟨k0_dev10 c, k0_dev10_lt c⟩ : Dev nD) = pd 2 c := by revert c; decide
theorem dev11_eq (c : Dev nD) : (⟨k0_dev11 c, k0_dev11_lt c⟩ : Dev nD) = pd 2 c := by revert c; decide
theorem dev12_eq (c : Dev nD) : (⟨k0_dev12 c, k0_dev12_lt c⟩ : Dev nD) = pd 2 c := by revert c; decide

theorem off1_1 (c : Dev nD) : k0_off1 c (BitVec.ofNat 32 1) = ![(pz 1 c).val, 0] := by revert c; decide
theorem off1_3 (c : Dev nD) : k0_off1 c (BitVec.ofNat 32 3) = ![(pz 3 c).val, 0] := by revert c; decide
theorem off1_2 (c : Dev nD) : k0_off1 c (BitVec.ofNat 32 2) = ![(pz 2 c).val, 0] := by revert c; decide
theorem off4_1 (c : Dev nD) : k0_off4 c (BitVec.ofNat 32 1) = ![(pz 1 c).val, 1] := by revert c; decide
theorem off4_3 (c : Dev nD) : k0_off4 c (BitVec.ofNat 32 3) = ![(pz 3 c).val, 1] := by revert c; decide
theorem off4_2 (c : Dev nD) : k0_off4 c (BitVec.ofNat 32 2) = ![(pz 2 c).val, 1] := by revert c; decide
theorem off7_1 (c : Dev nD) : k0_off7 c (BitVec.ofNat 32 1) = ![(pz 1 c).val, 2] := by revert c; decide
theorem off7_3 (c : Dev nD) : k0_off7 c (BitVec.ofNat 32 3) = ![(pz 3 c).val, 2] := by revert c; decide
theorem off7_2 (c : Dev nD) : k0_off7 c (BitVec.ofNat 32 2) = ![(pz 2 c).val, 2] := by revert c; decide
theorem off2_s (c : Dev nD) : k0_off2 c = ![(zc c).val, 0] := by revert c; decide
theorem off5_s (c : Dev nD) : k0_off5 c = ![(zc c).val, 1] := by revert c; decide
theorem off8_s (c : Dev nD) : k0_off8 c = ![(zc c).val, 2] := by revert c; decide
theorem off3_s (c : Dev nD) : k0_off3 c = ![(zc c).val, 0, 0] := by revert c; decide
theorem off6_s (c : Dev nD) : k0_off6 c = ![(zc c).val, 0, 1024] := by revert c; decide
theorem off9_s (c : Dev nD) : k0_off9 c = ![(zc c).val, 0, 3072] := by revert c; decide
theorem off10_1 (c : Dev nD) : k0_off10 c (BitVec.ofNat 32 1) = ![(pz 1 c).val, 0, 0] := by revert c; decide
theorem off10_3 (c : Dev nD) : k0_off10 c (BitVec.ofNat 32 3) = ![(pz 3 c).val, 0, 0] := by revert c; decide
theorem off10_2 (c : Dev nD) : k0_off10 c (BitVec.ofNat 32 2) = ![(pz 2 c).val, 0, 0] := by revert c; decide
theorem off11_1 (c : Dev nD) : k0_off11 c (BitVec.ofNat 32 1) = ![(pz 1 c).val, 0, 1024] := by revert c; decide
theorem off11_3 (c : Dev nD) : k0_off11 c (BitVec.ofNat 32 3) = ![(pz 3 c).val, 0, 1024] := by revert c; decide
theorem off11_2 (c : Dev nD) : k0_off11 c (BitVec.ofNat 32 2) = ![(pz 2 c).val, 0, 1024] := by revert c; decide
theorem off12_1 (c : Dev nD) : k0_off12 c (BitVec.ofNat 32 1) = ![(pz 1 c).val, 0, 3072] := by revert c; decide
theorem off12_3 (c : Dev nD) : k0_off12 c (BitVec.ofNat 32 3) = ![(pz 3 c).val, 0, 3072] := by revert c; decide
theorem off12_2 (c : Dev nD) : k0_off12 c (BitVec.ofNat 32 2) = ![(pz 2 c).val, 0, 3072] := by revert c; decide
theorem off13_1 (c : Dev nD) : k0_off13 c (BitVec.ofNat 32 1) = ![(pz 1 c).val, 0, 0] := by revert c; decide
theorem off13_3 (c : Dev nD) : k0_off13 c (BitVec.ofNat 32 3) = ![(pz 3 c).val, 0, 0] := by revert c; decide
theorem off13_2 (c : Dev nD) : k0_off13 c (BitVec.ofNat 32 2) = ![(pz 2 c).val, 0, 0] := by revert c; decide
theorem off14_1 (c : Dev nD) : k0_off14 c (BitVec.ofNat 32 1) = ![(pz 1 c).val, 0, 1024] := by revert c; decide
theorem off14_3 (c : Dev nD) : k0_off14 c (BitVec.ofNat 32 3) = ![(pz 3 c).val, 0, 1024] := by revert c; decide
theorem off14_2 (c : Dev nD) : k0_off14 c (BitVec.ofNat 32 2) = ![(pz 2 c).val, 0, 1024] := by revert c; decide
theorem off15_1 (c : Dev nD) : k0_off15 c (BitVec.ofNat 32 1) = ![(pz 1 c).val, 0, 3072] := by revert c; decide
theorem off15_3 (c : Dev nD) : k0_off15 c (BitVec.ofNat 32 3) = ![(pz 3 c).val, 0, 3072] := by revert c; decide
theorem off15_2 (c : Dev nD) : k0_off15 c (BitVec.ofNat 32 2) = ![(pz 2 c).val, 0, 3072] := by revert c; decide

/-! ## Semaphores -/

/-- The runtime's barrier semaphore. -/
abbrev barS : Sem sig := (SemArray.scalar (sig.barrier 0 rfl) : Sems sig S_).sem

/-- The transfer semaphores: `a = 0` is counted up when a copy has left, `a = 1` when one has landed; `j` says what was
    copied (0 the compressed latents, 1 and 2 the rows of the two up-projections), `w` is the peer's coordinate. -/
def xs (a : Fin 2) (j : Fin 3) (w : Fin 4) : DmaSem sig := ⟨6 + 12 * a.val + 3 * w.val + j.val, by
  have h1 := a.isLt; have h2 := w.isLt; have h3 := j.isLt; show _ < 51; omega⟩

/-- A semaphore of an array of four by three at an offset known in closed form. -/
theorem sem_at (a : Fin 2) (A : DmaSems sig S4x3) (hA : ∀ (w : Fin 4) (j : Fin 3), A.ix (ix2 w j) = xs a j w) (j : Fin 3) (w : Fin 4)
    (off : Fin S4x3.rank → ℕ) (ho : off = ![w.val, j.val]) (h) :
    ((A.slice (Rect.unit (s := S4x3) off S1x1.size h)).squeeze S_ squeezes_S1x1_S_).sem = xs a j w := by
  subst ho
  rw [← hA w j]
  show A.ix _ = _
  congr 1
  rw [eq_ix2 (n0 := 4) (n1 := 3) ((Rect.unit (s := S4x3) ![w.val, j.val] S1x1.size h).emb _)]
  have h0 : ∀ x : Fin 1, x.val = 0 := fun x => by omega
  congr 1
  · apply Fin.ext
    rw [Rect.emb_apply]
    show w.val + 1 * (show Fin 1 from Shape.reshapeEquiv (s := S1x1) (s' := S_) squeezes_S1x1_S_.numel_eq (fun i => i.elim0) 0).val = w.val
    rw [h0]; rfl
  · apply Fin.ext
    rw [Rect.emb_apply]
    show j.val + 1 * (show Fin 1 from Shape.reshapeEquiv (s := S1x1) (s' := S_) squeezes_S1x1_S_.numel_eq (fun i => i.elim0) 1).val = j.val
    rw [h0]; rfl

theorem scratch2_ix (w : Fin 4) (j : Fin 3) : (cc0_scratch2).ix (ix2 w j) = xs 0 j w := by revert w j; decide
theorem scratch3_ix (w : Fin 4) (j : Fin 3) : (cc0_scratch3).ix (ix2 w j) = xs 1 j w := by revert w j; decide

/-! ## Buffers -/

/-- This device's compressed latents, its rows of the two up-projections. -/
abbrev ctM : Memref sig .tc .vmem S128x1024 .f32 := Memref.whole cc0_scratch0
abbrev ukM : Memref sig .tc .vmem S128x2048 .f32 := Memref.whole cc0_stg2_0
abbrev uvM : Memref sig .tc .vmem S128x2048 .f32 := Memref.whole cc0_stg3_0
/-- The landing places, one per peer: 1024 columns for latents, 2048 for each up-projection. -/
abbrev rM : Memref sig .tc .vmem S4x128x5120 .f32 := Memref.whole cc0_scratch1

theorem slotC_inb (w : Fin 4) : ∀ a, (![w.val, 0, 0] : Fin 3 → ℕ) a + S1x128x1024.size a ≤ S4x128x5120.size a := by revert w; decide
theorem slotK_inb (w : Fin 4) : ∀ a, (![w.val, 0, 1024] : Fin 3 → ℕ) a + S1x128x2048.size a ≤ S4x128x5120.size a := by revert w; decide
theorem slotV_inb (w : Fin 4) : ∀ a, (![w.val, 0, 3072] : Fin 3 → ℕ) a + S1x128x2048.size a ≤ S4x128x5120.size a := by revert w; decide

/-- The three parts of landing place `w`. -/
abbrev slotC (w : Fin 4) : Memref sig .tc .vmem S128x1024 .f32 :=
  (rM.slice (Rect.unit (s := S4x128x5120) ![w.val, 0, 0] S1x128x1024.size (slotC_inb w)) (fun _ => rfl)).squeeze S128x1024 squeezes_S1x128x1024_S128x1024
abbrev slotK (w : Fin 4) : Memref sig .tc .vmem S128x2048 .f32 :=
  (rM.slice (Rect.unit (s := S4x128x5120) ![w.val, 0, 1024] S1x128x2048.size (slotK_inb w)) (fun _ => rfl)).squeeze S128x2048 squeezes_S1x128x2048_S128x2048
abbrev slotV (w : Fin 4) : Memref sig .tc .vmem S128x2048 .f32 :=
  (rM.slice (Rect.unit (s := S4x128x5120) ![w.val, 0, 3072] S1x128x2048.size (slotV_inb w)) (fun _ => rfl)).squeeze S128x2048 squeezes_S1x128x2048_S128x2048

theorem slotC_at (w : Fin 4) (off : Fin S4x128x5120.rank → ℕ) (ho : off = ![w.val, 0, 0]) (h) :
    (rM.slice (Rect.unit (s := S4x128x5120) off S1x128x1024.size h) (fun _ => rfl)).squeeze S128x1024 squeezes_S1x128x1024_S128x1024 = slotC w := by
  subst ho; rfl
theorem slotK_at (w : Fin 4) (off : Fin S4x128x5120.rank → ℕ) (ho : off = ![w.val, 0, 1024]) (h) :
    (rM.slice (Rect.unit (s := S4x128x5120) off S1x128x2048.size h) (fun _ => rfl)).squeeze S128x2048 squeezes_S1x128x2048_S128x2048 = slotK w := by
  subst ho; rfl
theorem slotV_at (w : Fin 4) (off : Fin S4x128x5120.rank → ℕ) (ho : off = ![w.val, 0, 3072]) (h) :
    (rM.slice (Rect.unit (s := S4x128x5120) off S1x128x2048.size h) (fun _ => rfl)).squeeze S128x2048 squeezes_S1x128x2048_S128x2048 = slotV w := by
  subst ho; rfl

/-- The first column of a part, and the first after it. -/
def lo (j : Fin 3) : ℕ := match j with | 0 => 0 | 1 => 1024 | 2 => 3072
def hi (j : Fin 3) : ℕ := match j with | 0 => 1024 | 1 => 3072 | 2 => 5120
/-- The elements of landing place `w`, and of its part `j`. -/
def slotI (w : Fin 4) : Finset S4x128x5120.Idx := Finset.univ.filter fun i => (i 0).val = w.val
def partI (j : Fin 3) (w : Fin 4) : Finset S4x128x5120.Idx := Finset.univ.filter fun i => (i 0).val = w.val ∧ lo j ≤ (i 2).val ∧ (i 2).val < hi j

/-- Element `(i, j)` of a part is element `(w, i, first column + j)` of the buffer. -/
theorem slotC_emb (w : Fin 4) (i : Fin 128) (j : Fin 1024) : (slotC w).view.emb (ix2 i j) = ix3 w i (⟨j.val, by omega⟩ : Fin 5120) := by
  show (Rect.unit (s := S4x128x5120) ![w.val, 0, 0] S1x128x1024.size _).emb (Shape.reshapeEquiv (s := S1x128x1024) (s' := S128x1024) _ (ix2 i j)) = _
  rw [ValueIdx.reshapeEquiv_ix2_1ab]
  funext a
  apply Fin.ext
  match a with
  | ⟨0, _⟩ => show w.val + 1 * 0 = w.val; rfl
  | ⟨1, _⟩ => show 0 + 1 * i.val = i.val; omega
  | ⟨2, _⟩ => show 0 + 1 * j.val = j.val; omega
theorem slotK_emb (w : Fin 4) (i : Fin 128) (j : Fin 2048) : (slotK w).view.emb (ix2 i j) = ix3 w i (⟨1024 + j.val, by omega⟩ : Fin 5120) := by
  show (Rect.unit (s := S4x128x5120) ![w.val, 0, 1024] S1x128x2048.size _).emb (Shape.reshapeEquiv (s := S1x128x2048) (s' := S128x2048) _ (ix2 i j)) = _
  rw [ValueIdx.reshapeEquiv_ix2_1ab]
  funext a
  apply Fin.ext
  match a with
  | ⟨0, _⟩ => show w.val + 1 * 0 = w.val; rfl
  | ⟨1, _⟩ => show 0 + 1 * i.val = i.val; omega
  | ⟨2, _⟩ => show 1024 + 1 * j.val = 1024 + j.val; omega
theorem slotV_emb (w : Fin 4) (i : Fin 128) (j : Fin 2048) : (slotV w).view.emb (ix2 i j) = ix3 w i (⟨3072 + j.val, by omega⟩ : Fin 5120) := by
  show (Rect.unit (s := S4x128x5120) ![w.val, 0, 3072] S1x128x2048.size _).emb (Shape.reshapeEquiv (s := S1x128x2048) (s' := S128x2048) _ (ix2 i j)) = _
  rw [ValueIdx.reshapeEquiv_ix2_1ab]
  funext a
  apply Fin.ext
  match a with
  | ⟨0, _⟩ => show w.val + 1 * 0 = w.val; rfl
  | ⟨1, _⟩ => show 0 + 1 * i.val = i.val; omega
  | ⟨2, _⟩ => show 3072 + 1 * j.val = 3072 + j.val; omega

theorem slotC_set (w : Fin 4) : (slotC w).view.set = partI 0 w := by
  ext i
  unfold partI
  rw [View.set, Finset.mem_map, Finset.mem_filter]
  constructor
  · rintro ⟨x, -, rfl⟩
    obtain ⟨i, j, rfl⟩ : ∃ (i : Fin 128) (j : Fin 1024), x = ix2 i j := ⟨_, _, eq_ix2 x⟩
    rw [slotC_emb]
    refine ⟨Finset.mem_univ _, rfl, ?_, ?_⟩
    · show 0 ≤ j.val; omega
    · show j.val < 1024; omega
  · rintro ⟨-, h, h1, h2⟩
    obtain ⟨v, a, b, rfl⟩ : ∃ (v : Fin 4) (a : Fin 128) (b : Fin 5120), i = ix3 v a b := ⟨_, _, _, eq_ix3 (n0 := 4) (n1 := 128) (n2 := 5120) i⟩
    obtain rfl : v = w := Fin.ext h
    replace h1 : 0 ≤ b.val := h1
    replace h2 : b.val < 1024 := h2
    refine ⟨ix2 a ⟨b.val, by omega⟩, Finset.mem_univ _, (slotC_emb v a _).trans ?_⟩
    exact congrArg (fun y : Fin 5120 => ix3 (n0 := 4) (n1 := 128) (n2 := 5120) v a y) (Fin.ext (by show b.val = b.val; omega))

theorem slotK_set (w : Fin 4) : (slotK w).view.set = partI 1 w := by
  ext i
  unfold partI
  rw [View.set, Finset.mem_map, Finset.mem_filter]
  constructor
  · rintro ⟨x, -, rfl⟩
    obtain ⟨i, j, rfl⟩ : ∃ (i : Fin 128) (j : Fin 2048), x = ix2 i j := ⟨_, _, eq_ix2 x⟩
    rw [slotK_emb]
    refine ⟨Finset.mem_univ _, rfl, ?_, ?_⟩
    · show 1024 ≤ 1024 + j.val; omega
    · show 1024 + j.val < 3072; omega
  · rintro ⟨-, h, h1, h2⟩
    obtain ⟨v, a, b, rfl⟩ : ∃ (v : Fin 4) (a : Fin 128) (b : Fin 5120), i = ix3 v a b := ⟨_, _, _, eq_ix3 (n0 := 4) (n1 := 128) (n2 := 5120) i⟩
    obtain rfl : v = w := Fin.ext h
    replace h1 : 1024 ≤ b.val := h1
    replace h2 : b.val < 3072 := h2
    refine ⟨ix2 a ⟨b.val - 1024, by omega⟩, Finset.mem_univ _, (slotK_emb v a _).trans ?_⟩
    exact congrArg (fun y : Fin 5120 => ix3 (n0 := 4) (n1 := 128) (n2 := 5120) v a y) (Fin.ext (by show 1024 + (b.val - 1024) = b.val; omega))

theorem slotV_set (w : Fin 4) : (slotV w).view.set = partI 2 w := by
  ext i
  unfold partI
  rw [View.set, Finset.mem_map, Finset.mem_filter]
  constructor
  · rintro ⟨x, -, rfl⟩
    obtain ⟨i, j, rfl⟩ : ∃ (i : Fin 128) (j : Fin 2048), x = ix2 i j := ⟨_, _, eq_ix2 x⟩
    rw [slotV_emb]
    refine ⟨Finset.mem_univ _, rfl, ?_, ?_⟩
    · show 3072 ≤ 3072 + j.val; omega
    · show 3072 + j.val < 5120; omega
  · rintro ⟨-, h, h1, h2⟩
    obtain ⟨v, a, b, rfl⟩ : ∃ (v : Fin 4) (a : Fin 128) (b : Fin 5120), i = ix3 v a b := ⟨_, _, _, eq_ix3 (n0 := 4) (n1 := 128) (n2 := 5120) i⟩
    obtain rfl : v = w := Fin.ext h
    replace h1 : 3072 ≤ b.val := h1
    replace h2 : b.val < 5120 := h2
    refine ⟨ix2 a ⟨b.val - 3072, by omega⟩, Finset.mem_univ _, (slotV_emb v a _).trans ?_⟩
    exact congrArg (fun y : Fin 5120 => ix3 (n0 := 4) (n1 := 128) (n2 := 5120) v a y) (Fin.ext (by show 3072 + (b.val - 3072) = b.val; omega))

end Cert.KernelIdeal.Run

end
-- ==== Proof.RunKernelIdeal.Contents.lean ====
/-
# What the buffers of the first call hold

For each device: the staged blocks of its arguments, the compressed latents it sends, what lands in each part of its
landing places, and the keys and values as they grow from one peer to the next, all as functions of the
arguments of the devices of its group.
-/
module

public import proofs.«01_k».proof.Proof.RunKernelIdeal.Mesh
public import Idealize.ShloMosaic.Lib.VecWindow

@[expose] public section

noncomputable section

namespace Cert.KernelIdeal.Run

open Cert.KernelIdeal Cert.KernelIdeal.Gen
open Idealize.ShloMosaic Idealize.ShloMosaic.TcCoe
open Idealize.ShloMosaic.ValueIdx (ix1 ix2 ix3 eq_ix1 eq_ix2 eq_ix3)

variable {F : FTy → Type} [FloatOps F]
variable (m : (ℓ : Loc nD τ sig) → Buf (Elt F) ℓ)

/-! ## The staged arguments -/

def xB (c : Dev nD) : Vec F S1x1024x2048 .f32 := (win0_0.blk (0 : Fin 1)).view.read (Elt F) (m ((c : Thread nD τ).loc main_arg0))
def wdkvB (c : Dev nD) : Vec F S2048x128 .f32 := (win0_1.blk (0 : Fin 1)).view.read (Elt F) (m ((c : Thread nD τ).loc main_arg1))
def wukB (c : Dev nD) : Vec F S128x2048 .f32 := (win0_2.blk (0 : Fin 1)).view.read (Elt F) (m ((c : Thread nD τ).loc main_arg2))
def wuvB (c : Dev nD) : Vec F S128x2048 .f32 := (win0_3.blk (0 : Fin 1)).view.read (Elt F) (m ((c : Thread nD τ).loc main_arg3))

/-! ## What is sent, what lands -/

/-- Device `c`'s compressed latents, transposed. -/
def ctV (c : Dev nD) : FVec F S128x1024 .f32 := k0_pay3 (k0_pay1 (xB m c)) (k0_pay2 (wdkvB m c)) (constant S128x1024 .f32 0x00000000#32)

/-- Landing place `w` holds the peer `w`'s latents, its rows of the key projection, and of the value projection. -/
def rcv (c : Dev nD) : FVec F S4x128x5120 .f32 := fun i =>
  if h : (i 2).val < 1024 then ctV m (at_ (i 0) c) (ix2 (n0 := 128) (n1 := 1024) (i 1) ⟨(i 2).val, h⟩)
  else if h' : (i 2).val < 3072 then wukB m (at_ (i 0) c) (ix2 (n0 := 128) (n1 := 2048) (i 1) ⟨(i 2).val - 1024, by omega⟩)
  else wuvB m (at_ (i 0) c) (ix2 (n0 := 128) (n1 := 2048) (i 1) ⟨(i 2).val - 3072, by have : (i 2).val < 5120 := (i 2).isLt; omega⟩)

/-- The three parts of landing place `w`, as loaded. -/
def ctIn (c : Dev nD) (w : Fin 4) : Vec F S1x128x1024 .f32 := fun i => ctV m (at_ w c) (ix2 (n0 := 128) (n1 := 1024) (i 1) (i 2))
def ukIn (c : Dev nD) (w : Fin 4) : Vec F S1x128x2048 .f32 := fun i => wukB m (at_ w c) (ix2 (n0 := 128) (n1 := 2048) (i 1) (i 2))
def uvIn (c : Dev nD) (w : Fin 4) : Vec F S1x128x2048 .f32 := fun i => wuvB m (at_ w c) (ix2 (n0 := 128) (n1 := 2048) (i 1) (i 2))

/-! ## The keys and the values -/

/-- The keys from this device's own latents, and after each peer's, in the order in which they are taken; -/
def kc1 (c : Dev nD) : FVec F S1024x2048 .f32 := k0_pay4 (ctV m c) (wukB m c)
def kc2 (c : Dev nD) : FVec F S1024x2048 .f32 := k0_pay7 (ctIn m c (pz 1 c)) (kc1 m c) (ukIn m c (pz 1 c))
def kc3 (c : Dev nD) : FVec F S1024x2048 .f32 := k0_pay10 (ctIn m c (pz 3 c)) (kc2 m c) (ukIn m c (pz 3 c))
def kc4 (c : Dev nD) : FVec F S1024x2048 .f32 := k0_pay15 (k0_pay13 (kc3 m c)) (k0_pay14 (ctIn m c (pz 2 c)) (ukIn m c (pz 2 c)))
/-- the values likewise. -/
def vc1 (c : Dev nD) : FVec F S1024x2048 .f32 := k0_pay5 (ctV m c) (wuvB m c)
def vc2 (c : Dev nD) : FVec F S1024x2048 .f32 := k0_pay8 (k0_pay6 (ctIn m c (pz 1 c))) (vc1 m c) (uvIn m c (pz 1 c))
def vc3 (c : Dev nD) : FVec F S1024x2048 .f32 := k0_pay11 (ctIn m c (pz 3 c)) (vc2 m c) (uvIn m c (pz 3 c))
def vc4 (c : Dev nD) : FVec F S1024x2048 .f32 := k0_pay16 (k0_pay12 (ctIn m c (pz 2 c))) (vc3 m c) (uvIn m c (pz 2 c))

/-! ## Reads -/

/-- An element of a landing place, by its part. -/
theorem rcv_c (c : Dev nD) (w : Fin 4) (a : Fin 128) (b : Fin 5120) (j : Fin 1024) (h : b.val = j.val) :
    rcv m c (ix3 (n0 := 4) (n1 := 128) (n2 := 5120) w a b) = ctV m (at_ w c) (ix2 (n0 := 128) (n1 := 1024) a j) := by
  have hj := j.isLt
  have hb : b.val < 1024 := by omega
  have e : j = ⟨b.val, hb⟩ := Fin.ext h.symm
  rw [e]
  exact dif_pos hb
theorem rcv_k (c : Dev nD) (w : Fin 4) (a : Fin 128) (b : Fin 5120) (j : Fin 2048) (h : b.val = 1024 + j.val) :
    rcv m c (ix3 (n0 := 4) (n1 := 128) (n2 := 5120) w a b) = wukB m (at_ w c) (ix2 (n0 := 128) (n1 := 2048) a j) := by
  have hj := j.isLt
  have hb : b.val - 1024 < 2048 := by omega
  have e : j = ⟨b.val - 1024, hb⟩ := Fin.ext (by show j.val = b.val - 1024; omega)
  rw [e]
  exact (dif_neg (by show ¬ b.val < 1024; omega)).trans (dif_pos (by show b.val < 3072; omega))
theorem rcv_v (c : Dev nD) (w : Fin 4) (a : Fin 128) (b : Fin 5120) (j : Fin 2048) (h : b.val = 3072 + j.val) :
    rcv m c (ix3 (n0 := 4) (n1 := 128) (n2 := 5120) w a b) = wuvB m (at_ w c) (ix2 (n0 := 128) (n1 := 2048) a j) := by
  have hj := j.isLt
  have hb : b.val - 3072 < 2048 := by omega
  have e : j = ⟨b.val - 3072, hb⟩ := Fin.ext (by show j.val = b.val - 3072; omega)
  rw [e]
  exact (dif_neg (by show ¬ b.val < 1024; omega)).trans (dif_neg (by show ¬ b.val < 3072; omega))

theorem window_c (c : Dev nD) (w : Fin 4) (h) :
    VecWindow.window (s := S4x128x5120) (rcv m c) ![w.val, 0, 0] S1x128x1024.size h = ctIn m c w := by
  funext i
  obtain ⟨u, a, b, rfl⟩ : ∃ (u : Fin 1) (a : Fin 128) (b : Fin 1024), i = ix3 u a b := ⟨_, _, _, eq_ix3 (n0 := 1) (n1 := 128) (n2 := 1024) i⟩
  have e : (Rect.unit (s := S4x128x5120) ![w.val, 0, 0] S1x128x1024.size h).emb (ix3 u a b) = ix3 w a (⟨b.val, by omega⟩ : Fin 5120) := by
    funext d; apply Fin.ext
    match d with
    | ⟨0, _⟩ => show w.val + 1 * u.val = w.val; omega
    | ⟨1, _⟩ => show 0 + 1 * a.val = a.val; omega
    | ⟨2, _⟩ => show 0 + 1 * b.val = b.val; omega
  show rcv m c _ = _
  rw [e]
  exact rcv_c m c w a _ b rfl

/-- The copy of `c`'s part onto its place at the peer `w` leaves there what that peer expects. -/
theorem land_c (c : Dev nD) (w : Fin 4) (fd : S4x128x5120.Idx → Elt F .f32) (i : S4x128x5120.Idx) (hi : i ∈ partI 0 (zc c)) :
    (slotC (zc c)).view.write (Elt F) fd (ctV m c) Finset.univ i = rcv m (at_ w c) i := by
  rw [← slotC_set, View.set, Finset.mem_map] at hi
  obtain ⟨x, -, rfl⟩ := hi
  obtain ⟨a, b, rfl⟩ : ∃ (a : Fin 128) (b : Fin 1024), x = ix2 a b := ⟨_, _, eq_ix2 x⟩
  have hw := View.write_emb_of_mem (Val := Elt F) (v := (slotC (zc c)).view) (f := fd) (w := ctV m c) (M := Finset.univ) (Finset.mem_univ (ix2 a b))
  refine hw.trans (show ctV m c (ix2 a b) = _ from ?_)
  rw [slotC_emb]
  exact ((rcv_c m (at_ w c) (zc c) a _ b rfl).trans (by rw [at_back])).symm

theorem window_k (c : Dev nD) (w : Fin 4) (h) :
    VecWindow.window (s := S4x128x5120) (rcv m c) ![w.val, 0, 1024] S1x128x2048.size h = ukIn m c w := by
  funext i
  obtain ⟨u, a, b, rfl⟩ : ∃ (u : Fin 1) (a : Fin 128) (b : Fin 2048), i = ix3 u a b := ⟨_, _, _, eq_ix3 (n0 := 1) (n1 := 128) (n2 := 2048) i⟩
  have e : (Rect.unit (s := S4x128x5120) ![w.val, 0, 1024] S1x128x2048.size h).emb (ix3 u a b) = ix3 w a (⟨1024 + b.val, by omega⟩ : Fin 5120) := by
    funext d; apply Fin.ext
    match d with
    | ⟨0, _⟩ => show w.val + 1 * u.val = w.val; omega
    | ⟨1, _⟩ => show 0 + 1 * a.val = a.val; omega
    | ⟨2, _⟩ => show 1024 + 1 * b.val = 1024 + b.val; omega
  show rcv m c _ = _
  rw [e]
  exact rcv_k m c w a _ b rfl

/-- The copy of `c`'s part onto its place at the peer `w` leaves there what that peer expects. -/
theorem land_k (c : Dev nD) (w : Fin 4) (fd : S4x128x5120.Idx → Elt F .f32) (i : S4x128x5120.Idx) (hi : i ∈ partI 1 (zc c)) :
    (slotK (zc c)).view.write (Elt F) fd (wukB m c) Finset.univ i = rcv m (at_ w c) i := by
  rw [← slotK_set, View.set, Finset.mem_map] at hi
  obtain ⟨x, -, rfl⟩ := hi
  obtain ⟨a, b, rfl⟩ : ∃ (a : Fin 128) (b : Fin 2048), x = ix2 a b := ⟨_, _, eq_ix2 x⟩
  have hw := View.write_emb_of_mem (Val := Elt F) (v := (slotK (zc c)).view) (f := fd) (w := wukB m c) (M := Finset.univ) (Finset.mem_univ (ix2 a b))
  refine hw.trans (show wukB m c (ix2 a b) = _ from ?_)
  rw [slotK_emb]
  exact ((rcv_k m (at_ w c) (zc c) a _ b rfl).trans (by rw [at_back])).symm

theorem window_v (c : Dev nD) (w : Fin 4) (h) :
    VecWindow.window (s := S4x128x5120) (rcv m c) ![w.val, 0, 3072] S1x128x2048.size h = uvIn m c w := by
  funext i
  obtain ⟨u, a, b, rfl⟩ : ∃ (u : Fin 1) (a : Fin 128) (b : Fin 2048), i = ix3 u a b := ⟨_, _, _, eq_ix3 (n0 := 1) (n1 := 128) (n2 := 2048) i⟩
  have e : (Rect.unit (s := S4x128x5120) ![w.val, 0, 3072] S1x128x2048.size h).emb (ix3 u a b) = ix3 w a (⟨3072 + b.val, by omega⟩ : Fin 5120) := by
    funext d; apply Fin.ext
    match d with
    | ⟨0, _⟩ => show w.val + 1 * u.val = w.val; omega
    | ⟨1, _⟩ => show 0 + 1 * a.val = a.val; omega
    | ⟨2, _⟩ => show 3072 + 1 * b.val = 3072 + b.val; omega
  show rcv m c _ = _
  rw [e]
  exact rcv_v m c w a _ b rfl

/-- The copy of `c`'s part onto its place at the peer `w` leaves there what that peer expects. -/
theorem land_v (c : Dev nD) (w : Fin 4) (fd : S4x128x5120.Idx → Elt F .f32) (i : S4x128x5120.Idx) (hi : i ∈ partI 2 (zc c)) :
    (slotV (zc c)).view.write (Elt F) fd (wuvB m c) Finset.univ i = rcv m (at_ w c) i := by
  rw [← slotV_set, View.set, Finset.mem_map] at hi
  obtain ⟨x, -, rfl⟩ := hi
  obtain ⟨a, b, rfl⟩ : ∃ (a : Fin 128) (b : Fin 2048), x = ix2 a b := ⟨_, _, eq_ix2 x⟩
  have hw := View.write_emb_of_mem (Val := Elt F) (v := (slotV (zc c)).view) (f := fd) (w := wuvB m c) (M := Finset.univ) (Finset.mem_univ (ix2 a b))
  refine hw.trans (show wuvB m c (ix2 a b) = _ from ?_)
  rw [slotV_emb]
  exact ((rcv_v m (at_ w c) (zc c) a _ b rfl).trans (by rw [at_back])).symm

end Cert.KernelIdeal.Run

end
-- ==== Proof.RunKernelIdeal.Schedule.lean ====
/-
# The protocol of the first call

Every device has 25 semaphores in it: the barrier, and for each peer coordinate `w` and each of the three things
copied (`j = 0` the latents, `j = 1` and `j = 2` the rows of the two up-projections) one that says the copy has left and one
that says a copy has landed. Each is used for one round. The transfer semaphores belong to the first call alone: a device
opens its own when it enters the call and closes them when it leaves, so that one is open must itself be told.

* Barrier of `c`: each of the three peers raises it by one. With its unit the peer `w` hands over the three parts of its
  landing place `zc c`, and says that its own three landing semaphores for `c` are open. `c` waits for three.
* Landed `(j, w, c)`: the peer `w`'s copy raises it by the copy's bytes and hands over part `j` of landing place `w` of `c`
  with the peer's data in it. `c` waits for that amount.
* Sent `(j, w, c)`: `c`'s own copy to `w` raises it, and gives back the share of the source that the copy read. `c` waits for
  it at the end.

Each source is lent in four shares, one per coordinate, so that the device can read it while its copies run.
-/
module

public import proofs.«01_k».proof.Proof.RunKernelIdeal.Contents
public import Idealize.ShloMosaic.Lib.ShareLeaves

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev xCell (a : Fin 2) (j : Fin 3) (w : Fin 4) (c : Dev nD) : GSem nD τ sig := ((c : Thread nD τ), .dma (xs a j w))

/-- The bytes of one copy, as its semaphores count them. -/
def N (j : Fin 3) : ℕ := match j with | 0 => ctM.view.dmaCredit | 1 => ukM.view.dmaCredit | 2 => uvM.view.dmaCredit
theorem N_pos (j : Fin 3) : 0 < N j := match j with
  | 0 => View.dmaCredit_pos _ (by decide) | 1 => View.dmaCredit_pos _ (by decide) | 2 => View.dmaCredit_pos _ (by decide)

/-! ## What is handed over -/

/-- Part `j` of landing place `w`. -/
def rPts (c : Dev nD) (j : Fin 3) (w : Fin 4) (f : Buf (Elt F) ((c : Thread nD τ).loc cc0_scratch1)) : sProp 𝕄 :=
  ((c : Thread nD τ).loc cc0_scratch1) ↦[partI j w]{fullShare} f
/-- The share of a source lent to the copy for `w`. -/
def ctPts (c : Dev nD) (w : Fin 4) (f : Buf (Elt F) ((c : Thread nD τ).loc cc0_scratch0)) : sProp 𝕄 :=
  ((c : Thread nD τ).loc cc0_scratch0) ↦{ShareLeaves.leaf 2 fullShare w} f
def ukPts (c : Dev nD) (w : Fin 4) (f : Buf (Elt F) ((c : Thread nD τ).loc cc0_stg2_0)) : sProp 𝕄 :=
  ((c : Thread nD τ).loc cc0_stg2_0) ↦{ShareLeaves.leaf 2 fullShare w} f
def uvPts (c : Dev nD) (w : Fin 4) (f : Buf (Elt F) ((c : Thread nD τ).loc cc0_stg3_0)) : sProp 𝕄 :=
  ((c : Thread nD τ).loc cc0_stg3_0) ↦{ShareLeaves.leaf 2 fullShare w} f
def sPts (c : Dev nD) (j : Fin 3) (w : Fin 4) : sProp 𝕄 := match j with
  | 0 => ctPts c w (ctV m c)
  | 1 => ukPts c w (wukB m c)
  | 2 => uvPts c w (wuvB m c)
/-- The three landing semaphores of `c` for the peer `w` are open. -/
def isOpen (c : Dev nD) (w : Fin 4) : sProp 𝕄 :=
  iprop(reached ER (xCell 1 0 w c) 0 ∗ reached ER (xCell 1 1 w c) 0 ∗ reached ER (xCell 1 2 w c) 0)
instance isOpen_persistent (c : Dev nD) (w : Fin 4) : BI.Persistent (isOpen (F := F) c w) := by unfold isOpen; infer_instance

instance rPts_storable (c : Dev nD) (j w f) : BI.Storable (upEmb : UEmb _ 𝕄) (rPts (F := F) c j w f) := by unfold rPts; infer_instance
instance sPts_storable (c : Dev nD) (j w) : BI.Storable (upEmb : UEmb _ 𝕄) (sPts m c j w) := by
  unfold sPts ctPts ukPts uvPts; split <;> infer_instance
instance isOpen_storable (c : Dev nD) (w) : BI.Storable (upEmb : UEmb _ 𝕄) (isOpen (F := F) c w) := by unfold isOpen; infer_instance

/-- What the peer `w` hands `c` at the barrier. -/
def barPay (c : Dev nD) (w : Fin 4) : sProp 𝕄 :=
  iprop((∃ f, rPts (F := F) (at_ w c) 0 (zc c) f) ∗ (∃ f, rPts (F := F) (at_ w c) 1 (zc c) f) ∗ (∃ f, rPts (F := F) (at_ w c) 2 (zc c) f) ∗ isOpen (F := F) (at_ w c) (zc c))
/-- What a transfer semaphore hands over. -/
def xPay (a : Fin 2) (j : Fin 3) (w : Fin 4) (c : Dev nD) : sProp 𝕄 := match a with
  | 0 => sPts m c j w
  | 1 => rPts c j w (rcv m c)

instance barPay_storable (c : Dev nD) (w) : BI.Storable (upEmb : UEmb _ 𝕄) (barPay (F := F) c w) := by unfold barPay; infer_instance
instance xPay_storable (a : Fin 2) (j : Fin 3) (w : Fin 4) (c : Dev nD) : BI.Storable (upEmb : UEmb _ 𝕄) (xPay m a j w c) := by
  unfold xPay; split <;> infer_instance

/-! ## The schedule -/

/-- The kind, the thing copied and the peer of a transfer semaphore, from its number. -/
def isX (s : DmaSem sig) : Prop := 6 ≤ s.val ∧ s.val < 30
instance (s : DmaSem sig) : Decidable (isX s) := by unfold isX; infer_instance
def xa (s : DmaSem sig) : Fin 2 := ⟨(s.val - 6) / 12 % 2, Nat.mod_lt _ (by decide)⟩
def xj (s : DmaSem sig) : Fin 3 := ⟨s.val % 3, Nat.mod_lt _ (by decide)⟩
def xw (s : DmaSem sig) : Fin 4 := ⟨(s.val - 6) % 12 / 3, by omega⟩
theorem xa_xs (a : Fin 2) (j : Fin 3) (w : Fin 4) : xa (xs a j w) = a := by revert a j w; decide
theorem xj_xs (a : Fin 2) (j : Fin 3) (w : Fin 4) : xj (xs a j w) = j := by revert a j w; decide
theorem xw_xs (a : Fin 2) (j : Fin 3) (w : Fin 4) : xw (xs a j w) = w := by revert a j w; decide
theorem isX_xs (a : Fin 2) (j : Fin 3) (w : Fin 4) : isX (xs a j w) := by revert a j w; decide

def dutiesAt (g : GSem nD τ sig) : Finset (Fin 4) := match g.2 with
  | .reg s => Finset.univ.erase (zc g.1.1)
  | .dma s => if isX s ∧ xw s ≠ zc g.1.1 then {0} else ∅

def rd : Rounds.Schedule (GSem nD τ sig) (Fin 4) 𝕄 where
  duties g r := if r = 0 ∧ g.1.2 = .tc then dutiesAt g else ∅
  unitless _ := False
  amount g _ _ := match g.2 with | .reg _ => 1 | .dma s => N (xj s)
  payload g _ d := match g.2 with
    | .reg _ => barPay g.1.1 d
    | .dma s => if isX s then xPay m (xa s) (xj s) (xw s) g.1.1 else iprop(emp)
  amount_pos g _ _ _ := by
    rcases g with ⟨_, _ | _⟩
    · exact Nat.one_pos
    · exact N_pos _

instance rd_payload_storable (g : GSem nD τ sig) (r : ℕ) (d : Fin 4) : BI.Storable (upEmb : UEmb _ 𝕄) ((rd m).payload g r d) := by
  show BI.Storable upEmb (match g.2 with
    | .reg _ => barPay g.1.1 d
    | .dma s => if isX s then xPay m (xa s) (xj s) (xw s) g.1.1 else iprop(emp))
  split
  · infer_instance
  · split <;> infer_instance

section Sched
variable (c : Dev nD)

theorem duties_bar : (rd m).duties (barCell c) 0 = Finset.univ.erase (zc c) := by dsimp only [rd]; exact if_pos ⟨rfl, rfl⟩
theorem duties_x (a : Fin 2) (j : Fin 3) (w : Fin 4) (h : w ≠ zc c) : (rd m).duties (xCell a j w c) 0 = {0} := by
  dsimp only [rd]; rw [if_pos ⟨rfl, rfl⟩]; dsimp only [dutiesAt]; rw [xw_xs]; exact if_pos ⟨isX_xs a j w, h⟩
theorem duties_self (a : Fin 2) (j : Fin 3) : (rd m).duties (xCell a j (zc c) c) 0 = ∅ := by
  dsimp only [rd]; rw [if_pos ⟨rfl, rfl⟩]; dsimp only [dutiesAt]; rw [xw_xs]; exact if_neg fun h => h.2 rfl
theorem duties_later (g : GSem nD τ sig) : ∀ r, 1 ≤ r → (rd m).duties g r = ∅ :=
  fun r hr => by dsimp only [rd]; exact if_neg fun h => by omega

theorem amount_bar (r : ℕ) (d : Fin 4) : (rd m).amount (barCell c) r d = 1 := rfl
theorem amount_x (a : Fin 2) (j : Fin 3) (w : Fin 4) (r : ℕ) (d : Fin 4) : (rd m).amount (xCell a j w c) r d = N j := by dsimp only [rd]; rw [xj_xs]

theorem expect_bar : (rd m).expect (barCell c) 0 = 3 := by
  unfold Schedule.expect Schedule.amountOf
  rw [duties_bar, Finset.sum_congr rfl fun d _ => amount_bar m c 0 d, Finset.sum_const, Finset.card_erase_of_mem (Finset.mem_univ _)]
  rfl
theorem expect_x (a : Fin 2) (j : Fin 3) (w : Fin 4) (h : w ≠ zc c) : (rd m).expect (xCell a j w c) 0 = N j := by
  unfold Schedule.expect Schedule.amountOf; rw [duties_x m c a j w h, Finset.sum_singleton, amount_x]

theorem payload_bar (r : ℕ) (d : Fin 4) : (rd m).payload (barCell c) r d = barPay c d := rfl
theorem payload_x (a : Fin 2) (j : Fin 3) (w : Fin 4) (r : ℕ) (d : Fin 4) : (rd m).payload (xCell a j w c) r d = xPay m a j w c := by
  dsimp only [rd]; rw [if_pos (isX_xs a j w), xa_xs, xj_xs, xw_xs]

theorem erase_eq (z : Fin 4) : (Finset.univ.erase z : Finset (Fin 4)) = {z + 1, z + 3, z + 2} := by revert z; decide

theorem rest_bar : bigSep ((rd m).duties (barCell c) 0 \ ∅) (fun d => (rd m).payload (barCell c) 0 d)
    = iprop(barPay c (pz 1 c) ∗ barPay c (pz 3 c) ∗ barPay c (pz 2 c)) := by
  rw [Finset.sdiff_empty, duties_bar, erase_eq]
  rw [bigSep_insert (by generalize zc c = z; revert z; decide), bigSep_insert (by generalize zc c = z; revert z; decide), bigSep_singleton]
  rfl
theorem rest_x (a : Fin 2) (j : Fin 3) (w : Fin 4) (h : w ≠ zc c) :
    bigSep ((rd m).duties (xCell a j w c) 0 \ ∅) (fun d => (rd m).payload (xCell a j w c) 0 d) = xPay m a j w c := by
  rw [Finset.sdiff_empty, duties_x m c a j w h, bigSep_singleton, payload_x]

end Sched

/-! ## What each device owes at launch; the levels -/

/-- The credits that device `c` owes, in the order in which it pays them, last first. -/
def tk (c : Dev nD) : ℕ → CellTallies nD τ sig Unit
  | 0 => tallyAt (xCell 1 2 (zc c) (pd 2 c)) () (N 2)
  | 1 => tallyAt (xCell 1 1 (zc c) (pd 2 c)) () (N 1)
  | 2 => tallyAt (xCell 1 0 (zc c) (pd 2 c)) () (N 0)
  | 3 => tallyAt (xCell 1 2 (zc c) (pd 3 c)) () (N 2)
  | 4 => tallyAt (xCell 1 1 (zc c) (pd 3 c)) () (N 1)
  | 5 => tallyAt (xCell 1 0 (zc c) (pd 3 c)) () (N 0)
  | 6 => tallyAt (xCell 1 2 (zc c) (pd 1 c)) () (N 2)
  | 7 => tallyAt (xCell 1 1 (zc c) (pd 1 c)) () (N 1)
  | 8 => tallyAt (xCell 1 0 (zc c) (pd 1 c)) () (N 0)
  | 9 => tallyAt (barCell (pd 2 c)) () 1
  | 10 => tallyAt (barCell (pd 3 c)) () 1
  | _ => tallyAt (barCell (pd 1 c)) () 1
/-- The last `k` of them together. -/
def ow (c : Dev nD) : ℕ → CellTallies nD τ sig Unit
  | 0 => 0
  | k + 1 => ow c k + tk c k
/-- All twelve. -/
def O₀ (c : Dev nD) : CellTallies nD τ sig Unit := ow c 12

def L (g : GSem nD τ sig) : Finset Unit := if g.1.2 = .tc then {()} else ∅
/-- The barrier comes before the landings. -/
def lv (g : GSem nD τ sig) (_ : Unit) : ℕ := match g.2 with
  | .reg _ => 1
  | .dma s => if isX s ∧ xa s = 1 then 2 else 0
theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_land (j : Fin 3) (w : Fin 4) (c : Dev nD) : lv (xCell 1 j w c) () = 2 := by
  dsimp only [lv]; exact if_pos ⟨isX_xs 1 j w, xa_xs 1 j w⟩
theorem lv_stage (c : Dev nD) (q : DmaSem sig) (hq : q.val < 6) : lv ((c : Thread nD τ), .dma q) () = 0 := by
  dsimp only [lv]; exact if_neg fun h => by have := h.1.1; omega

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- A credit owed is on a device's own core, at level 2 for a landing and level 1 for a barrier unit. -/
theorem tk_pos {c : Dev nD} (k : ℕ) {g : GSem nD τ sig} {u : Unit} (h : 0 < tk c k g u) : L g = {()} ∧ 0 < lv g () ∧ (k < 9 → lv g () = 2) := by
  match k with
  | 0 => obtain rfl := tally_pos h; exact ⟨L_tc _ _, by rw [lv_land _ _]; decide, fun _ => lv_land _ _ _⟩
  | 1 => obtain rfl := tally_pos h; exact ⟨L_tc _ _, by rw [lv_land _ _]; decide, fun _ => lv_land _ _ _⟩
  | 2 => obtain rfl := tally_pos h; exact ⟨L_tc _ _, by rw [lv_land _ _]; decide, fun _ => lv_land _ _ _⟩
  | 3 => obtain rfl := tally_pos h; exact ⟨L_tc _ _, by rw [lv_land _ _]; decide, fun _ => lv_land _ _ _⟩
  | 4 => obtain rfl := tally_pos h; exact ⟨L_tc _ _, by rw [lv_land _ _]; decide, fun _ => lv_land _ _ _⟩
  | 5 => obtain rfl := tally_pos h; exact ⟨L_tc _ _, by rw [lv_land _ _]; decide, fun _ => lv_land _ _ _⟩
  | 6 => obtain rfl := tally_pos h; exact ⟨L_tc _ _, by rw [lv_land _ _]; decide, fun _ => lv_land _ _ _⟩
  | 7 => obtain rfl := tally_pos h; exact ⟨L_tc _ _, by rw [lv_land _ _]; decide, fun _ => lv_land _ _ _⟩
  | 8 => obtain rfl := tally_pos h; exact ⟨L_tc _ _, by rw [lv_land _ _]; decide, fun _ => lv_land _ _ _⟩
  | 9 => obtain rfl := tally_pos h; exact ⟨L_tc _ _, Nat.one_pos, fun h => absurd h (by decide)⟩
  | 10 => obtain rfl := tally_pos h; exact ⟨L_tc _ _, Nat.one_pos, fun h => absurd h (by decide)⟩
  | k + 11 => obtain rfl := tally_pos h; exact ⟨L_tc _ _, Nat.one_pos, fun h => absurd h (by omega)⟩
theorem ow_pos {c : Dev nD} (k : ℕ) {g : GSem nD τ sig} {u : Unit} (h : 0 < ow c k g u) : L g = {()} ∧ 0 < lv g () ∧ (k ≤ 9 → lv g () = 2) := by
  induction k with
  | zero => exact absurd h (Nat.lt_irrefl 0)
  | succ k ih =>
    unfold ow at h
    rw [Pi.add_apply, Finsupp.add_apply] at h
    rcases Nat.eq_zero_or_pos (ow c k g u) with h0 | h0
    · obtain ⟨h1, h2, h3⟩ := tk_pos k (by omega : 0 < tk c k g u)
      exact ⟨h1, h2, fun hk => h3 (by omega)⟩
    · obtain ⟨h1, h2, h3⟩ := ih h0
      exact ⟨h1, h2, fun hk => h3 (by omega)⟩

/-- Waiting at the barrier, the copies still owed. -/
theorem mayWait_bar (c : Dev nD) : (levAts L lv : sProp 𝕄) ⊢ MayWait (c : Thread nD τ) (.reg barS) () (ow c 9) :=
  MayOwe.of_cut (L := L) (lev := lv) 1 (fun p hp => by rw [Finset.mem_singleton.mp hp, L_tc]; exact Finset.mem_singleton_self _)
    (fun g u hg => by rw [(ow_pos 9 hg).1]; exact Finset.mem_singleton_self _)
    (fun p hp => by rw [Finset.mem_singleton.mp hp]; exact le_of_eq (lv_bar c))
    (fun g u hg => by show 1 < lv g (); rw [(ow_pos 9 hg).2.2 (by decide)]; decide)

end Cert.KernelIdeal.Run

end
-- ==== Proof.RunKernelIdeal.Rules.lean ====
/-
# One step at a time

Loads and stores of a buffer held whole, as plain windows of its contents and puts into them; the three signals, the
nine copies and the waits, over the protocol.
-/
module

public import proofs.«01_k».proof.Proof.RunKernelIdeal.Schedule

@[expose] public section

noncomputable section

namespace Cert.KernelIdeal.Run

open Cert.KernelIdeal Cert.KernelIdeal.Gen
open Idealize.ShloMosaic Idealize.ShloMosaic.TcCoe
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Device `c` running `p` safely, ending in `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Buffer `b` of device `c` held whole, at contents `f`. -/
abbrev pt (c : Dev nD) (b : Ref sig .tc) (f : Buf (Elt F) ((c : Thread nD τ).loc b)) : sProp 𝕄 := ((c : Thread nD τ).loc b) ↦{fullShare} f

section Plain
variable (c : Dev nD) {cs : CoreSpace} {s : Shape} {e : EltTy} (mr : Memref sig .tc (.core cs) s e) {α : Type}

/-- A load of a window of a buffer held at the elements `I`, reading `x`; -/
theorem ldi {Q : α → sProp 𝕄} {I : Finset (Idx (mr.view.loc (c : Thread nD τ)))} (q : PosShare TreeShare) (f : Buf (Elt F) (mr.view.loc (c : Thread nD τ)))
    {g : s.Idx → Elt F e} (hg : mr.view.read (Elt F) f = g)
    {off off' size : Fin s.rank → ℕ} {inb : ∀ a, off a + size a ≤ s.size a}
    (ho : off = off') (inb' : ∀ a, off' a + size a ≤ s.size a) {x : (Rect.unit off' size inb').shape.Idx → Elt F e}
    (hx : VecWindow.window (s := s) g off' size inb' = x) (hS : mr.view.setOn (Rect.unit off' size inb').toLoadRect.set ⊆ I) {hl}
    {k : ((Rect.unit off size inb).shape.Idx → Elt F e) → Prog (TpuEff nD τ sig (Elt F) Λ₀ .tc) α} :
    iprop((mr.view.loc (c : Thread nD τ)) ↦[I]{q} f) ⊢ iprop((((mr.view.loc (c : Thread nD τ)) ↦[I]{q} f) -∗ wpc c (k x) Q)
      -∗ wpc c (.op (.load mr (Rect.unit off size inb).toLoadRect hl) k) Q) := by
  subst hg; subst hx; subst ho
  rw [← View.readAt_unit (Val := Elt F) mr.view f inb rfl inb']
  exact wp_load 𝒱₀ (c : Thread nD τ) none Set.univ hS

/-- of a whole buffer; -/
theorem ld {Q : α → sProp 𝕄} (q : PosShare TreeShare) (f : Buf (Elt F) (mr.view.loc (c : Thread nD τ))) {g : s.Idx → Elt F e} (hg : mr.view.read (Elt F) f = g)
    {off off' size : Fin s.rank → ℕ} {inb : ∀ a, off a + size a ≤ s.size a}
    (ho : off = off') (inb' : ∀ a, off' a + size a ≤ s.size a) {x : (Rect.unit off' size inb').shape.Idx → Elt F e}
    (hx : VecWindow.window (s := s) g off' size inb' = x) {hl}
    {k : ((Rect.unit off size inb).shape.Idx → Elt F e) → Prog (TpuEff nD τ sig (Elt F) Λ₀ .tc) α} :
    iprop((mr.view.loc (c : Thread nD τ)) ↦{q} f) ⊢ iprop((((mr.view.loc (c : Thread nD τ)) ↦{q} f) -∗ wpc c (k x) Q)
      -∗ wpc c (.op (.load mr (Rect.unit off size inb).toLoadRect hl) k) Q) :=
  ldi c mr q f hg ho inb' hx (Finset.subset_univ _)

/-- of the whole buffer. -/
theorem ldw {Q : α → sProp 𝕄} (q : PosShare TreeShare) (f : Buf (Elt F) (mr.view.loc (c : Thread nD τ))) {g : s.Idx → Elt F e} (hg : mr.view.read (Elt F) f = g)
    {off : Fin s.rank → ℕ} {inb : ∀ a, off a + s.size a ≤ s.size a} {hl}
    {k : (s.Idx → Elt F e) → Prog (TpuEff nD τ sig (Elt F) Λ₀ .tc) α} :
    iprop((mr.view.loc (c : Thread nD τ)) ↦{q} f) ⊢ iprop((((mr.view.loc (c : Thread nD τ)) ↦{q} f) -∗ wpc c (k g) Q)
      -∗ wpc c (.op (.load mr (Rect.unit off s.size inb).toLoadRect hl) k) Q) := by
  subst hg
  rw [← View.readAt_full (Val := Elt F) mr.view f inb]
  exact wp_load 𝒱₀ (c : Thread nD τ) none Set.univ (Finset.subset_univ _)

/-- A load whose value is not used. -/
theorem ldd {Q : α → sProp 𝕄} (f : Buf (Elt F) (mr.view.loc (c : Thread nD τ)))
    {off size : Fin s.rank → ℕ} {inb : ∀ a, off a + size a ≤ s.size a} {hl}
    {k : ((Rect.unit off size inb).shape.Idx → Elt F e) → Prog (TpuEff nD τ sig (Elt F) Λ₀ .tc) α} :
    iprop((mr.view.loc (c : Thread nD τ)) ↦{fullShare} f) ⊢ iprop((((mr.view.loc (c : Thread nD τ)) ↦{fullShare} f)
        -∗ wpc c (k (VecWindow.window (s := s) (mr.view.read (Elt F) f) off size inb)) Q)
      -∗ wpc c (.op (.load mr (Rect.unit off size inb).toLoadRect hl) k) Q) :=
  ld c mr fullShare f rfl rfl inb rfl

/-- A store, leaving `g`. -/
theorem sto_acc {Q : α → sProp 𝕄} {off size : Fin s.rank → ℕ} {inb : ∀ a, off a + size a ≤ s.size a}
    (f : Buf (Elt F) ((mr.access (Rect.unit off size inb)).loc (c : Thread nD τ)))
    {w : (Rect.unit off size inb).shape.Idx → Elt F e} {hx : (mr.access (Rect.unit off size inb)).Stores Finset.univ}
    {hm : (Finset.univ : Finset (Rect.unit off size inb).shape.Idx) = Finset.univ ∨ ∀ a, (Rect.unit off size inb).stride a = 1}
    {g : Buf (Elt F) ((mr.access (Rect.unit off size inb)).loc (c : Thread nD τ))}
    (hg : (mr.access (Rect.unit off size inb)).write (Elt F) f w Finset.univ = g)
    {k : PUnit → Prog (TpuEff nD τ sig (Elt F) Λ₀ .tc) α} :
    iprop(((mr.access (Rect.unit off size inb)).loc (c : Thread nD τ)) ↦{fullShare} f)
      ⊢ iprop(((((mr.access (Rect.unit off size inb)).loc (c : Thread nD τ)) ↦{fullShare} g) -∗ wpc c (k ⟨⟩) Q)
      -∗ wpc c (.op (.store mr (Rect.unit off size inb) w Finset.univ hx hm) k) Q) := by
  subst hg
  exact wp_store 𝒱₀ (c : Thread nD τ) none Set.univ (Finset.subset_univ _)

/-- A store, the buffer named as the loads name it. -/
theorem sto {Q : α → sProp 𝕄} {off size : Fin s.rank → ℕ} {inb : ∀ a, off a + size a ≤ s.size a}
    (f : Buf (Elt F) (mr.view.loc (c : Thread nD τ)))
    {w : (Rect.unit off size inb).shape.Idx → Elt F e} {hx : (mr.access (Rect.unit off size inb)).Stores Finset.univ}
    {hm : (Finset.univ : Finset (Rect.unit off size inb).shape.Idx) = Finset.univ ∨ ∀ a, (Rect.unit off size inb).stride a = 1}
    {g : Buf (Elt F) (mr.view.loc (c : Thread nD τ))}
    (hg : (mr.access (Rect.unit off size inb)).write (Elt F) f w Finset.univ = g)
    {k : PUnit → Prog (TpuEff nD τ sig (Elt F) Λ₀ .tc) α} :
    iprop((mr.view.loc (c : Thread nD τ)) ↦{fullShare} f)
      ⊢ iprop((((mr.view.loc (c : Thread nD τ)) ↦{fullShare} g) -∗ wpc c (k ⟨⟩) Q)
      -∗ wpc c (.op (.store mr (Rect.unit off size inb) w Finset.univ hx hm) k) Q) :=
  sto_acc c mr (Q := Q) (off := off) (size := size) (inb := inb) f (w := w) (hx := hx) (hm := hm) (g := g) hg (k := k)

/-- The end. -/
theorem done {Q : α → sProp 𝕄} (a : α) : Q a ⊢ wpc c (.ret a) Q := by
  show Q a ⊢ wp frame (wpE (defs₀ (F := F)) 𝒱₀ (c : Thread nD τ) none) Set.univ (.ret a) Q
  rw [wp_ret]
  iintro H; imodintro; iexact H

end Plain

/-- What a store into a window of a whole buffer leaves: its contents with the window put. -/
theorem put_eq (b : Ref sig .tc) (off size : Fin b.ty.shape.rank → ℕ) (inb : ∀ a, off a + size a ≤ b.ty.shape.size a)
    (f : b.ty.Contents (Elt F)) (w : (Rect.unit off size inb).shape.Idx → Elt F b.ty.elt) :
    ((Memref.whole b).access (Rect.unit off size inb)).write (Elt F) f w Finset.univ = VecWindow.put (s := b.ty.shape) f off size w := by
  refine (View.write_whole_slice_unit (Val := Elt F) b off size inb f w).trans ?_
  exact (VecWindow.put_eq_updateSlice (s := b.ty.shape) f off size inb w).symm
/-- What a store over the whole buffer leaves: what is stored. -/
theorem put_all (b : Ref sig .tc) {off : Fin b.ty.shape.rank → ℕ} (inb : ∀ a, off a + b.ty.shape.size a ≤ b.ty.shape.size a)
    (f : b.ty.Contents (Elt F)) (w : (Rect.unit off b.ty.shape.size inb).shape.Idx → Elt F b.ty.elt) :
    ((Memref.whole b).access (Rect.unit off b.ty.shape.size inb)).write (Elt F) f w Finset.univ = w := by
  obtain rfl : off = fun _ => 0 := funext fun a => by have := inb a; omega
  exact Memref.write_access_unit_zero_univ (Elt F) b rfl inb f w

/-- A window inside part `j` of landing place `w` lies on its elements. -/
theorem part_rect (j : Fin 3) (w : Fin 4) {off size : Fin S4x128x5120.rank → ℕ} {inb : ∀ a, off a + size a ≤ S4x128x5120.size a} (h0 : off 0 = w.val) (h1 : size 0 = 1)
    (h2 : lo j ≤ off 2) (h3 : off 2 + size 2 ≤ hi j) :
    rM.view.setOn (Rect.unit (s := S4x128x5120) off size inb).toLoadRect.set ⊆ partI j w := by
  intro i hi'
  obtain ⟨y, hy, rfl⟩ := Finset.mem_map.mp hi'
  have ha := Rect.mem_set_unit.mp hy 0
  have hb := Rect.mem_set_unit.mp hy 2
  refine Finset.mem_filter.mpr ⟨Finset.mem_univ _, ?_, ?_, ?_⟩
  · show (y 0).val = w.val; omega
  · show lo j ≤ (y 2).val; omega
  · show (y 2).val < hi j; omega

/-! ## The protocol's records -/

variable (m : (ℓ : Loc nD τ sig) → Buf (Elt F) ℓ)

/-- A device's transfer semaphores: kind, thing copied, peer. -/
abbrev Xi : Type := Fin 2 × Fin 3 × Fin 4
/-- A device's semaphores of the protocol: the barrier and the transfer semaphores. -/
abbrev Ci : Type := Option Xi
def cl (p : Dev nD × Ci) : GSem nD τ sig := match p.2 with
  | none => barCell p.1
  | some q => xCell q.1 q.2.1 q.2.2 p.1

/-- Every cell is under its invariant, every barrier in its first round. -/
def base (K : Dev nD × Ci → ℕ) : sProp 𝕄 :=
  iprop((bigSep Finset.univ fun p : Dev nD × Ci => (cellInv ER (rd m) (K p) (cl p) : sProp 𝕄))
    ∗ bigSep Finset.univ fun d : Dev nD => (reached ER (barCell d) 0 : sProp 𝕄))
instance base_persistent (K : Dev nD × Ci → ℕ) : BI.Persistent (base m K) := by unfold base; infer_instance
/-- `c`'s own transfer semaphores are open. -/
def opened (c : Dev nD) : sProp 𝕄 := bigSep Finset.univ fun q : Xi => (reached ER (xCell q.1 q.2.1 q.2.2 c) 0 : sProp 𝕄)
instance opened_persistent (c : Dev nD) : BI.Persistent (opened (F := F) c) := by unfold opened; infer_instance
def records (K : Dev nD × Ci → ℕ) (c : Dev nD) : sProp 𝕄 := iprop(base m K ∗ opened (F := F) c)
instance records_persistent (K : Dev nD × Ci → ℕ) (c : Dev nD) : BI.Persistent (records m K c) := by unfold records; infer_instance

theorem inv_base (K : Dev nD × Ci → ℕ) (p : Dev nD × Ci) : base m K ⊢ cellInv ER (rd m) (K p) (cl p) := by
  have h : (bigSep Finset.univ fun p : Dev nD × Ci => (cellInv ER (rd m) (K p) (cl p) : sProp 𝕄)) ⊢ cellInv ER (rd m) (K p) (cl p) :=
    bigSep_elim (Finset.mem_univ p)
  unfold base
  iintro ⟨#H, -⟩; iapply h; iexact H
theorem inv_at (K : Dev nD × Ci → ℕ) (c : Dev nD) (p : Dev nD × Ci) : records m K c ⊢ cellInv ER (rd m) (K p) (cl p) := by
  unfold records
  iintro ⟨#H, -⟩; iapply (inv_base m K p); iexact H
theorem bar_at (K : Dev nD × Ci → ℕ) (c d : Dev nD) : records m K c ⊢ reached ER (barCell d) 0 := by
  have h : (bigSep Finset.univ fun d : Dev nD => (reached ER (barCell d) 0 : sProp 𝕄)) ⊢ reached ER (barCell d) 0 := bigSep_elim (Finset.mem_univ d)
  unfold records base
  iintro ⟨⟨-, #H⟩, -⟩; iapply h; iexact H
theorem opened_at (c : Dev nD) (a : Fin 2) (j : Fin 3) (w : Fin 4) : opened (F := F) c ⊢ reached ER (xCell a j w c) 0 := by
  have h : (bigSep Finset.univ fun q : Xi => (reached ER (xCell q.1 q.2.1 q.2.2 c) 0 : sProp 𝕄)) ⊢ reached ER (xCell a j w c) 0 :=
    bigSep_elim (Finset.mem_univ (a, j, w))
  exact h
theorem open_at (K : Dev nD × Ci → ℕ) (c : Dev nD) (a : Fin 2) (j : Fin 3) (w : Fin 4) : records m K c ⊢ reached ER (xCell a j w c) 0 := by
  unfold records
  iintro ⟨-, #H⟩; iapply (opened_at c a j w); iexact H
theorem isOpen_at (K : Dev nD × Ci → ℕ) (c : Dev nD) (w : Fin 4) : records m K c ⊢ isOpen (F := F) c w := by
  unfold isOpen
  iintro #H
  isplitr; · iapply (open_at m K c 1 0 w); iexact H
  isplitr; · iapply (open_at m K c 1 1 w); iexact H
  iapply (open_at m K c 1 2 w); iexact H

/-- Owing `O`, whatever has been waited for. -/
def ows (c : Dev nD) (O : CellTallies nD τ sig Unit) : sProp 𝕄 := iprop(∃ W, owes (c : Thread nD τ) O W)

/-- This device's landing place for the peer at distance `r`. -/
def place (c : Dev nD) (r : Fin 4) : sProp 𝕄 :=
  iprop((∃ f, rPts (F := F) c 0 (pz r c) f) ∗ (∃ f, rPts (F := F) c 1 (pz r c) f) ∗ (∃ f, rPts (F := F) c 2 (pz r c) f))
/-- What a copy of `j` to the peer at distance `r` needs beside its source: the place there, that its semaphore there
    is open, and the right to raise the two semaphores. -/
def path (c : Dev nD) (j : Fin 3) (r : Fin 4) : sProp 𝕄 :=
  iprop((∃ f, rPts (F := F) (pd r c) j (zc c) f) ∗ reached ER (xCell 1 j (zc c) (pd r c)) 0
    ∗ dutyTok ER (xCell 0 j (pz r c) c) 0 0 ∗ dutyTok ER (xCell 1 j (zc c) (pd r c)) 0 0)
/-- The credit of a transfer semaphore, and its position before and after the wait for it. -/
def crd (c : Dev nD) (a : Fin 2) (j : Fin 3) (w : Fin 4) : sProp 𝕄 := cred (tallyAt (xCell a j w c) () (N j))
def pos (c : Dev nD) (n : ℕ) (a : Fin 2) (j : Fin 3) (w : Fin 4) : sProp 𝕄 := atPos ER (xCell a j w c) n ∅ 0

section Proto
variable (K : Dev nD × Ci → ℕ) (c : Dev nD) {α : Type}

/-- The unit of the barrier for the peer at distance `r`, with this device's landing place for it. -/
theorem sig_to {Q : α → sProp 𝕄} (r : Fin 4) (hr : zc c ≠ pz r c) {n : Dev nD} (hn : n = pd r c) {w : Int} (hw : w = ((1 : ℕ) : Int))
    {O O' : CellTallies nD τ sig Unit} (hO : O' = O + tallyAt (barCell (pd r c)) () 1)
    {k : PUnit → Prog (TpuEff nD τ sig (Elt F) Λ₀ .tc) α} :
    iprop(records m K c ∗ ows c O' ∗ dutyTok ER (barCell (pd r c)) 0 (zc c) ∗ place (F := F) c r)
      ⊢ iprop((ows c O -∗ wpc c (k ⟨⟩) Q) -∗ wpc c (.op (.semSignal (Dev.tc n : Thread nD τ) barS w) k) Q) := by
  subst hn; subst hw
  unfold ows place
  iintro ⟨#HR, ⟨%W, HO⟩, Ht, H0, H1, H2⟩ Hk
  iapply (Rounds.wp_signal 𝒱₀ ER (rd m) (c : Thread nD τ) none (dst := (pd r c : Thread nD τ)) (κ := K (pd r c, none)) (r := 0) (d := zc c)
      (by rw [duties_bar]; exact Finset.mem_erase.mpr ⟨by rw [zc_pd]; exact hr, Finset.mem_univ _⟩) (amount_bar m (pd r c) 0 (zc c)) () O hO) $$ [HO Ht H0 H1 H2]
  · isplitr; · iapply (inv_at m K c (pd r c, none)); iexact HR
    isplitl [HO]; · iexact HO
    isplitl [Ht]; · iexact Ht
    isplitl
    · rw [payload_bar]; unfold barPay
      rw [at_back, zc_pd]
      isplitl [H0]; · iexact H0
      isplitl [H1]; · iexact H1
      isplitl [H2]; · iexact H2
      iapply (isOpen_at m K c (pz r c)); iexact HR
    · iapply (bar_at m K c (pd r c)); iexact HR
  iintro HO
  iapply Hk; iexists W; iexact HO

/-- The wait at the barrier: the peers' landing places. -/
theorem wait_bar {Q : α → sProp 𝕄} {w : Int} (hw : w = ((3 : ℕ) : Int)) {O : CellTallies nD τ sig Unit} (hO : O = ow c 9)
    {k : PUnit → Prog (TpuEff nD τ sig (Elt F) Λ₀ .tc) α} :
    iprop(records m K c ∗ levAts L lv ∗ cred (tallyAt (barCell c) () 3) ∗ ows c O ∗ atPos ER (barCell c) 0 ∅ 0)
      ⊢ iprop(((ows c O ∗ atPos ER (barCell c) 1 ∅ 0 ∗ barPay (F := F) c (pz 1 c) ∗ barPay (F := F) c (pz 3 c) ∗ barPay (F := F) c (pz 2 c)) -∗ wpc c (k ⟨⟩) Q)
        -∗ wpc c (.op (.semWait barS w) k) Q) := by
  subst hw; subst hO
  unfold ows
  iintro ⟨#HR, #Hlev, Hc, ⟨%W, HO⟩, Hat⟩ Hk
  iapply (Rounds.wp_wait_rest_token 𝒱₀ ER (rd m) (c : Thread nD τ) none (κ := K (c, none))
      (wpE_semWait_eq 𝒱₀ (c : Thread nD τ) none Set.univ) (Set.mem_univ _) () (O := ow c 9) (W := W) (R := 0) (m := 0) (T := ∅)
      (by rw [Nat.zero_add]; exact (expect_bar m c).symm)) $$ [Hc HO Hat]
  · isplitr; · iapply (inv_at m K c (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The wait for a transfer semaphore: what it hands over. -/
theorem wait_x {Q : α → sProp 𝕄} (a : Fin 2) (j : Fin 3) (w : Fin 4) (hw : w ≠ zc c) {sm : DmaSem sig} (hs : sm = xs a j w)
    {S : Shape} {src dst : Memref sig .tc .vmem S .f32} (hN : dst.view.dmaCredit = N j) {h1 h2}
    {k : PUnit → Prog (TpuEff nD τ sig (Elt F) Λ₀ .tc) α} :
    iprop(records m K c ∗ crd (F := F) c a j w ∗ pos (F := F) c 0 a j w ∗ ows c 0)
      ⊢ iprop(((ows c 0 ∗ pos (F := F) c 1 a j w ∗ xPay m a j w c) -∗ wpc c (k ⟨⟩) Q)
        -∗ wpc c (.op (.waitDma2 sm src dst h1 h2) k) Q) := by
  subst hs
  unfold ows crd pos
  iintro ⟨#HR, Hc, Hat, ⟨%W, HO⟩⟩ Hk
  iapply (Rounds.wp_wait_rest_token 𝒱₀ ER (rd m) (c : Thread nD τ) none (κ := K (c, some (a, j, w)))
      (wpE_waitDma2_eq 𝒱₀ (c : Thread nD τ) none Set.univ) (Set.mem_univ _) () (O := 0) (W := W) (R := 0) (m := 0) (T := ∅)
      (by rw [Nat.zero_add, hN]; exact (expect_x m c a j w hw).symm)) $$ [Hc HO Hat]
  · isplitr; · iapply (inv_at m K c (c, some (a, j, w))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_x m c a j w hw)) $$ Hpay
  iapply Hk
  isplitl [HO]; · iexists _; iexact HO
  isplitl [Hat]; · iexact Hat
  iexact Hp

/-- A copy of `j` to the peer at distance `r`: what it reads is handed back here, what it leaves is handed over there. -/
theorem send {Q : α → sProp 𝕄} (j : Fin 3) (r : Fin 4) (hr : r ≠ 0) {S : Shape}
    {src dst : Memref sig .tc .vmem S .f32} (hN : dst.view.dmaCredit = N j) {q : PosShare TreeShare}
    {fs : Buf (Elt F) (src.view.loc (c : Thread nD τ))} {fd : Buf (Elt F) (dst.view.loc (pd r c : Thread nD τ))}
    {O O' : CellTallies nD τ sig Unit} (hO : O' = O + tallyAt (xCell 1 j (zc c) (pd r c)) () (N j))
    (hp1 : (src.view.loc (c : Thread nD τ) ↦[src.view.set]{q} fs) ⊢ xPay m 0 j (pz r c) c)
    (hp2 : (dst.view.loc (pd r c : Thread nD τ) ↦[dst.view.set]{fullShare} (dst.view.write (Elt F) fd (src.view.read (Elt F) fs) Finset.univ)) ⊢ xPay m 1 j (zc c) (pd r c))
    {hsc : (dst : Memref sig (Dev.tc (pd r c) : Thread nD τ).2.kind .vmem S .f32).view.ref.isScScratch = false}
    {hsrc : src.view.WordExact} {hdst : dst.view.WordExact}
    {hsem : DmaTarget.Typed .vmem (.dma (xs 1 j (zc c))) (.remote (Dev.tc (pd r c) : Thread nD τ) dst (.dma (xs 0 j (pz r c))) hsc)}
    {k : PUnit → Prog (TpuEff nD τ sig (Elt F) Λ₀ .tc) α} :
    iprop(records m K c ∗ (src.view.loc (c : Thread nD τ) ↦[src.view.set]{q} fs) ∗ (dst.view.loc (pd r c : Thread nD τ) ↦[dst.view.set]{fullShare} fd) ∗ ows c O'
        ∗ reached ER (xCell 1 j (zc c) (pd r c)) 0 ∗ dutyTok ER (xCell 0 j (pz r c) c) 0 0 ∗ dutyTok ER (xCell 1 j (zc c) (pd r c)) 0 0)
      ⊢ iprop(((crd (F := F) c 0 j (pz r c) ∗ ows c O) -∗ wpc c (k ⟨⟩) Q)
        -∗ wpc c (.op (.enqueueDma src (.remote (Dev.tc (pd r c) : Thread nD τ) dst (.dma (xs 0 j (pz r c))) hsc) (.dma (xs 1 j (zc c))) hsrc hdst hsem) k) Q) := by
  unfold ows crd
  iintro ⟨#HR, Hs, Hd, ⟨%W, HO⟩, #Hrd, Ht1, Ht2⟩ Hk
  iapply (Rounds.wp_send_pointsTo 𝒱₀ ER (rd m) (c : Thread nD τ) none (κ₁ := K (c, some (0, j, pz r c))) (κ₂ := K (pd r c, some (1, j, zc c)))
    (sS := .dma (xs 0 j (pz r c))) (sem := .dma (xs 1 j (zc c))) (r₁ := 0) (r₂ := 0) (d₁ := 0) (d₂ := 0) (fs := fs) (fd := fd) (q := q)
    (by rw [duties_x m c 0 j _ (pz_ne r hr c)]; exact Finset.mem_singleton_self _)
    (by rw [duties_x m (pd r c) 1 j _ (by rw [zc_pd]; exact (pz_ne r hr c).symm)]; exact Finset.mem_singleton_self _)
    () () (N j) hN (amount_x m c 0 j _ 0 0) (amount_x m (pd r c) 1 j _ 0 0) O hO (W := W)
    (by rw [payload_x]; exact hp1) (by rw [payload_x]; exact hp2)) $$ [Hs Hd HO Ht1 Ht2]
  · isplitr; · iapply (inv_at m K c (c, some (0, j, pz r c))); iexact HR
    isplitr; · iapply (inv_at m K c (pd r c, some (1, j, zc c))); iexact HR
    isplitl [Hs]; · iexact Hs
    isplitl [Hd]; · iexact Hd
    isplitl [HO]; · iexact HO
    isplitl [Ht1]; · iexact Ht1
    isplitr; · iapply (open_at m K c 0 j (pz r c)); iexact HR
    isplitl [Ht2]; · iexact Ht2
    iexact Hrd
  iintro ⟨Hc, HO⟩
  iapply Hk
  isplitl [Hc]; · iexact Hc
  iexists W; iexact HO

/-- The copy of the latents to the peer at distance `r`: the share lent to it. -/
theorem send_ct {Q : α → sProp 𝕄} (r : Fin 4) (hr : r ≠ 0) {n : Dev nD} (hn : n = pd r c)
    {dst : Memref sig .tc .vmem S128x1024 .f32} (hd : dst = slotC (zc c)) {s1 s2 : DmaSem sig} (h1 : s1 = xs 0 0 (pz r c)) (h2 : s2 = xs 1 0 (zc c))
    {O O' : CellTallies nD τ sig Unit} (hO : O' = O + tallyAt (xCell 1 0 (zc c) (pd r c)) () (N 0))
    {hsc : (dst : Memref sig (Dev.tc n : Thread nD τ).2.kind .vmem S128x1024 .f32).view.ref.isScScratch = false} {hsrc : ctM.view.WordExact}
    {hdst : (dst : Memref sig .tc .vmem S128x1024 .f32).view.WordExact}
    {hsem : DmaTarget.Typed .vmem (.dma s2) (.remote (Dev.tc n : Thread nD τ) (dst : Memref sig .tc .vmem S128x1024 .f32) (.dma s1) hsc)}
    {k : PUnit → Prog (TpuEff nD τ sig (Elt F) Λ₀ .tc) α} :
    iprop(records m K c ∗ ctPts c (pz r c) (ctV m c) ∗ path (F := F) c 0 r ∗ ows c O')
      ⊢ iprop(((crd (F := F) c 0 0 (pz r c) ∗ ows c O) -∗ wpc c (k ⟨⟩) Q)
        -∗ wpc c (.op (.enqueueDma ctM (.remote (Dev.tc n : Thread nD τ) dst (.dma s1) hsc) (.dma s2) hsrc hdst hsem) k) Q) := by
  subst hn; subst hd; subst h1; subst h2
  have e1 : ctM.view.set = Finset.univ := View.set_whole _
  have e2 := slotC_set (zc c)
  unfold path ctPts rPts
  iintro ⟨#HR, Hs, ⟨⟨%fd, Hd⟩, #Hrd, Ht1, Ht2⟩, HO⟩
  have h := send m K c (Q := Q) (k := k) 0 r hr (src := ctM) (dst := slotC (zc c)) rfl (q := ShareLeaves.leaf 2 fullShare (pz r c)) (fs := ctV m c) (fd := fd) hO
    (hsc := hsc) (hsrc := hsrc) (hdst := hdst) (hsem := hsem)
    (by rw [e1]; exact BI.Entails.refl _)
    (by rw [e2]; exact Entails.of_eq (pointsTo_congr fun i hi => land_c m c (pz r c) fd i hi))
  rw [e1, e2] at h
  iapply h
  isplitr; · iexact HR
  isplitl [Hs]; · iexact Hs
  isplitl [Hd]; · iexact Hd
  isplitl [HO]; · iexact HO
  isplitr; · iexact Hrd
  isplitl [Ht1]; · iexact Ht1
  iexact Ht2

/-- of the rows of the key projection to the peer at distance `r`: the share lent to it. -/
theorem send_uk {Q : α → sProp 𝕄} (r : Fin 4) (hr : r ≠ 0) {n : Dev nD} (hn : n = pd r c)
    {dst : Memref sig .tc .vmem S128x2048 .f32} (hd : dst = slotK (zc c)) {s1 s2 : DmaSem sig} (h1 : s1 = xs 0 1 (pz r c)) (h2 : s2 = xs 1 1 (zc c))
    {O O' : CellTallies nD τ sig Unit} (hO : O' = O + tallyAt (xCell 1 1 (zc c) (pd r c)) () (N 1))
    {hsc : (dst : Memref sig (Dev.tc n : Thread nD τ).2.kind .vmem S128x2048 .f32).view.ref.isScScratch = false} {hsrc : ukM.view.WordExact}
    {hdst : (dst : Memref sig .tc .vmem S128x2048 .f32).view.WordExact}
    {hsem : DmaTarget.Typed .vmem (.dma s2) (.remote (Dev.tc n : Thread nD τ) (dst : Memref sig .tc .vmem S128x2048 .f32) (.dma s1) hsc)}
    {k : PUnit → Prog (TpuEff nD τ sig (Elt F) Λ₀ .tc) α} :
    iprop(records m K c ∗ ukPts c (pz r c) (wukB m c) ∗ path (F := F) c 1 r ∗ ows c O')
      ⊢ iprop(((crd (F := F) c 0 1 (pz r c) ∗ ows c O) -∗ wpc c (k ⟨⟩) Q)
        -∗ wpc c (.op (.enqueueDma ukM (.remote (Dev.tc n : Thread nD τ) dst (.dma s1) hsc) (.dma s2) hsrc hdst hsem) k) Q) := by
  subst hn; subst hd; subst h1; subst h2
  have e1 : ukM.view.set = Finset.univ := View.set_whole _
  have e2 := slotK_set (zc c)
  unfold path ukPts rPts
  iintro ⟨#HR, Hs, ⟨⟨%fd, Hd⟩, #Hrd, Ht1, Ht2⟩, HO⟩
  have h := send m K c (Q := Q) (k := k) 1 r hr (src := ukM) (dst := slotK (zc c)) rfl (q := ShareLeaves.leaf 2 fullShare (pz r c)) (fs := wukB m c) (fd := fd) hO
    (hsc := hsc) (hsrc := hsrc) (hdst := hdst) (hsem := hsem)
    (by rw [e1]; exact BI.Entails.refl _)
    (by rw [e2]; exact Entails.of_eq (pointsTo_congr fun i hi => land_k m c (pz r c) fd i hi))
  rw [e1, e2] at h
  iapply h
  isplitr; · iexact HR
  isplitl [Hs]; · iexact Hs
  isplitl [Hd]; · iexact Hd
  isplitl [HO]; · iexact HO
  isplitr; · iexact Hrd
  isplitl [Ht1]; · iexact Ht1
  iexact Ht2

/-- of the rows of the value projection to the peer at distance `r`: the share lent to it. -/
theorem send_uv {Q : α → sProp 𝕄} (r : Fin 4) (hr : r ≠ 0) {n : Dev nD} (hn : n = pd r c)
    {dst : Memref sig .tc .vmem S128x2048 .f32} (hd : dst = slotV (zc c)) {s1 s2 : DmaSem sig} (h1 : s1 = xs 0 2 (pz r c)) (h2 : s2 = xs 1 2 (zc c))
    {O O' : CellTallies nD τ sig Unit} (hO : O' = O + tallyAt (xCell 1 2 (zc c) (pd r c)) () (N 2))
    {hsc : (dst : Memref sig (Dev.tc n : Thread nD τ).2.kind .vmem S128x2048 .f32).view.ref.isScScratch = false} {hsrc : uvM.view.WordExact}
    {hdst : (dst : Memref sig .tc .vmem S128x2048 .f32).view.WordExact}
    {hsem : DmaTarget.Typed .vmem (.dma s2) (.remote (Dev.tc n : Thread nD τ) (dst : Memref sig .tc .vmem S128x2048 .f32) (.dma s1) hsc)}
    {k : PUnit → Prog (TpuEff nD τ sig (Elt F) Λ₀ .tc) α} :
    iprop(records m K c ∗ uvPts c (pz r c) (wuvB m c) ∗ path (F := F) c 2 r ∗ ows c O')
      ⊢ iprop(((crd (F := F) c 0 2 (pz r c) ∗ ows c O) -∗ wpc c (k ⟨⟩) Q)
        -∗ wpc c (.op (.enqueueDma uvM (.remote (Dev.tc n : Thread nD τ) dst (.dma s1) hsc) (.dma s2) hsrc hdst hsem) k) Q) := by
  subst hn; subst hd; subst h1; subst h2
  have e1 : uvM.view.set = Finset.univ := View.set_whole _
  have e2 := slotV_set (zc c)
  unfold path uvPts rPts
  iintro ⟨#HR, Hs, ⟨⟨%fd, Hd⟩, #Hrd, Ht1, Ht2⟩, HO⟩
  have h := send m K c (Q := Q) (k := k) 2 r hr (src := uvM) (dst := slotV (zc c)) rfl (q := ShareLeaves.leaf 2 fullShare (pz r c)) (fs := wuvB m c) (fd := fd) hO
    (hsc := hsc) (hsrc := hsrc) (hdst := hdst) (hsem := hsem)
    (by rw [e1]; exact BI.Entails.refl _)
    (by rw [e2]; exact Entails.of_eq (pointsTo_congr fun i hi => land_v m c (pz r c) fd i hi))
  rw [e1, e2] at h
  iapply h
  isplitr; · iexact HR
  isplitl [Hs]; · iexact Hs
  isplitl [Hd]; · iexact Hd
  isplitl [HO]; · iexact HO
  isplitr; · iexact Hrd
  isplitl [Ht1]; · iexact Ht1
  iexact Ht2

end Proto

end Cert.KernelIdeal.Run

end
-- ==== Proof.RunKernelIdeal.Walk.lean ====
/-
# Walking through a body on staging buffers

Loads and stores of whole buffers, held through a memref at what they read, and of slices of one buffer; then the
bodies of the attention call and of the output call.
-/
module

public import proofs.«01_k».proof.Proof.RunKernelIdeal.Rules
public import Idealize.ShloMosaic.Lib.Writes

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-- A buffer of the device held through a memref, at what is read through it. -/
abbrev hold {s : Shape} {e : EltTy} {cs : CoreSpace} (mr : Memref sig .tc (.core cs) s e) (X : s.Idx → Elt F e) : sProp 𝕄 :=
  owns (Ix := Unit) (Name := ℕ) (U := UU) (Lvl := ℕ) (c : Thread nD τ) mr fullShare X

section
variable {cs : CoreSpace} {s : Shape} {e : EltTy} (mr : Memref sig .tc (.core cs) s e) {α : Type}

/-- A load of the whole. -/
theorem ldo {Q : α → sProp 𝕄} {g : s.Idx → Elt F e} {off : Fin s.rank → ℕ} {inb : ∀ a, off a + s.size a ≤ s.size a} {hl}
    {k : (s.Idx → Elt F e) → Prog (TpuEff nD τ sig (Elt F) Λ₀ .tc) α} :
    hold c mr g ⊢ iprop((hold c mr g -∗ wpc c (k g) Q)
      -∗ wpc c (.op (.load mr (Rect.unit off s.size inb).toLoadRect hl) k) Q) := by
  unfold hold owns
  iintro ⟨%f, %h, H⟩ HQ
  subst h
  rw [← View.readAt_full (Val := Elt F) mr.view f inb]
  iapply (wp_load 𝒱₀ (c : Thread nD τ) none Set.univ (m := mr) (hl := hl) (View.setOn_subset_set _ _)) $$ H
  iintro H
  iapply HQ
  iexists f
  isplitr; · (ipureintro; exact (View.readAt_full (Val := Elt F) mr.view f inb).symm)
  iexact H

/-- A store over the whole. -/
theorem sto_o {Q : α → sProp 𝕄} {g : s.Idx → Elt F e} {off : Fin s.rank → ℕ} {inb : ∀ a, off a + s.size a ≤ s.size a}
    {w : s.Idx → Elt F e} {hx : (mr.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    hold c mr g ⊢ iprop((hold c mr w -∗ wpc c (k ⟨⟩) Q)
      -∗ wpc c (.op (.store mr (Rect.unit off s.size inb) w Finset.univ hx hm) k) Q) := by
  unfold hold owns
  iintro ⟨%f, %h, H⟩ HQ
  iapply (wp_store_writes₀ 𝒱₀ (c : Thread nD τ) none Set.univ (m := mr) (r := Rect.unit off s.size inb) (w := w) (hx := hx) (hm := hm) (f := f) (View.set_slice_subset _ _)) $$ H
  iintro H
  iapply HQ
  iexists (mr.view.writes (Elt F) f [⟨Rect.unit off s.size inb, w⟩])
  isplitr
  · ipureintro
    funext y
    refine View.read_writes_cons_hit_of_coords mr.view f (Rect.unit off s.size inb) w [] y y fun a => ?_
    have := inb a
    show (y a).val = off a + 1 * (y a).val
    omega
  iexact H

/-- A load of a slice, whose value nothing reads. -/
theorem ldx {Q : α → sProp 𝕄} {f : Buf (Elt F) (mr.view.loc (c : Thread nD τ))} {r : LoadRect s} {hl}
    {k : (r.shape.Idx → Elt F e) → Prog (TpuEff nD τ sig (Elt F) Λ₀ .tc) α} :
    iprop((mr.view.loc (c : Thread nD τ)) ↦[mr.view.set]{fullShare} f)
      ⊢ iprop((((mr.view.loc (c : Thread nD τ)) ↦[mr.view.set]{fullShare} f) -∗ ∀ x, wpc c (k x) Q)
      -∗ wpc c (.op (.load mr r hl) k) Q) := by
  iintro H HQ
  iapply (wp_load 𝒱₀ (c : Thread nD τ) none Set.univ (m := mr) (hl := hl) (View.setOn_subset_set _ _)) $$ H
  iintro H
  iapply HQ $$ H

/-- A store of a slice, put on the list of those before. -/
theorem stx {Q : α → sProp 𝕄} {f : Buf (Elt F) (mr.view.loc (c : Thread nD τ))} {L : List (View.Piece (Elt F) s e)}
    {r : Rect s} {w : r.shape.Idx → Elt F e} {hx : (mr.access r).Stores Finset.univ}
    {hm : (Finset.univ : Finset r.shape.Idx) = Finset.univ ∨ ∀ a, r.stride a = 1}
    {k : PUnit → Prog (TpuEff nD τ sig (Elt F) Λ₀ .tc) α} :
    iprop((mr.view.loc (c : Thread nD τ)) ↦[mr.view.set]{fullShare} mr.view.writes (Elt F) f L)
      ⊢ iprop((((mr.view.loc (c : Thread nD τ)) ↦[mr.view.set]{fullShare} mr.view.writes (Elt F) f (⟨r, w⟩ :: L)) -∗ wpc c (k ⟨⟩) Q)
      -∗ wpc c (.op (.store mr r w Finset.univ hx hm) k) Q) :=
  wp_store_writes 𝒱₀ (c : Thread nD τ) none Set.univ (m := mr) (r := r) (w := w) (hx := hx) (hm := hm) (f := f) (L := L) (View.set_slice_subset _ _)
end

/-- Slices of one value that cover the shape leave that value. -/
theorem read_pieces {sp : Space} {s : Shape} {e : EltTy} (v : View sig .tc sp s e) (f : v.ty.Contents (Elt F)) (G : s.Idx → Elt F e) (y : s.Idx) :
    ∀ L : List (View.Piece (Elt F) s e), (∀ p ∈ L, ∀ x, p.2 x = G (p.1.emb x)) → (∃ p ∈ L, y ∈ p.1.set) →
      v.read (Elt F) (v.writes (Elt F) f L) y = G y
  | [], _, h => by obtain ⟨p, hp, -⟩ := h; cases hp
  | p :: L, hG, h => by
    by_cases hy : y ∈ p.1.set
    · obtain ⟨x, rfl⟩ := p.1.exists_idx_of_mem hy
      exact (View.read_writes_cons_emb v f p.1 p.2 L x).trans (hG p (List.mem_cons_self ..) x)
    · rw [View.read_writes_cons_miss v f p L y hy]
      refine read_pieces v f G y L (fun q hq => hG q (List.mem_cons_of_mem _ hq)) ?_
      obtain ⟨q, hq, hm⟩ := h
      rcases List.mem_cons.mp hq with rfl | hq
      · exact absurd hm hy
      · exact ⟨q, hq, hm⟩

/-! ## The attention call at one head -/

theorem attn_run (i : grid2.Coords) (m1 : Memref sig .tc .vmem S1024x128 .f32) (h1 : m1.IsWhole) (m2 : Memref sig .tc .vmem S1024x128 .f32) (h2 : m2.IsWhole)
    (m3 : Memref sig .tc .vmem S1024x128 .f32) (h3 : m3.IsWhole) (m4 : Memref sig .tc .vmem S1x1024x32 .f32) (h4 : m4.IsWhole)
    (m5 : Memref sig .tc .vmem S1024x32 .f32) (h5 : m5.IsWhole) (m6 : Memref sig .tc .vmem S1024x128 .f32) (h6 : m6.IsWhole)
    (q k v : Vec F S1024x128 .f32) (qr : Vec F S1x1024x32 .f32) (kr : Vec F S1024x32 .f32) (d : Vec F S1024x128 .f32) {Q : PUnit → sProp 𝕄} :
    iprop(hold c m1 q ∗ hold c m2 k ∗ hold c m3 v ∗ hold c m4 qr ∗ hold c m5 kr ∗ hold c m6 d
      ∗ ((hold c m1 q ∗ hold c m2 k ∗ hold c m3 v ∗ hold c m4 qr ∗ hold c m5 kr ∗ hold c m6 (k2_pay1 q k qr kr v)) -∗ Q ⟨⟩))
      ⊢ wpc c (cc2__attn_body (F := F) i m1 h1 m2 h2 m3 h3 m4 h4 m5 h5 m6 h6) Q := by
  rw [cc2__attn_body_eq_skeleton]
  unfold cc2__attn_body_skel
  simp only [Prog.lift, Prog.bind_op, Prog.bind_ret, Prog.pure_eq_ret]
  iintro ⟨H1, H2, H3, H4, H5, H6, HQ⟩
  iapply (ldo c m1) $$ H1; iintro H1
  iapply (ldo c m2) $$ H2; iintro H2
  iapply (ldo c m4) $$ H4; iintro H4
  iapply (ldo c m5) $$ H5; iintro H5
  iapply (ldo c m3) $$ H3; iintro H3
  iapply (ldo c m6) $$ H6; iintro H6
  iapply (sto_o c m6) $$ H6; iintro H6
  iapply (done c)
  iapply HQ
  isplitl [H1]; · iexact H1
  isplitl [H2]; · iexact H2
  isplitl [H3]; · iexact H3
  isplitl [H4]; · iexact H4
  isplitl [H5]; · iexact H5
  iexact H6

/-! ## The output call -/

theorem out_run (m0 : Memref sig .tc .vmem S1024x2048 .f32) (h0 : m0.IsWhole) (m1 : Memref sig .tc .vmem S2048x2048 .f32) (h1 : m1.IsWhole)
    (m2 : Memref sig .tc .vmem S1x1024x2048 .f32) (h2 : m2.IsWhole) (o : Vec F S1024x2048 .f32) (w : Vec F S2048x2048 .f32) (d : Vec F S1x1024x2048 .f32) {Q : PUnit → sProp 𝕄} :
    iprop(hold c m0 o ∗ hold c m1 w ∗ hold c m2 d ∗ ((hold c m0 o ∗ hold c m1 w ∗ hold c m2 (k3_pay1 o w)) -∗ Q ⟨⟩))
      ⊢ wpc c (cc3__out_body (F := F) m0 h0 m1 h1 m2 h2) Q := by
  rw [cc3__out_body_eq_skeleton]
  unfold cc3__out_body_skel
  simp only [Prog.lift, Prog.bind_op, Prog.bind_ret, Prog.pure_eq_ret]
  iintro ⟨H0, H1, H2, HQ⟩
  iapply (ldo c m0) $$ H0; iintro H0
  iapply (ldo c m1) $$ H1; iintro H1
  iapply (ldo c m2) $$ H2; iintro H2
  iapply (sto_o c m2) $$ H2; iintro H2
  iapply (done c)
  iapply HQ
  isplitl [H0]; · iexact H0
  isplitl [H1]; · iexact H1
  iexact H2

end Cert.KernelIdeal.Run

end
-- ==== Proof.RunKernelIdeal.Proj.lean ====
/-
# The projection call

Queries, and their rotated parts stored head by head, and the rotated keys.
-/
module

public import proofs.«01_k».proof.Proof.RunKernelIdeal.Walk

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

open Idealize.ShloMosaic.ValueIdx

/-- The rotated queries by head: head `h`'s 32 columns as a matrix of their own. -/
def heads (P : FVec F S1024x512 .f32) : Vec F S16x1024x32 .f32 := fun y =>
  P (ix2 (n0 := 1024) (n1 := 512) (y 1) ⟨32 * (y 0).val + (y 2).val, by
    have h0 : (y 0).val < 16 := (y 0).isLt
    have h2 : (y 2).val < 32 := (y 2).isLt
    omega⟩)

theorem head_piece (P : FVec F S1024x512 .f32) (h : ℕ) (hh : h < 16) (o : ℕ) (ho : o = 32 * h)
    (inb : ∀ a, (![h, 0, 0] : Fin 3 → ℕ) a + S1x1024x32.size a ≤ S16x1024x32.size a) (hs : S1024x512.Slices ![0, o] S1024x32)
    (hc : S1024x32.ShapeCasts S1x1024x32) (x : S1x1024x32.Idx) :
    shapeCast S1x1024x32 (extractStridedSlice S1024x32 ![0, o] P hs) hc x
      = heads P ((Rect.unit (s := S16x1024x32) ![h, 0, 0] S1x1024x32.size inb).emb x) := by
  have hx : x = ix3 (n0 := 1) (n1 := 1024) (n2 := 32) (x 0) (x 1) (x 2) := by
    funext a; match a with | 0 => rfl | 1 => rfl | 2 => rfl
  refine ((congrArg _ hx).trans (shapeCast_ab_1ab_apply _ hc (x 0) (x 1) (x 2))).trans ?_
  unfold heads
  refine congrArg P ?_
  funext a
  refine Fin.ext ?_
  have h0 : (x 0).val < 1 := (x 0).isLt
  match a with
  | 0 => show 0 + (x 1).val = 0 + 1 * (x 1).val; omega
  | 1 => show o + (x 2).val = 32 * (h + 1 * (x 0).val) + (0 + 1 * (x 2).val); omega

variable (x : Vec F S1x1024x2048 .f32) (wq : Vec F S2048x2048 .f32) (wr : Vec F S2048x512 .f32) (wk : Vec F S2048x32 .f32)

theorem hold_eq {s : Shape} {e : EltTy} {cs : CoreSpace} (mr : Memref sig .tc (.core cs) s e) (X : s.Idx → Elt F e) :
    (hold c mr X ⊢ (iprop(∃ f, ⌜mr.view.read (Elt F) f = X⌝ ∗ ((mr.view.loc (c : Thread nD τ)) ↦[mr.view.set]{fullShare} f)) : sProp 𝕄))
      ∧ ((iprop(∃ f, ⌜mr.view.read (Elt F) f = X⌝ ∗ ((mr.view.loc (c : Thread nD τ)) ↦[mr.view.set]{fullShare} f)) : sProp 𝕄) ⊢ hold c mr X) :=
  ⟨.rfl, .rfl⟩

/-- The sixteen stores, the last first. -/
def stores : List (View.Piece (Elt F) S16x1024x32 .f32) :=
  [⟨Rect.unit (s := S16x1024x32) ![15, 0, 0] S1x1024x32.size inb_S16x1024x32_S1x1024x32_15_0_0, (k1_pay5 (k1_pay9 x wr))⟩,
   ⟨Rect.unit (s := S16x1024x32) ![14, 0, 0] S1x1024x32.size inb_S16x1024x32_S1x1024x32_14_0_0, (k1_pay4 (k1_pay9 x wr))⟩,
   ⟨Rect.unit (s := S16x1024x32) ![13, 0, 0] S1x1024x32.size inb_S16x1024x32_S1x1024x32_13_0_0, (k1_pay3 (k1_pay9 x wr))⟩,
   ⟨Rect.unit (s := S16x1024x32) ![12, 0, 0] S1x1024x32.size inb_S16x1024x32_S1x1024x32_12_0_0, (k1_pay2 (k1_pay9 x wr))⟩,
   ⟨Rect.unit (s := S16x1024x32) ![11, 0, 0] S1x1024x32.size inb_S16x1024x32_S1x1024x32_11_0_0, (k1_pay1 (k1_pay22 (k1_pay9 x wr)))⟩,
   ⟨Rect.unit (s := S16x1024x32) ![10, 0, 0] S1x1024x32.size inb_S16x1024x32_S1x1024x32_10_0_0, (k1_pay21 (k1_pay9 x wr))⟩,
   ⟨Rect.unit (s := S16x1024x32) ![9, 0, 0] S1x1024x32.size inb_S16x1024x32_S1x1024x32_9_0_0, (k1_pay20 (k1_pay9 x wr))⟩,
   ⟨Rect.unit (s := S16x1024x32) ![8, 0, 0] S1x1024x32.size inb_S16x1024x32_S1x1024x32_8_0_0, (k1_pay19 (k1_pay9 x wr))⟩,
   ⟨Rect.unit (s := S16x1024x32) ![7, 0, 0] S1x1024x32.size inb_S16x1024x32_S1x1024x32_7_0_0, (k1_pay18 (k1_pay9 x wr))⟩,
   ⟨Rect.unit (s := S16x1024x32) ![6, 0, 0] S1x1024x32.size inb_S16x1024x32_S1x1024x32_6_0_0, (k1_pay17 (k1_pay9 x wr))⟩,
   ⟨Rect.unit (s := S16x1024x32) ![5, 0, 0] S1x1024x32.size inb_S16x1024x32_S1x1024x32_5_0_0, (k1_pay16 (k1_pay9 x wr))⟩,
   ⟨Rect.unit (s := S16x1024x32) ![4, 0, 0] S1x1024x32.size inb_S16x1024x32_S1x1024x32_4_0_0, (k1_pay15 (k1_pay14 x wr))⟩,
   ⟨Rect.unit (s := S16x1024x32) ![3, 0, 0] S1x1024x32.size inb_S16x1024x32_S1x1024x32_3_0_0, (k1_pay13 x wr)⟩,
   ⟨Rect.unit (s := S16x1024x32) ![2, 0, 0] S1x1024x32.size inb_S16x1024x32_S1x1024x32_2_0_0, (k1_pay12 x wr)⟩,
   ⟨Rect.unit (s := S16x1024x32) ![1, 0, 0] S1x1024x32.size inb_S16x1024x32_S1x1024x32_1_0_0, (k1_pay11 x wr)⟩,
   ⟨Rect.unit (s := S16x1024x32) ![0, 0, 0] S1x1024x32.size inb_S16x1024x32_S1x1024x32_0_0_0, (k1_pay10 x wr)⟩]
theorem stores_are : ∀ p ∈ stores (F := F) x wr, ∀ i, p.2 i = heads (k1_pay9 x wr) (p.1.emb i) := by
  unfold stores
  refine List.forall_mem_cons.mpr ⟨head_piece (k1_pay9 x wr) 15 (by omega) 480 rfl inb_S16x1024x32_S1x1024x32_15_0_0 slices_S1024x512_o0_480_S1024x32 shapeCasts_S1024x32_S1x1024x32, ?_⟩
  refine List.forall_mem_cons.mpr ⟨head_piece (k1_pay9 x wr) 14 (by omega) 448 rfl inb_S16x1024x32_S1x1024x32_14_0_0 slices_S1024x512_o0_448_S1024x32 shapeCasts_S1024x32_S1x1024x32, ?_⟩
  refine List.forall_mem_cons.mpr ⟨head_piece (k1_pay9 x wr) 13 (by omega) 416 rfl inb_S16x1024x32_S1x1024x32_13_0_0 slices_S1024x512_o0_416_S1024x32 shapeCasts_S1024x32_S1x1024x32, ?_⟩
  refine List.forall_mem_cons.mpr ⟨head_piece (k1_pay9 x wr) 12 (by omega) 384 rfl inb_S16x1024x32_S1x1024x32_12_0_0 slices_S1024x512_o0_384_S1024x32 shapeCasts_S1024x32_S1x1024x32, ?_⟩
  refine List.forall_mem_cons.mpr ⟨head_piece (k1_pay9 x wr) 11 (by omega) 352 rfl inb_S16x1024x32_S1x1024x32_11_0_0 slices_S1024x512_o0_352_S1024x32 shapeCasts_S1024x32_S1x1024x32, ?_⟩
  refine List.forall_mem_cons.mpr ⟨head_piece (k1_pay9 x wr) 10 (by omega) 320 rfl inb_S16x1024x32_S1x1024x32_10_0_0 slices_S1024x512_o0_320_S1024x32 shapeCasts_S1024x32_S1x1024x32, ?_⟩
  refine List.forall_mem_cons.mpr ⟨head_piece (k1_pay9 x wr) 9 (by omega) 288 rfl inb_S16x1024x32_S1x1024x32_9_0_0 slices_S1024x512_o0_288_S1024x32 shapeCasts_S1024x32_S1x1024x32, ?_⟩
  refine List.forall_mem_cons.mpr ⟨head_piece (k1_pay9 x wr) 8 (by omega) 256 rfl inb_S16x1024x32_S1x1024x32_8_0_0 slices_S1024x512_o0_256_S1024x32 shapeCasts_S1024x32_S1x1024x32, ?_⟩
  refine List.forall_mem_cons.mpr ⟨head_piece (k1_pay9 x wr) 7 (by omega) 224 rfl inb_S16x1024x32_S1x1024x32_7_0_0 slices_S1024x512_o0_224_S1024x32 shapeCasts_S1024x32_S1x1024x32, ?_⟩
  refine List.forall_mem_cons.mpr ⟨head_piece (k1_pay9 x wr) 6 (by omega) 192 rfl inb_S16x1024x32_S1x1024x32_6_0_0 slices_S1024x512_o0_192_S1024x32 shapeCasts_S1024x32_S1x1024x32, ?_⟩
  refine List.forall_mem_cons.mpr ⟨head_piece (k1_pay9 x wr) 5 (by omega) 160 rfl inb_S16x1024x32_S1x1024x32_5_0_0 slices_S1024x512_o0_160_S1024x32 shapeCasts_S1024x32_S1x1024x32, ?_⟩
  refine List.forall_mem_cons.mpr ⟨head_piece (k1_pay9 x wr) 4 (by omega) 128 rfl inb_S16x1024x32_S1x1024x32_4_0_0 slices_S1024x512_o0_128_S1024x32 shapeCasts_S1024x32_S1x1024x32, ?_⟩
  refine List.forall_mem_cons.mpr ⟨head_piece (k1_pay9 x wr) 3 (by omega) 96 rfl inb_S16x1024x32_S1x1024x32_3_0_0 slices_S1024x512_o0_96_S1024x32 shapeCasts_S1024x32_S1x1024x32, ?_⟩
  refine List.forall_mem_cons.mpr ⟨head_piece (k1_pay9 x wr) 2 (by omega) 64 rfl inb_S16x1024x32_S1x1024x32_2_0_0 slices_S1024x512_o0_64_S1024x32 shapeCasts_S1024x32_S1x1024x32, ?_⟩
  refine List.forall_mem_cons.mpr ⟨head_piece (k1_pay9 x wr) 1 (by omega) 32 rfl inb_S16x1024x32_S1x1024x32_1_0_0 slices_S1024x512_o0_32_S1024x32 shapeCasts_S1024x32_S1x1024x32, ?_⟩
  refine List.forall_mem_cons.mpr ⟨head_piece (k1_pay9 x wr) 0 (by omega) 0 rfl inb_S16x1024x32_S1x1024x32_0_0_0 slices_S1024x512_o0_0_S1024x32 shapeCasts_S1024x32_S1x1024x32, ?_⟩
  intro p hp; cases hp
theorem stores_cover : ∀ y : S16x1024x32.Idx, ∃ p ∈ stores (F := F) x wr, y ∈ p.1.set :=
  View.cover_of_tiled _ S1x1024x32.size rfl

set_option maxHeartbeats 1600000 in
theorem proj_run (m0 : Memref sig .tc .vmem S1x1024x2048 .f32) (h0 : m0.IsWhole) (m1 : Memref sig .tc .vmem S2048x2048 .f32) (h1 : m1.IsWhole)
    (m2 : Memref sig .tc .vmem S2048x512 .f32) (h2 : m2.IsWhole) (m3 : Memref sig .tc .vmem S2048x32 .f32) (h3 : m3.IsWhole)
    (m4 : Memref sig .tc .vmem S1024x2048 .f32) (h4 : m4.IsWhole) (m5 : Memref sig .tc .vmem S16x1024x32 .f32) (h5 : m5.IsWhole)
    (m6 : Memref sig .tc .vmem S1024x32 .f32) (h6 : m6.IsWhole) (d4 : Vec F S1024x2048 .f32) (d5 : Vec F S16x1024x32 .f32) (d6 : Vec F S1024x32 .f32) {Q : PUnit → sProp 𝕄} :
    iprop(hold c m0 x ∗ hold c m1 wq ∗ hold c m2 wr ∗ hold c m3 wk ∗ hold c m4 d4 ∗ hold c m5 d5 ∗ hold c m6 d6
      ∗ ((hold c m0 x ∗ hold c m1 wq ∗ hold c m2 wr ∗ hold c m3 wk ∗ hold c m4 (k1_pay8 x wq) ∗ hold c m5 (heads (k1_pay9 x wr))
          ∗ hold c m6 (k1_pay6 (k1_pay7 x) wk)) -∗ Q ⟨⟩))
      ⊢ wpc c (cc1__proj_body (F := F) m0 h0 m1 h1 m2 h2 m3 h3 m4 h4 m5 h5 m6 h6) Q := by
  rw [cc1__proj_body_eq_skeleton]
  unfold cc1__proj_body_skel
  simp only [k1_part1_eq_skeleton, k1_part2_eq_skeleton, k1_part1_skel, k1_part2_skel, Prog.lift, Prog.bind_op, Prog.bind_ret, Prog.pure_eq_ret]
  iintro ⟨H0, H1, H2, H3, H4, H5, H6, HQ⟩
  iapply (ldo c m0) $$ H0; iintro H0
  iapply (ldo c m1) $$ H1; iintro H1
  iapply (ldo c m4) $$ H4; iintro H4
  iapply (sto_o c m4) $$ H4; iintro H4
  iapply (ldo c m2) $$ H2; iintro H2
  ihave H5 := (hold_eq c m5 d5).1 $$ H5
  icases H5 with ⟨%f, %hf, H5⟩
  ihave H5 := (show iprop((m5.view.loc (c : Thread nD τ)) ↦[m5.view.set]{fullShare} f) ⊢ iprop((m5.view.loc (c : Thread nD τ)) ↦[m5.view.set]{fullShare} m5.view.writes (Elt F) f []) from .rfl) $$ H5
  iapply (ldx c m5) $$ H5; iintro H5 %z0
  iapply (stx c m5) $$ H5; iintro H5
  iapply (ldx c m5) $$ H5; iintro H5 %z1
  iapply (stx c m5) $$ H5; iintro H5
  iapply (ldx c m5) $$ H5; iintro H5 %z2
  iapply (stx c m5) $$ H5; iintro H5
  iapply (ldx c m5) $$ H5; iintro H5 %z3
  iapply (stx c m5) $$ H5; iintro H5
  iapply (ldx c m5) $$ H5; iintro H5 %z4
  iapply (stx c m5) $$ H5; iintro H5
  iapply (ldx c m5) $$ H5; iintro H5 %z5
  iapply (stx c m5) $$ H5; iintro H5
  iapply (ldx c m5) $$ H5; iintro H5 %z6
  iapply (stx c m5) $$ H5; iintro H5
  iapply (ldx c m5) $$ H5; iintro H5 %z7
  iapply (stx c m5) $$ H5; iintro H5
  iapply (ldx c m5) $$ H5; iintro H5 %z8
  iapply (stx c m5) $$ H5; iintro H5
  iapply (ldx c m5) $$ H5; iintro H5 %z9
  iapply (stx c m5) $$ H5; iintro H5
  iapply (ldx c m5) $$ H5; iintro H5 %z10
  iapply (stx c m5) $$ H5; iintro H5
  iapply (ldx c m5) $$ H5; iintro H5 %z11
  iapply (stx c m5) $$ H5; iintro H5
  iapply (ldx c m5) $$ H5; iintro H5 %z12
  iapply (stx c m5) $$ H5; iintro H5
  iapply (ldx c m5) $$ H5; iintro H5 %z13
  iapply (stx c m5) $$ H5; iintro H5
  iapply (ldx c m5) $$ H5; iintro H5 %z14
  iapply (stx c m5) $$ H5; iintro H5
  iapply (ldx c m5) $$ H5; iintro H5 %z15
  iapply (stx c m5) $$ H5; iintro H5
  iapply (ldo c m3) $$ H3; iintro H3
  iapply (ldo c m6) $$ H6; iintro H6
  iapply (sto_o c m6) $$ H6; iintro H6
  iapply (done c)
  iapply HQ
  isplitl [H0]; · iexact H0
  isplitl [H1]; · iexact H1
  isplitl [H2]; · iexact H2
  isplitl [H3]; · iexact H3
  isplitl [H4]; · iexact H4
  isplitl [H5]
  · iapply (hold_eq c m5 (heads (k1_pay9 x wr))).2
    iexists (m5.view.writes (Elt F) f (stores x wr))
    isplitr
    · ipureintro
      exact funext fun y => read_pieces m5.view f (heads (k1_pay9 x wr)) y _ (stores_are x wr) (stores_cover x wr y)
    iexact H5
  iexact H6

end Cert.KernelIdeal.Run

end
-- ==== Proof.RunKernelIdeal.Pieces.lean ====
/-
# The body in pieces

The pieces of the first call at its buffers.
-/
module

public import proofs.«01_k».proof.Proof.RunKernelIdeal.Rules

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev P1 := k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
abbrev P2 (d : Dev nD) (v2 : BitVec 32) (v5 : BitVec 32) (v19 : BitVec 32) (v30 : BitVec 32) (v33 : BitVec 32) (v34 : BitVec 32) := k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v19 v30 v33 v34
abbrev P3 (d : Dev nD) (v2 : BitVec 32) (v5 : BitVec 32) (v19 : BitVec 32) (v62 : FVec F S1024x2048 .f32) (v64 : FVec F S2048x128 .f32) (cst : FVec F S128x1024 .f32) := k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v19 v62 v64 cst
abbrev P4 (d : Dev nD) (v2 : BitVec 32) (v5 : BitVec 32) (v30 : BitVec 32) (v96 : BitVec 32) (v97 : BitVec 32) := k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v30 v96 v97
abbrev P5 (d : Dev nD) (v2 : BitVec 32) (v5 : BitVec 32) (v30 : BitVec 32) (v41 : BitVec 32) (v130 : BitVec 32) (v131 : BitVec 32) := k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v30 v41 v130 v131
abbrev P6 (d : Dev nD) (v2 : BitVec 32) (v5 : BitVec 32) (v19 : BitVec 32) (v41 : BitVec 32) (v165 : BitVec 32) (z : BitVec 32) := k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v19 v41 v165 z
abbrev P7 (d : Dev nD) (v2 : BitVec 32) (v5 : BitVec 32) (v19 : BitVec 32) := k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v19
abbrev P8 (d : Dev nD) (v2 : BitVec 32) (v5 : BitVec 32) (v19 : BitVec 32) (v30 : BitVec 32) (v218 : FVec F S128x1024 .f32) (v227 : Vec F S1024x2048 .f32) := k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v19 v30 v218 v227
abbrev P9 (d : Dev nD) (v2 : BitVec 32) (v5 : BitVec 32) (v30 : BitVec 32) (v41 : BitVec 32) (v258 : BitVec 32) := k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v30 v41 v258
abbrev P10 (d : Dev nD) (v2 : BitVec 32) (v5 : BitVec 32) (v41 : BitVec 32) := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v2 v5 v41
abbrev P11 (d : Dev nD) (v41 : BitVec 32) (v316 : FVec F S128x1024 .f32) (v318 : FVec F S1024x2048 .f32) (v322 : FVec F S1024x2048 .f32) := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3 d v41 v316 v318 v322

abbrev P12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3

/-- The whole body. -/
abbrev PB := cc0__kv_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3

end Cert.KernelIdeal.Run

end
-- ==== Proof.RunKernelIdeal.Split.lean ====
/-
# Buffers cut in pieces

The landing places, the latents and the two weight blocks, cut into what the peers hold, and put together again.
-/
module

public import proofs.«01_k».proof.Proof.RunKernelIdeal.Pieces

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-- The share of buffer `b` of device `c` that goes with the peer `w`. -/
abbrev sh (c : Dev nD) (b : Ref sig .tc) (w : Fin 4) (f : Buf (Elt F) ((c : Thread nD τ).loc b)) : sProp 𝕄 :=
  ((c : Thread nD τ).loc b) ↦{ShareLeaves.leaf 2 fullShare w} f
/-- What has landed from the peer `w`, of thing `j`. -/
abbrev lnd (j : Fin 3) (w : Fin 4) : sProp 𝕄 := ((c : Thread nD τ).loc cc0_scratch1) ↦[partI j w]{fullShare} (rcv m c)

/-- A family over the peers, by distance: this device, then the three peers. -/
theorem peers_eq (Φ : Fin 4 → sProp 𝕄) : bigSep Finset.univ Φ = iprop(Φ (zc c) ∗ Φ (pz 1 c) ∗ Φ (pz 3 c) ∗ Φ (pz 2 c)) :=
  bigSep_univ_eq_bigSepL [zc c, pz 1 c, pz 3 c, pz 2 c] (by unfold pz; generalize zc c = z; revert z; decide)
    (by unfold pz; generalize zc c = z; revert z; decide) Φ
theorem things_eq (Φ : Fin 3 → sProp 𝕄) : bigSep Finset.univ Φ = iprop(Φ 0 ∗ Φ 1 ∗ Φ 2) :=
  bigSep_univ_eq_bigSepL [0, 1, 2] (by decide) (by decide) Φ

theorem lo_0 : lo 0 = 0 := rfl
theorem lo_1 : lo 1 = 1024 := rfl
theorem lo_2 : lo 2 = 3072 := rfl
theorem hi_0 : hi 0 = 1024 := rfl
theorem hi_1 : hi 1 = 3072 := rfl
theorem hi_2 : hi 2 = 5120 := rfl
/-- The parts of a row do not meet. -/
theorem part_thing (j j' : Fin 3) (y : ℕ) : lo j ≤ y → y < hi j → lo j' ≤ y → y < hi j' → j = j' := by
  match j, j' with
  | 0, 0 => intros; rfl
  | 1, 1 => intros; rfl
  | 2, 2 => intros; rfl
  | 0, 1 => rw [lo_0, lo_1, hi_0, hi_1]; omega
  | 0, 2 => rw [lo_0, lo_2, hi_0, hi_2]; omega
  | 1, 0 => rw [lo_0, lo_1, hi_0, hi_1]; omega
  | 1, 2 => rw [lo_1, lo_2, hi_1, hi_2]; omega
  | 2, 0 => rw [lo_0, lo_2, hi_0, hi_2]; omega
  | 2, 1 => rw [lo_1, lo_2, hi_1, hi_2]; omega
theorem part_disj (p p' : Fin 4 × Fin 3) (h : p ≠ p') : Disjoint (partI p.2 p.1) (partI p'.2 p'.1) := by
  refine Finset.disjoint_left.mpr fun i hi hi' => h ?_
  obtain ⟨w, j⟩ := p
  obtain ⟨w', j'⟩ := p'
  have a := (Finset.mem_filter.mp hi).2
  have b := (Finset.mem_filter.mp hi').2
  have e : w = w' := Fin.ext (a.1.symm.trans b.1)
  subst e
  have hj : j = j' := by
    have a1 := a.2.1; have a2 := a.2.2; have b1 := b.2.1; have b2 := b.2.2
    revert a1 a2 b1 b2
    generalize (i 2).val = y
    exact part_thing j j' y
  rw [hj]
theorem part_cover : (Finset.univ : Finset (Fin 4 × Fin 3)).biUnion (fun p => partI p.2 p.1) = Finset.univ := by
  refine Finset.eq_univ_iff_forall.mpr fun i => ?_
  have hy : (i 2).val < 5120 := (i 2).isLt
  by_cases h1 : (i 2).val < 1024
  · exact Finset.mem_biUnion.mpr ⟨(⟨(i 0).val, (i 0).isLt⟩, 0), Finset.mem_univ _, Finset.mem_filter.mpr ⟨Finset.mem_univ _, rfl, Nat.zero_le _, h1.trans_eq hi_0.symm⟩⟩
  · by_cases h2 : (i 2).val < 3072
    · exact Finset.mem_biUnion.mpr ⟨(⟨(i 0).val, (i 0).isLt⟩, 1), Finset.mem_univ _, Finset.mem_filter.mpr ⟨Finset.mem_univ _, rfl, lo_1.trans_le (Nat.not_lt.mp h1), h2.trans_eq hi_1.symm⟩⟩
    · exact Finset.mem_biUnion.mpr ⟨(⟨(i 0).val, (i 0).isLt⟩, 2), Finset.mem_univ _, Finset.mem_filter.mpr ⟨Finset.mem_univ _, rfl, lo_2.trans_le (Nat.not_lt.mp h2), hy.trans_eq hi_2.symm⟩⟩

/-- The landing buffer, cut into its parts. -/
theorem r_split (f : Buf (Elt F) ((c : Thread nD τ).loc cc0_scratch1)) :
    (pt c cc0_scratch1 f : sProp 𝕄) = iprop((rPts c 0 (zc c) f ∗ rPts c 1 (zc c) f ∗ rPts c 2 (zc c) f)
      ∗ (rPts c 0 (pz 1 c) f ∗ rPts c 1 (pz 1 c) f ∗ rPts c 2 (pz 1 c) f) ∗ (rPts c 0 (pz 3 c) f ∗ rPts c 1 (pz 3 c) f ∗ rPts c 2 (pz 3 c) f)
      ∗ (rPts c 0 (pz 2 c) f ∗ rPts c 1 (pz 2 c) f ∗ rPts c 2 (pz 2 c) f)) := by
  have h := Ring.pointsTo_blocks (Ix := Unit) (Name := ℕ) (U := UU) (Lvl := ℕ) (ℓ := (c : Thread nD τ).loc cc0_scratch1) (fun p : Fin 4 × Fin 3 => partI p.2 p.1) part_disj part_cover (q := fullShare) f
  rw [bigSep_univ_prod, peers_eq c] at h
  simp only [things_eq] at h
  exact h
theorem r_join (f : Buf (Elt F) ((c : Thread nD τ).loc cc0_scratch1)) :
    iprop(((∃ f, rPts (F := F) c 0 (zc c) f) ∗ (∃ f, rPts (F := F) c 1 (zc c) f) ∗ (∃ f, rPts (F := F) c 2 (zc c) f)) ∗ place (F := F) c 1 ∗ place (F := F) c 3 ∗ place (F := F) c 2)
      ⊢ (iprop(∃ f, pt c cc0_scratch1 f) : sProp 𝕄) := by
  have h := Ring.pointsTo_blocks_join_exists (Ix := Unit) (Name := ℕ) (U := UU) (Lvl := ℕ) (ℓ := (c : Thread nD τ).loc cc0_scratch1) (fun p : Fin 4 × Fin 3 => partI p.2 p.1) part_disj part_cover (q := fullShare) f
  rw [bigSep_univ_prod, peers_eq c] at h
  simp only [things_eq] at h
  exact h
theorem ct_split (f : Buf (Elt F) ((c : Thread nD τ).loc cc0_scratch0)) :
    (pt c cc0_scratch0 f : sProp 𝕄) = iprop(sh c cc0_scratch0 (zc c) f ∗ ctPts c (pz 1 c) f ∗ ctPts c (pz 3 c) f ∗ ctPts c (pz 2 c) f) := by
  have h := ShareLeaves.pointsTo_leaves (Ix := Unit) (Name := ℕ) (U := UU) (Lvl := ℕ) (ℓ := (c : Thread nD τ).loc cc0_scratch0) Finset.univ f 2 fullShare
  have e := peers_eq c fun w => ctPts c w f
  exact h.trans e
theorem uk_split (f : Buf (Elt F) ((c : Thread nD τ).loc cc0_stg2_0)) :
    (pt c cc0_stg2_0 f : sProp 𝕄) = iprop(sh c cc0_stg2_0 (zc c) f ∗ ukPts c (pz 1 c) f ∗ ukPts c (pz 3 c) f ∗ ukPts c (pz 2 c) f) := by
  have h := ShareLeaves.pointsTo_leaves (Ix := Unit) (Name := ℕ) (U := UU) (Lvl := ℕ) (ℓ := (c : Thread nD τ).loc cc0_stg2_0) Finset.univ f 2 fullShare
  have e := peers_eq c fun w => ukPts c w f
  exact h.trans e
theorem uv_split (f : Buf (Elt F) ((c : Thread nD τ).loc cc0_stg3_0)) :
    (pt c cc0_stg3_0 f : sProp 𝕄) = iprop(sh c cc0_stg3_0 (zc c) f ∗ uvPts c (pz 1 c) f ∗ uvPts c (pz 3 c) f ∗ uvPts c (pz 2 c) f) := by
  have h := ShareLeaves.pointsTo_leaves (Ix := Unit) (Name := ℕ) (U := UU) (Lvl := ℕ) (ℓ := (c : Thread nD τ).loc cc0_stg3_0) Finset.univ f 2 fullShare
  have e := peers_eq c fun w => uvPts c w f
  exact h.trans e

/-- What each semaphore hands over. -/
theorem xPay_0 (w : Fin 4) : xPay m 0 0 w c = ctPts c w (ctV m c) := rfl
theorem xPay_1 (w : Fin 4) : xPay m 0 1 w c = ukPts c w (wukB m c) := rfl
theorem xPay_2 (w : Fin 4) : xPay m 0 2 w c = uvPts c w (wuvB m c) := rfl
theorem xPay_l (j : Fin 3) (w : Fin 4) : xPay m 1 j w c = lnd m c j w := rfl

/-- The tokens of the copies to the peer at distance `r`. -/
def toks (r : Fin 4) : sProp 𝕄 :=
  iprop((dutyTok ER (xCell 0 0 (pz r c) c) 0 0 ∗ dutyTok ER (xCell 1 0 (zc c) (pd r c)) 0 0) ∗ (dutyTok ER (xCell 0 1 (pz r c) c) 0 0 ∗ dutyTok ER (xCell 1 1 (zc c) (pd r c)) 0 0)
    ∗ (dutyTok ER (xCell 0 2 (pz r c) c) 0 0 ∗ dutyTok ER (xCell 1 2 (zc c) (pd r c)) 0 0))
/-- With what that peer hands over, all that the copies need. -/
theorem paths (r : Fin 4) : iprop(barPay (F := F) c (pz r c) ∗ toks (F := F) c r) ⊢ iprop(path (F := F) c 0 r ∗ path (F := F) c 1 r ∗ path (F := F) c 2 r) := by
  unfold barPay isOpen toks path
  iintro ⟨⟨D0, D1, D2, #E0, #E1, #E2⟩, ⟨A0, B0⟩, ⟨A1, B1⟩, ⟨A2, B2⟩⟩
  isplitl [D0 A0 B0]
  · isplitl [D0]; · iexact D0
    isplitr; · iexact E0
    isplitl [A0]; · iexact A0
    iexact B0
  isplitl [D1 A1 B1]
  · isplitl [D1]; · iexact D1
    isplitr; · iexact E1
    isplitl [A1]; · iexact A1
    iexact B1
  isplitl [D2]; · iexact D2
  isplitr; · iexact E2
  isplitl [A2]; · iexact A2
  iexact B2

end Cert.KernelIdeal.Run

end
-- ==== Proof.RunKernelIdeal.Front.lean ====
/-
# The pieces up to the copies

Each piece of the first call up to its last copy sent, as what it needs, what it leaves, and what it returns.
-/
module

public import proofs.«01_k».proof.Proof.RunKernelIdeal.Split

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

theorem ct_eq : (pt c cc0_scratch0 (k0_pay3 (k0_pay1 (xB m c)) (k0_pay2 (wdkvB m c)) (constant S128x1024 .f32 0x00000000#32)) : sProp 𝕄) = pt c cc0_scratch0 (ctV m c) := rfl
/-- A window of the landing buffer counts as much as its source. -/
theorem credit_c {d : Memref sig .tc .vmem S128x1024 .f32} {w : Fin 4} (h : d = slotC w) : d.view.dmaCredit = N 0 := by subst h; rfl
theorem credit_k {d : Memref sig .tc .vmem S128x2048 .f32} {w : Fin 4} (h : d = slotK w) : d.view.dmaCredit = N 1 := by subst h; rfl
theorem credit_v {d : Memref sig .tc .vmem S128x2048 .f32} {w : Fin 4} (h : d = slotV w) : d.view.dmaCredit = N 2 := by subst h; rfl

/-- The device's number, and words of it that nothing below looks at. -/
theorem part1 {Q : _ → sProp 𝕄} : iprop(∀ v2 v5 v19 v30 v33 v34, Q ⟨c, v2, v5, v19, v30, v33, v34⟩) ⊢ wpc c (P1 (F := F)) Q := by
  simp only [P1, k0_part1_eq_skeleton]
  unfold k0_part1_skel
  simp only [Prog.lift, Prog.bind_op, Prog.bind_ret, Prog.pure_eq_ret, wp_deviceId]
  rw [wp_ret]
  iintro H
  imodintro
  iapply H

/-- The handshake: three signals, the wait for three, and two loads. -/
theorem part2 (v2 v5 v19 v30 v33 v34 : BitVec 32) {Q : _ → sProp 𝕄} :
    iprop(records m K c ∗ levAts L lv ∗ ows c (ow c 12) ∗ dutyTok ER (barCell (pd 1 c)) 0 (zc c) ∗ place (F := F) c 1 ∗ dutyTok ER (barCell (pd 3 c)) 0 (zc c) ∗ place (F := F) c 3 ∗ dutyTok ER (barCell (pd 2 c)) 0 (zc c) ∗ place (F := F) c 2 ∗ cred (tallyAt (barCell c) () 3) ∗ atPos ER (barCell c) 0 ∅ 0 ∗ pt c cc0_stg0_0 (xB m c) ∗ pt c cc0_stg1_0 (wdkvB m c)
      ∗ (∀ v41, (ows c (ow c 9) ∗ atPos ER (barCell c) 1 ∅ 0 ∗ barPay (F := F) c (pz 1 c) ∗ barPay (F := F) c (pz 3 c) ∗ barPay (F := F) c (pz 2 c) ∗ pt c cc0_stg0_0 (xB m c) ∗ pt c cc0_stg1_0 (wdkvB m c)) -∗ Q ⟨v41, k0_pay1 (xB m c), k0_pay2 (wdkvB m c), (constant S128x1024 .f32 0x00000000#32)⟩))
      ⊢ wpc c (P2 (F := F) c v2 v5 v19 v30 v33 v34) Q := by
  simp only [P2, k0_part2_eq_skeleton]
  unfold k0_part2_skel
  simp only [semSignalWord, semWaitWord, Prog.lift, Prog.bind_op, Prog.bind_ret, Prog.pure_eq_ret]
  iintro ⟨#HR, #Hlev, HO, TB1, PL1, TB3, PL3, TB2, PL2, CB, AB, X, D, HQ⟩
  iapply (sig_to m K c 1 (pz_ne 1 (by decide) c).symm (dev1_eq c) rfl (O := ow c 11) rfl) $$ [HO TB1 PL1]
  · isplitr; · iexact HR
    isplitl [HO]; · iexact HO
    isplitl [TB1]; · iexact TB1
    iexact PL1
  iintro HO
  iapply (sig_to m K c 3 (pz_ne 3 (by decide) c).symm (dev2_eq c) rfl (O := ow c 10) rfl) $$ [HO TB3 PL3]
  · isplitr; · iexact HR
    isplitl [HO]; · iexact HO
    isplitl [TB3]; · iexact TB3
    iexact PL3
  iintro HO
  iapply (sig_to m K c 2 (pz_ne 2 (by decide) c).symm (dev3_eq c) rfl (O := ow c 9) rfl) $$ [HO TB2 PL2]
  · isplitr; · iexact HR
    isplitl [HO]; · iexact HO
    isplitl [TB2]; · iexact TB2
    iexact PL2
  iintro HO
  iapply (wait_bar m K c rfl rfl) $$ [CB HO AB]
  · isplitr; · iexact HR
    isplitr; · iexact Hlev
    isplitl [CB]; · iexact CB
    isplitl [HO]; · iexact HO
    iexact AB
  iintro ⟨HO, AB, BP1, BP3, BP2⟩
  iapply (ldw c (Memref.whole cc0_stg0_0) fullShare (xB m c) (g := xB m c) rfl) $$ X; iintro X
  iapply (ldw c (Memref.whole cc0_stg1_0) fullShare (wdkvB m c) (g := wdkvB m c) rfl) $$ D; iintro D
  iapply (done c)
  iapply HQ
  isplitl [HO]; · iexact HO
  isplitl [AB]; · iexact AB
  isplitl [BP1]; · iexact BP1
  isplitl [BP3]; · iexact BP3
  isplitl [BP2]; · iexact BP2
  isplitl [X]; · iexact X
  iexact D

/-- The latents are computed and stored; the first two copies. -/
theorem part3 (v2 v5 v19 : BitVec 32) (fc : FVec F S128x1024 .f32) {Q : _ → sProp 𝕄} :
    iprop(records m K c ∗ pt c cc0_scratch0 fc ∗ path (F := F) c 0 1 ∗ ows c (ow c 9) ∗ ukPts c (pz 1 c) (wukB m c) ∗ path (F := F) c 1 1
      ∗ (∀ u v, (sh c cc0_scratch0 (zc c) (ctV m c) ∗ ctPts c (pz 3 c) (ctV m c) ∗ ctPts c (pz 2 c) (ctV m c) ∗ ows c (ow c 7) ∗ crd (F := F) c 0 0 (pz 1 c) ∗ crd (F := F) c 0 1 (pz 1 c)) -∗ Q ⟨u, v⟩))
      ⊢ wpc c (P3 (F := F) c v2 v5 v19 (k0_pay1 (xB m c)) (k0_pay2 (wdkvB m c)) (constant S128x1024 .f32 0x00000000#32)) Q := by
  simp only [P3, k0_part3_eq_skeleton]
  unfold k0_part3_skel
  simp only [Prog.lift, Prog.bind_op, Prog.bind_ret, Prog.pure_eq_ret]
  iintro ⟨#HR, S0, P01, HO, U1, P11, HQ⟩
  iapply (ldd c (Memref.whole cc0_scratch0) _) $$ S0; iintro S0
  iapply (sto c (Memref.whole cc0_scratch0) _ (put_all cc0_scratch0 _ _ _)) $$ S0; iintro S0
  ihave S0 := (Entails.of_eq (ct_eq m c)) $$ S0
  ihave Hs := (Entails.of_eq (ct_split c (ctV m c))) $$ S0
  icases Hs with ⟨C0, C1, C3, C2⟩
  iapply (send_ct m K c 1 (by decide) (dev4_eq c) (slotC_at (zc c) _ (off3_s c) _) (sem_at 0 cc0_scratch2 scratch2_ix 0 (pz 1 c) _ (off1_1 c) _) (sem_at 1 cc0_scratch3 scratch3_ix 0 (zc c) _ (off2_s c) _) (O := ow c 8) rfl) $$ [C1 P01 HO]
  · isplitr; · iexact HR
    isplitl [C1]; · iexact C1
    isplitl [P01]; · iexact P01
    iexact HO
  iintro ⟨Q01, HO⟩
  iapply (send_uk m K c 1 (by decide) (dev5_eq c) (slotK_at (zc c) _ (off6_s c) _) (sem_at 0 cc0_scratch2 scratch2_ix 1 (pz 1 c) _ (off4_1 c) _) (sem_at 1 cc0_scratch3 scratch3_ix 1 (zc c) _ (off5_s c) _) (O := ow c 7) rfl) $$ [U1 P11 HO]
  · isplitr; · iexact HR
    isplitl [U1]; · iexact U1
    isplitl [P11]; · iexact P11
    iexact HO
  iintro ⟨Q11, HO⟩
  iapply (done c)
  iapply HQ
  isplitl [C0]; · iexact C0
  isplitl [C3]; · iexact C3
  isplitl [C2]; · iexact C2
  isplitl [HO]; · iexact HO
  isplitl [Q01]; · iexact Q01
  iexact Q11

/-- Three copies more. -/
theorem part4 (v2 v5 v30 v96 v97 : BitVec 32) {Q : _ → sProp 𝕄} :
    iprop(records m K c ∗ uvPts c (pz 1 c) (wuvB m c) ∗ path (F := F) c 2 1 ∗ ows c (ow c 7) ∗ ctPts c (pz 3 c) (ctV m c) ∗ path (F := F) c 0 3 ∗ ukPts c (pz 3 c) (wukB m c) ∗ path (F := F) c 1 3
      ∗ (∀ u v, (ows c (ow c 4) ∗ crd (F := F) c 0 2 (pz 1 c) ∗ crd (F := F) c 0 0 (pz 3 c) ∗ crd (F := F) c 0 1 (pz 3 c)) -∗ Q ⟨u, v⟩))
      ⊢ wpc c (P4 (F := F) c v2 v5 v30 v96 v97) Q := by
  simp only [P4, k0_part4_eq_skeleton]
  unfold k0_part4_skel
  simp only [Prog.lift, Prog.bind_op, Prog.bind_ret, Prog.pure_eq_ret]
  iintro ⟨#HR, V1, P21, HO, C3, P03, U3, P13, HQ⟩
  iapply (send_uv m K c 1 (by decide) (dev6_eq c) (slotV_at (zc c) _ (off9_s c) _) (sem_at 0 cc0_scratch2 scratch2_ix 2 (pz 1 c) _ (off7_1 c) _) (sem_at 1 cc0_scratch3 scratch3_ix 2 (zc c) _ (off8_s c) _) (O := ow c 6) rfl) $$ [V1 P21 HO]
  · isplitr; · iexact HR
    isplitl [V1]; · iexact V1
    isplitl [P21]; · iexact P21
    iexact HO
  iintro ⟨Q21, HO⟩
  iapply (send_ct m K c 3 (by decide) (dev7_eq c) (slotC_at (zc c) _ (off3_s c) _) (sem_at 0 cc0_scratch2 scratch2_ix 0 (pz 3 c) _ (off1_3 c) _) (sem_at 1 cc0_scratch3 scratch3_ix 0 (zc c) _ (off2_s c) _) (O := ow c 5) rfl) $$ [C3 P03 HO]
  · isplitr; · iexact HR
    isplitl [C3]; · iexact C3
    isplitl [P03]; · iexact P03
    iexact HO
  iintro ⟨Q03, HO⟩
  iapply (send_uk m K c 3 (by decide) (dev8_eq c) (slotK_at (zc c) _ (off6_s c) _) (sem_at 0 cc0_scratch2 scratch2_ix 1 (pz 3 c) _ (off4_3 c) _) (sem_at 1 cc0_scratch3 scratch3_ix 1 (zc c) _ (off5_s c) _) (O := ow c 4) rfl) $$ [U3 P13 HO]
  · isplitr; · iexact HR
    isplitl [U3]; · iexact U3
    isplitl [P13]; · iexact P13
    iexact HO
  iintro ⟨Q13, HO⟩
  iapply (done c)
  iapply HQ
  isplitl [HO]; · iexact HO
  isplitl [Q21]; · iexact Q21
  isplitl [Q03]; · iexact Q03
  iexact Q13

/-- Three copies more. -/
theorem part5 (v2 v5 v30 v41 v130 v131 : BitVec 32) {Q : _ → sProp 𝕄} :
    iprop(records m K c ∗ uvPts c (pz 3 c) (wuvB m c) ∗ path (F := F) c 2 3 ∗ ows c (ow c 4) ∗ ctPts c (pz 2 c) (ctV m c) ∗ path (F := F) c 0 2 ∗ ukPts c (pz 2 c) (wukB m c) ∗ path (F := F) c 1 2
      ∗ (∀ u v, (ows c (ow c 1) ∗ crd (F := F) c 0 2 (pz 3 c) ∗ crd (F := F) c 0 0 (pz 2 c) ∗ crd (F := F) c 0 1 (pz 2 c)) -∗ Q ⟨u, v⟩))
      ⊢ wpc c (P5 (F := F) c v2 v5 v30 v41 v130 v131) Q := by
  simp only [P5, k0_part5_eq_skeleton]
  unfold k0_part5_skel
  simp only [Prog.lift, Prog.bind_op, Prog.bind_ret, Prog.pure_eq_ret]
  iintro ⟨#HR, V3, P23, HO, C2, P02, U2, P12, HQ⟩
  iapply (send_uv m K c 3 (by decide) (dev9_eq c) (slotV_at (zc c) _ (off9_s c) _) (sem_at 0 cc0_scratch2 scratch2_ix 2 (pz 3 c) _ (off7_3 c) _) (sem_at 1 cc0_scratch3 scratch3_ix 2 (zc c) _ (off8_s c) _) (O := ow c 3) rfl) $$ [V3 P23 HO]
  · isplitr; · iexact HR
    isplitl [V3]; · iexact V3
    isplitl [P23]; · iexact P23
    iexact HO
  iintro ⟨Q23, HO⟩
  iapply (send_ct m K c 2 (by decide) (dev10_eq c) (slotC_at (zc c) _ (off3_s c) _) (sem_at 0 cc0_scratch2 scratch2_ix 0 (pz 2 c) _ (off1_2 c) _) (sem_at 1 cc0_scratch3 scratch3_ix 0 (zc c) _ (off2_s c) _) (O := ow c 2) rfl) $$ [C2 P02 HO]
  · isplitr; · iexact HR
    isplitl [C2]; · iexact C2
    isplitl [P02]; · iexact P02
    iexact HO
  iintro ⟨Q02, HO⟩
  iapply (send_uk m K c 2 (by decide) (dev11_eq c) (slotK_at (zc c) _ (off6_s c) _) (sem_at 0 cc0_scratch2 scratch2_ix 1 (pz 2 c) _ (off4_2 c) _) (sem_at 1 cc0_scratch3 scratch3_ix 1 (zc c) _ (off5_s c) _) (O := ow c 1) rfl) $$ [U2 P12 HO]
  · isplitr; · iexact HR
    isplitl [U2]; · iexact U2
    isplitl [P12]; · iexact P12
    iexact HO
  iintro ⟨Q12, HO⟩
  iapply (done c)
  iapply HQ
  isplitl [HO]; · iexact HO
  isplitl [Q23]; · iexact Q23
  isplitl [Q02]; · iexact Q02
  iexact Q12

/-- The last copy; this device's own part of the keys and values; the first wait. -/
theorem part6 (v2 v5 v19 v41 v165 z : BitVec 32) (f4 f5 : FVec F S1024x2048 .f32) {Q : _ → sProp 𝕄} :
    iprop(records m K c ∗ uvPts c (pz 2 c) (wuvB m c) ∗ path (F := F) c 2 2 ∗ ows c (ow c 1) ∗ sh c cc0_scratch0 (zc c) (ctV m c) ∗ sh c cc0_stg2_0 (zc c) (wukB m c) ∗ pt c cc0_stg4_0 f4 ∗ sh c cc0_stg3_0 (zc c) (wuvB m c) ∗ pt c cc0_stg5_0 f5 ∗ crd (F := F) c 1 0 (pz 1 c) ∗ pos (F := F) c 0 1 0 (pz 1 c)
      ∗ ((ows c 0 ∗ crd (F := F) c 0 2 (pz 2 c) ∗ sh c cc0_scratch0 (zc c) (ctV m c) ∗ sh c cc0_stg2_0 (zc c) (wukB m c) ∗ pt c cc0_stg4_0 (kc1 m c) ∗ sh c cc0_stg3_0 (zc c) (wuvB m c) ∗ pt c cc0_stg5_0 (vc1 m c) ∗ pos (F := F) c 1 1 0 (pz 1 c) ∗ lnd m c 0 (pz 1 c)) -∗ Q ⟨⟩))
      ⊢ wpc c (P6 (F := F) c v2 v5 v19 v41 v165 z) Q := by
  simp only [P6, k0_part6_eq_skeleton]
  unfold k0_part6_skel
  simp only [Prog.lift, Prog.bind_op, Prog.bind_ret, Prog.pure_eq_ret]
  iintro ⟨#HR, V2, P22, HO, C0, U0, G4, V0, G5, R01, B01, HQ⟩
  iapply (send_uv m K c 2 (by decide) (dev12_eq c) (slotV_at (zc c) _ (off9_s c) _) (sem_at 0 cc0_scratch2 scratch2_ix 2 (pz 2 c) _ (off7_2 c) _) (sem_at 1 cc0_scratch3 scratch3_ix 2 (zc c) _ (off8_s c) _) (O := 0) rfl) $$ [V2 P22 HO]
  · isplitr; · iexact HR
    isplitl [V2]; · iexact V2
    isplitl [P22]; · iexact P22
    iexact HO
  iintro ⟨Q22, HO⟩
  iapply (ldw c (Memref.whole cc0_scratch0) (ShareLeaves.leaf 2 fullShare (zc c)) (ctV m c) (g := ctV m c) rfl) $$ C0; iintro C0
  iapply (ldw c (Memref.whole cc0_stg2_0) (ShareLeaves.leaf 2 fullShare (zc c)) (wukB m c) (g := wukB m c) rfl) $$ U0; iintro U0
  iapply (ldd c (Memref.whole cc0_stg4_0) _) $$ G4; iintro G4
  iapply (sto c (Memref.whole cc0_stg4_0) _ (put_all cc0_stg4_0 _ _ _)) $$ G4; iintro G4
  iapply (ldw c (Memref.whole cc0_stg3_0) (ShareLeaves.leaf 2 fullShare (zc c)) (wuvB m c) (g := wuvB m c) rfl) $$ V0; iintro V0
  iapply (ldd c (Memref.whole cc0_stg5_0) _) $$ G5; iintro G5
  iapply (sto c (Memref.whole cc0_stg5_0) _ (put_all cc0_stg5_0 _ _ _)) $$ G5; iintro G5
  iapply (wait_x m K c 1 0 (pz 1 c) (pz_ne 1 (by decide) c) (sem_at 1 cc0_scratch3 scratch3_ix 0 (pz 1 c) _ (off1_1 c) _) (credit_c (slotC_at (pz 1 c) _ (off10_1 c) _))) $$ [R01 B01 HO]
  · isplitr; · iexact HR
    isplitl [R01]; · iexact R01
    isplitl [B01]; · iexact B01
    iexact HO
  iintro ⟨HO, B01, Hp⟩
  ihave I01 := (Entails.of_eq (xPay_l m c 0 (pz 1 c))) $$ Hp
  iapply (done c)
  iapply HQ
  isplitl [HO]; · iexact HO
  isplitl [Q22]; · iexact Q22
  isplitl [C0]; · iexact C0
  isplitl [U0]; · iexact U0
  isplitl [G4]; · iexact G4
  isplitl [V0]; · iexact V0
  isplitl [G5]; · iexact G5
  isplitl [B01]; · iexact B01
  iexact I01

end Cert.KernelIdeal.Run

end
-- ==== Proof.RunKernelIdeal.Back.lean ====
/-
# The pieces after the copies

The waits, and the four parts of the keys and of the values, as they are added.
-/
module

public import proofs.«01_k».proof.Proof.RunKernelIdeal.Front

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-- The first peer's weights land; its part of the keys. -/
theorem part7 (v2 v5 v19 : BitVec 32) {Q : _ → sProp 𝕄} :
    iprop(records m K c ∗ crd (F := F) c 1 1 (pz 1 c) ∗ pos (F := F) c 0 1 1 (pz 1 c) ∗ ows c 0 ∗ crd (F := F) c 1 2 (pz 1 c) ∗ pos (F := F) c 0 1 2 (pz 1 c) ∗ lnd m c 0 (pz 1 c) ∗ pt c cc0_stg4_0 (kc1 m c) ∗ pt c cc0_stg5_0 (vc1 m c)
      ∗ ((pos (F := F) c 1 1 1 (pz 1 c) ∗ ows c 0 ∗ lnd m c 1 (pz 1 c) ∗ pos (F := F) c 1 1 2 (pz 1 c) ∗ lnd m c 2 (pz 1 c) ∗ lnd m c 0 (pz 1 c) ∗ pt c cc0_stg4_0 (kc2 m c) ∗ pt c cc0_stg5_0 (vc1 m c)) -∗ Q ⟨k0_pay6 (ctIn m c (pz 1 c)), vc1 m c⟩))
      ⊢ wpc c (P7 (F := F) c v2 v5 v19) Q := by
  simp only [P7, k0_part7_eq_skeleton]
  unfold k0_part7_skel
  simp only [Prog.lift, Prog.bind_op, Prog.bind_ret, Prog.pure_eq_ret]
  iintro ⟨#HR, R11, B11, HO, R21, B21, I01, G4, G5, HQ⟩
  iapply (wait_x m K c 1 1 (pz 1 c) (pz_ne 1 (by decide) c) (sem_at 1 cc0_scratch3 scratch3_ix 1 (pz 1 c) _ (off4_1 c) _) (credit_k (slotK_at (pz 1 c) _ (off11_1 c) _))) $$ [R11 B11 HO]
  · isplitr; · iexact HR
    isplitl [R11]; · iexact R11
    isplitl [B11]; · iexact B11
    iexact HO
  iintro ⟨HO, B11, Hp⟩
  ihave I11 := (Entails.of_eq (xPay_l m c 1 (pz 1 c))) $$ Hp
  iapply (wait_x m K c 1 2 (pz 1 c) (pz_ne 1 (by decide) c) (sem_at 1 cc0_scratch3 scratch3_ix 2 (pz 1 c) _ (off7_1 c) _) (credit_v (slotV_at (pz 1 c) _ (off12_1 c) _))) $$ [R21 B21 HO]
  · isplitr; · iexact HR
    isplitl [R21]; · iexact R21
    isplitl [B21]; · iexact B21
    iexact HO
  iintro ⟨HO, B21, Hp⟩
  ihave I21 := (Entails.of_eq (xPay_l m c 2 (pz 1 c))) $$ Hp
  iapply (ldi c (Memref.whole cc0_scratch1) fullShare (rcv m c) (g := rcv m c) rfl (off13_1 c) (slotC_inb _) (window_c m c (pz 1 c) (slotC_inb _)) (part_rect 0 (pz 1 c) rfl rfl (Nat.le_refl _) (Nat.le_refl _))) $$ I01; iintro I01
  iapply (ldw c (Memref.whole cc0_stg4_0) fullShare (kc1 m c) (g := kc1 m c) rfl) $$ G4; iintro G4
  iapply (ldi c (Memref.whole cc0_scratch1) fullShare (rcv m c) (g := rcv m c) rfl (off14_1 c) (slotK_inb _) (window_k m c (pz 1 c) (slotK_inb _)) (part_rect 1 (pz 1 c) rfl rfl (Nat.le_refl _) (Nat.le_refl _))) $$ I11; iintro I11
  iapply (ldd c (Memref.whole cc0_stg4_0) _) $$ G4; iintro G4
  iapply (sto c (Memref.whole cc0_stg4_0) _ (put_all cc0_stg4_0 _ _ _)) $$ G4; iintro G4
  iapply (ldw c (Memref.whole cc0_stg5_0) fullShare (vc1 m c) (g := vc1 m c) rfl) $$ G5; iintro G5
  iapply (done c)
  iapply HQ
  isplitl [B11]; · iexact B11
  isplitl [HO]; · iexact HO
  isplitl [I11]; · iexact I11
  isplitl [B21]; · iexact B21
  isplitl [I21]; · iexact I21
  isplitl [I01]; · iexact I01
  isplitl [G4]; · iexact G4
  iexact G5

/-- Its part of the values; the next peer's latents and key rows land. -/
theorem part8 (v2 v5 v19 v30 : BitVec 32) {Q : _ → sProp 𝕄} :
    iprop(records m K c ∗ lnd m c 2 (pz 1 c) ∗ pt c cc0_stg5_0 (vc1 m c) ∗ crd (F := F) c 1 0 (pz 3 c) ∗ pos (F := F) c 0 1 0 (pz 3 c) ∗ ows c 0 ∗ crd (F := F) c 1 1 (pz 3 c) ∗ pos (F := F) c 0 1 1 (pz 3 c)
      ∗ (∀ u, (lnd m c 2 (pz 1 c) ∗ pt c cc0_stg5_0 (vc2 m c) ∗ pos (F := F) c 1 1 0 (pz 3 c) ∗ ows c 0 ∗ lnd m c 0 (pz 3 c) ∗ pos (F := F) c 1 1 1 (pz 3 c) ∗ lnd m c 1 (pz 3 c)) -∗ Q u))
      ⊢ wpc c (P8 (F := F) c v2 v5 v19 v30 (k0_pay6 (ctIn m c (pz 1 c))) (vc1 m c)) Q := by
  simp only [P8, k0_part8_eq_skeleton]
  unfold k0_part8_skel
  simp only [Prog.lift, Prog.bind_op, Prog.bind_ret, Prog.pure_eq_ret]
  iintro ⟨#HR, I21, G5, R03, B03, HO, R13, B13, HQ⟩
  iapply (ldi c (Memref.whole cc0_scratch1) fullShare (rcv m c) (g := rcv m c) rfl (off15_1 c) (slotV_inb _) (window_v m c (pz 1 c) (slotV_inb _)) (part_rect 2 (pz 1 c) rfl rfl (Nat.le_refl _) (Nat.le_refl _))) $$ I21; iintro I21
  iapply (ldd c (Memref.whole cc0_stg5_0) _) $$ G5; iintro G5
  iapply (sto c (Memref.whole cc0_stg5_0) _ (put_all cc0_stg5_0 _ _ _)) $$ G5; iintro G5
  iapply (wait_x m K c 1 0 (pz 3 c) (pz_ne 3 (by decide) c) (sem_at 1 cc0_scratch3 scratch3_ix 0 (pz 3 c) _ (off1_3 c) _) (credit_c (slotC_at (pz 3 c) _ (off10_3 c) _))) $$ [R03 B03 HO]
  · isplitr; · iexact HR
    isplitl [R03]; · iexact R03
    isplitl [B03]; · iexact B03
    iexact HO
  iintro ⟨HO, B03, Hp⟩
  ihave I03 := (Entails.of_eq (xPay_l m c 0 (pz 3 c))) $$ Hp
  iapply (wait_x m K c 1 1 (pz 3 c) (pz_ne 3 (by decide) c) (sem_at 1 cc0_scratch3 scratch3_ix 1 (pz 3 c) _ (off4_3 c) _) (credit_k (slotK_at (pz 3 c) _ (off11_3 c) _))) $$ [R13 B13 HO]
  · isplitr; · iexact HR
    isplitl [R13]; · iexact R13
    isplitl [B13]; · iexact B13
    iexact HO
  iintro ⟨HO, B13, Hp⟩
  ihave I13 := (Entails.of_eq (xPay_l m c 1 (pz 3 c))) $$ Hp
  iapply (done c)
  iapply HQ
  isplitl [I21]; · iexact I21
  isplitl [G5]; · iexact G5
  isplitl [B03]; · iexact B03
  isplitl [HO]; · iexact HO
  isplitl [I03]; · iexact I03
  isplitl [B13]; · iexact B13
  iexact I13

/-- The second peer's part of the keys and of the values. -/
theorem part9 (v2 v5 v30 v41 v258 : BitVec 32) {Q : _ → sProp 𝕄} :
    iprop(records m K c ∗ crd (F := F) c 1 2 (pz 3 c) ∗ pos (F := F) c 0 1 2 (pz 3 c) ∗ ows c 0 ∗ lnd m c 0 (pz 3 c) ∗ pt c cc0_stg4_0 (kc2 m c) ∗ lnd m c 1 (pz 3 c) ∗ pt c cc0_stg5_0 (vc2 m c)
      ∗ ((pos (F := F) c 1 1 2 (pz 3 c) ∗ ows c 0 ∗ lnd m c 2 (pz 3 c) ∗ lnd m c 0 (pz 3 c) ∗ pt c cc0_stg4_0 (kc3 m c) ∗ lnd m c 1 (pz 3 c) ∗ pt c cc0_stg5_0 (vc3 m c)) -∗ Q ⟨⟩))
      ⊢ wpc c (P9 (F := F) c v2 v5 v30 v41 v258) Q := by
  simp only [P9, k0_part9_eq_skeleton]
  unfold k0_part9_skel
  simp only [Prog.lift, Prog.bind_op, Prog.bind_ret, Prog.pure_eq_ret]
  iintro ⟨#HR, R23, B23, HO, I03, G4, I13, G5, HQ⟩
  iapply (wait_x m K c 1 2 (pz 3 c) (pz_ne 3 (by decide) c) (sem_at 1 cc0_scratch3 scratch3_ix 2 (pz 3 c) _ (off7_3 c) _) (credit_v (slotV_at (pz 3 c) _ (off12_3 c) _))) $$ [R23 B23 HO]
  · isplitr; · iexact HR
    isplitl [R23]; · iexact R23
    isplitl [B23]; · iexact B23
    iexact HO
  iintro ⟨HO, B23, Hp⟩
  ihave I23 := (Entails.of_eq (xPay_l m c 2 (pz 3 c))) $$ Hp
  iapply (ldi c (Memref.whole cc0_scratch1) fullShare (rcv m c) (g := rcv m c) rfl (off13_3 c) (slotC_inb _) (window_c m c (pz 3 c) (slotC_inb _)) (part_rect 0 (pz 3 c) rfl rfl (Nat.le_refl _) (Nat.le_refl _))) $$ I03; iintro I03
  iapply (ldw c (Memref.whole cc0_stg4_0) fullShare (kc2 m c) (g := kc2 m c) rfl) $$ G4; iintro G4
  iapply (ldi c (Memref.whole cc0_scratch1) fullShare (rcv m c) (g := rcv m c) rfl (off14_3 c) (slotK_inb _) (window_k m c (pz 3 c) (slotK_inb _)) (part_rect 1 (pz 3 c) rfl rfl (Nat.le_refl _) (Nat.le_refl _))) $$ I13; iintro I13
  iapply (ldd c (Memref.whole cc0_stg4_0) _) $$ G4; iintro G4
  iapply (sto c (Memref.whole cc0_stg4_0) _ (put_all cc0_stg4_0 _ _ _)) $$ G4; iintro G4
  iapply (ldw c (Memref.whole cc0_stg5_0) fullShare (vc2 m c) (g := vc2 m c) rfl) $$ G5; iintro G5
  iapply (ldi c (Memref.whole cc0_scratch1) fullShare (rcv m c) (g := rcv m c) rfl (off15_3 c) (slotV_inb _) (window_v m c (pz 3 c) (slotV_inb _)) (part_rect 2 (pz 3 c) rfl rfl (Nat.le_refl _) (Nat.le_refl _))) $$ I23; iintro I23
  iapply (ldd c (Memref.whole cc0_stg5_0) _) $$ G5; iintro G5
  iapply (sto c (Memref.whole cc0_stg5_0) _ (put_all cc0_stg5_0 _ _ _)) $$ G5; iintro G5
  iapply (done c)
  iapply HQ
  isplitl [B23]; · iexact B23
  isplitl [HO]; · iexact HO
  isplitl [I23]; · iexact I23
  isplitl [I03]; · iexact I03
  isplitl [G4]; · iexact G4
  isplitl [I13]; · iexact I13
  iexact G5

/-- The third peer's latents and weights land. -/
theorem part10 (v2 v5 v41 : BitVec 32) {Q : _ → sProp 𝕄} :
    iprop(records m K c ∗ crd (F := F) c 1 0 (pz 2 c) ∗ pos (F := F) c 0 1 0 (pz 2 c) ∗ ows c 0 ∗ crd (F := F) c 1 1 (pz 2 c) ∗ pos (F := F) c 0 1 1 (pz 2 c) ∗ crd (F := F) c 1 2 (pz 2 c) ∗ pos (F := F) c 0 1 2 (pz 2 c) ∗ pt c cc0_stg4_0 (kc3 m c)
      ∗ ((pos (F := F) c 1 1 0 (pz 2 c) ∗ ows c 0 ∗ lnd m c 0 (pz 2 c) ∗ pos (F := F) c 1 1 1 (pz 2 c) ∗ lnd m c 1 (pz 2 c) ∗ pos (F := F) c 1 1 2 (pz 2 c) ∗ lnd m c 2 (pz 2 c) ∗ pt c cc0_stg4_0 (kc3 m c)) -∗ Q ⟨k0_pay12 (ctIn m c (pz 2 c)), k0_pay13 (kc3 m c), k0_pay14 (ctIn m c (pz 2 c)) (ukIn m c (pz 2 c))⟩))
      ⊢ wpc c (P10 (F := F) c v2 v5 v41) Q := by
  simp only [P10, k0_part10_eq_skeleton]
  unfold k0_part10_skel
  simp only [Prog.lift, Prog.bind_op, Prog.bind_ret, Prog.pure_eq_ret]
  iintro ⟨#HR, R02, B02, HO, R12, B12, R22, B22, G4, HQ⟩
  iapply (wait_x m K c 1 0 (pz 2 c) (pz_ne 2 (by decide) c) (sem_at 1 cc0_scratch3 scratch3_ix 0 (pz 2 c) _ (off1_2 c) _) (credit_c (slotC_at (pz 2 c) _ (off10_2 c) _))) $$ [R02 B02 HO]
  · isplitr; · iexact HR
    isplitl [R02]; · iexact R02
    isplitl [B02]; · iexact B02
    iexact HO
  iintro ⟨HO, B02, Hp⟩
  ihave I02 := (Entails.of_eq (xPay_l m c 0 (pz 2 c))) $$ Hp
  iapply (wait_x m K c 1 1 (pz 2 c) (pz_ne 2 (by decide) c) (sem_at 1 cc0_scratch3 scratch3_ix 1 (pz 2 c) _ (off4_2 c) _) (credit_k (slotK_at (pz 2 c) _ (off11_2 c) _))) $$ [R12 B12 HO]
  · isplitr; · iexact HR
    isplitl [R12]; · iexact R12
    isplitl [B12]; · iexact B12
    iexact HO
  iintro ⟨HO, B12, Hp⟩
  ihave I12 := (Entails.of_eq (xPay_l m c 1 (pz 2 c))) $$ Hp
  iapply (wait_x m K c 1 2 (pz 2 c) (pz_ne 2 (by decide) c) (sem_at 1 cc0_scratch3 scratch3_ix 2 (pz 2 c) _ (off7_2 c) _) (credit_v (slotV_at (pz 2 c) _ (off12_2 c) _))) $$ [R22 B22 HO]
  · isplitr; · iexact HR
    isplitl [R22]; · iexact R22
    isplitl [B22]; · iexact B22
    iexact HO
  iintro ⟨HO, B22, Hp⟩
  ihave I22 := (Entails.of_eq (xPay_l m c 2 (pz 2 c))) $$ Hp
  iapply (ldi c (Memref.whole cc0_scratch1) fullShare (rcv m c) (g := rcv m c) rfl (off13_2 c) (slotC_inb _) (window_c m c (pz 2 c) (slotC_inb _)) (part_rect 0 (pz 2 c) rfl rfl (Nat.le_refl _) (Nat.le_refl _))) $$ I02; iintro I02
  iapply (ldw c (Memref.whole cc0_stg4_0) fullShare (kc3 m c) (g := kc3 m c) rfl) $$ G4; iintro G4
  iapply (ldi c (Memref.whole cc0_scratch1) fullShare (rcv m c) (g := rcv m c) rfl (off14_2 c) (slotK_inb _) (window_k m c (pz 2 c) (slotK_inb _)) (part_rect 1 (pz 2 c) rfl rfl (Nat.le_refl _) (Nat.le_refl _))) $$ I12; iintro I12
  iapply (done c)
  iapply HQ
  isplitl [B02]; · iexact B02
  isplitl [HO]; · iexact HO
  isplitl [I02]; · iexact I02
  isplitl [B12]; · iexact B12
  isplitl [I12]; · iexact I12
  isplitl [B22]; · iexact B22
  isplitl [I22]; · iexact I22
  iexact G4

/-- Its part of the keys and of the values; the sources lent to the first peer come back. -/
theorem part11 (v41 : BitVec 32) {Q : _ → sProp 𝕄} :
    iprop(records m K c ∗ pt c cc0_stg4_0 (kc3 m c) ∗ pt c cc0_stg5_0 (vc3 m c) ∗ lnd m c 2 (pz 2 c) ∗ crd (F := F) c 0 0 (pz 1 c) ∗ pos (F := F) c 0 0 0 (pz 1 c) ∗ ows c 0 ∗ crd (F := F) c 0 1 (pz 1 c) ∗ pos (F := F) c 0 0 1 (pz 1 c) ∗ crd (F := F) c 0 2 (pz 1 c) ∗ pos (F := F) c 0 0 2 (pz 1 c)
      ∗ ((pt c cc0_stg4_0 (kc4 m c) ∗ pt c cc0_stg5_0 (vc4 m c) ∗ lnd m c 2 (pz 2 c) ∗ pos (F := F) c 1 0 0 (pz 1 c) ∗ ows c 0 ∗ ctPts c (pz 1 c) (ctV m c) ∗ pos (F := F) c 1 0 1 (pz 1 c) ∗ ukPts c (pz 1 c) (wukB m c) ∗ pos (F := F) c 1 0 2 (pz 1 c) ∗ uvPts c (pz 1 c) (wuvB m c)) -∗ Q ⟨⟩))
      ⊢ wpc c (P11 (F := F) c v41 (k0_pay12 (ctIn m c (pz 2 c))) (k0_pay13 (kc3 m c)) (k0_pay14 (ctIn m c (pz 2 c)) (ukIn m c (pz 2 c)))) Q := by
  simp only [P11, k0_part11_eq_skeleton]
  unfold k0_part11_skel
  simp only [Prog.lift, Prog.bind_op, Prog.bind_ret, Prog.pure_eq_ret]
  iintro ⟨#HR, G4, G5, I22, Q01, A01, HO, Q11, A11, Q21, A21, HQ⟩
  iapply (ldd c (Memref.whole cc0_stg4_0) _) $$ G4; iintro G4
  iapply (sto c (Memref.whole cc0_stg4_0) _ (put_all cc0_stg4_0 _ _ _)) $$ G4; iintro G4
  iapply (ldw c (Memref.whole cc0_stg5_0) fullShare (vc3 m c) (g := vc3 m c) rfl) $$ G5; iintro G5
  iapply (ldi c (Memref.whole cc0_scratch1) fullShare (rcv m c) (g := rcv m c) rfl (off15_2 c) (slotV_inb _) (window_v m c (pz 2 c) (slotV_inb _)) (part_rect 2 (pz 2 c) rfl rfl (Nat.le_refl _) (Nat.le_refl _))) $$ I22; iintro I22
  iapply (ldd c (Memref.whole cc0_stg5_0) _) $$ G5; iintro G5
  iapply (sto c (Memref.whole cc0_stg5_0) _ (put_all cc0_stg5_0 _ _ _)) $$ G5; iintro G5
  iapply (wait_x m K c 0 0 (pz 1 c) (pz_ne 1 (by decide) c) (sem_at 0 cc0_scratch2 scratch2_ix 0 (pz 1 c) _ (off1_1 c) _) (dst := ctM) rfl) $$ [Q01 A01 HO]
  · isplitr; · iexact HR
    isplitl [Q01]; · iexact Q01
    isplitl [A01]; · iexact A01
    iexact HO
  iintro ⟨HO, A01, Hp⟩
  ihave C1 := (Entails.of_eq (xPay_0 m c (pz 1 c))) $$ Hp
  iapply (wait_x m K c 0 1 (pz 1 c) (pz_ne 1 (by decide) c) (sem_at 0 cc0_scratch2 scratch2_ix 1 (pz 1 c) _ (off4_1 c) _) (dst := ukM) rfl) $$ [Q11 A11 HO]
  · isplitr; · iexact HR
    isplitl [Q11]; · iexact Q11
    isplitl [A11]; · iexact A11
    iexact HO
  iintro ⟨HO, A11, Hp⟩
  ihave U1 := (Entails.of_eq (xPay_1 m c (pz 1 c))) $$ Hp
  iapply (wait_x m K c 0 2 (pz 1 c) (pz_ne 1 (by decide) c) (sem_at 0 cc0_scratch2 scratch2_ix 2 (pz 1 c) _ (off7_1 c) _) (dst := uvM) rfl) $$ [Q21 A21 HO]
  · isplitr; · iexact HR
    isplitl [Q21]; · iexact Q21
    isplitl [A21]; · iexact A21
    iexact HO
  iintro ⟨HO, A21, Hp⟩
  ihave V1 := (Entails.of_eq (xPay_2 m c (pz 1 c))) $$ Hp
  iapply (done c)
  iapply HQ
  isplitl [G4]; · iexact G4
  isplitl [G5]; · iexact G5
  isplitl [I22]; · iexact I22
  isplitl [A01]; · iexact A01
  isplitl [HO]; · iexact HO
  isplitl [C1]; · iexact C1
  isplitl [A11]; · iexact A11
  isplitl [U1]; · iexact U1
  isplitl [A21]; · iexact A21
  iexact V1

end Cert.KernelIdeal.Run

end
-- ==== Proof.RunKernelIdeal.Body.lean ====
/-
# The body

The pieces of the first call in order, from the first signal to the last wait.
-/
module

public import proofs.«01_k».proof.Proof.RunKernelIdeal.Back

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-- What a device starts with towards the peer at distance `r`: the tokens of what it does there, its positions at the
    semaphores of that peer, and the credit for the three that the peer's copies raise; -/
def peer0 (r : Fin 4) : sProp 𝕄 :=
  iprop(dutyTok ER (barCell (pd r c)) 0 (zc c) ∗ toks (F := F) c r
    ∗ (pos (F := F) c 0 0 0 (pz r c) ∗ pos (F := F) c 0 0 1 (pz r c) ∗ pos (F := F) c 0 0 2 (pz r c))
    ∗ (pos (F := F) c 0 1 0 (pz r c) ∗ pos (F := F) c 0 1 1 (pz r c) ∗ pos (F := F) c 0 1 2 (pz r c))
    ∗ (crd (F := F) c 1 0 (pz r c) ∗ crd (F := F) c 1 1 (pz r c) ∗ crd (F := F) c 1 2 (pz r c)))
/-- and what it ends with: those positions, one round on. -/
def peer1 (r : Fin 4) : sProp 𝕄 :=
  iprop((pos (F := F) c 1 0 0 (pz r c) ∗ pos (F := F) c 1 0 1 (pz r c) ∗ pos (F := F) c 1 0 2 (pz r c))
    ∗ (pos (F := F) c 1 1 0 (pz r c) ∗ pos (F := F) c 1 1 1 (pz r c) ∗ pos (F := F) c 1 1 2 (pz r c)))
/-- The staged arguments. -/
def inputs : sProp 𝕄 :=
  iprop(pt c cc0_stg0_0 (xB m c) ∗ pt c cc0_stg1_0 (wdkvB m c) ∗ pt c cc0_stg2_0 (wukB m c) ∗ pt c cc0_stg3_0 (wuvB m c))
/-- The buffers of the call that are not staged, at whatever they hold. -/
def bufs : sProp 𝕄 := iprop((∃ f, pt (F := F) c cc0_scratch0 f) ∗ (∃ f, pt (F := F) c cc0_scratch1 f))

theorem mk_place (r : Fin 4) (f : Buf (Elt F) ((c : Thread nD τ).loc cc0_scratch1)) :
    iprop(rPts c 0 (pz r c) f ∗ rPts c 1 (pz r c) f ∗ rPts c 2 (pz r c) f) ⊢ place (F := F) c r := by
  unfold place
  iintro ⟨H0, H1, H2⟩
  isplitl [H0]; · iexists f; iexact H0
  isplitl [H1]; · iexists f; iexact H1
  iexists f; iexact H2
theorem lnd_place (r : Fin 4) : iprop(lnd m c 0 (pz r c) ∗ lnd m c 1 (pz r c) ∗ lnd m c 2 (pz r c)) ⊢ place (F := F) c r :=
  mk_place c r (rcv m c)

theorem bind_step {α β : Type} (p : Prog (TpuEff nD τ sig (Elt F) Λ₀ .tc) α) (k : α → Prog (TpuEff nD τ sig (Elt F) Λ₀ .tc) β) {Q : β → sProp 𝕄} :
    wpc c p (fun a => wpc c (k a) Q) ⊢ wpc c (p >>= k) Q := by
  unfold wpc
  rw [wp_bind]

set_option maxHeartbeats 3200000 in
/-- All but the last wait. -/
theorem run12 {Q : Dev nD → sProp 𝕄} :
    iprop(records m K c ∗ levAts L lv ∗ ows c (ow c 12) ∗ cred (tallyAt (barCell c) () 3) ∗ atPos ER (barCell c) 0 ∅ 0
      ∗ peer0 (F := F) c 1 ∗ peer0 (F := F) c 3 ∗ peer0 (F := F) c 2 ∗ inputs m c ∗ bufs (F := F) c ∗ (∃ f, pt (F := F) c cc0_stg4_0 f) ∗ (∃ f, pt (F := F) c cc0_stg5_0 f)
      ∗ ((ows c 0 ∗ atPos ER (barCell c) 1 ∅ 0 ∗ crd (F := F) c 0 2 (pz 2 c) ∗ pos (F := F) c 0 0 2 (pz 2 c) ∗ pos (F := F) c 1 0 0 (pz 1 c) ∗ pos (F := F) c 1 0 1 (pz 1 c) ∗ pos (F := F) c 1 0 2 (pz 1 c) ∗ pos (F := F) c 1 0 0 (pz 3 c) ∗ pos (F := F) c 1 0 1 (pz 3 c) ∗ pos (F := F) c 1 0 2 (pz 3 c) ∗ pos (F := F) c 1 0 0 (pz 2 c) ∗ pos (F := F) c 1 0 1 (pz 2 c) ∗ pos (F := F) c 1 1 0 (pz 1 c) ∗ pos (F := F) c 1 1 1 (pz 1 c) ∗ pos (F := F) c 1 1 2 (pz 1 c) ∗ pos (F := F) c 1 1 0 (pz 3 c) ∗ pos (F := F) c 1 1 1 (pz 3 c) ∗ pos (F := F) c 1 1 2 (pz 3 c) ∗ pos (F := F) c 1 1 0 (pz 2 c) ∗ pos (F := F) c 1 1 1 (pz 2 c) ∗ pos (F := F) c 1 1 2 (pz 2 c) ∗ pt c cc0_stg0_0 (xB m c) ∗ pt c cc0_stg1_0 (wdkvB m c) ∗ pt c cc0_stg4_0 (kc4 m c) ∗ pt c cc0_stg5_0 (vc4 m c) ∗ sh c cc0_scratch0 (zc c) (ctV m c) ∗ ctPts c (pz 1 c) (ctV m c) ∗ ctPts c (pz 3 c) (ctV m c) ∗ ctPts c (pz 2 c) (ctV m c) ∗ sh c cc0_stg2_0 (zc c) (wukB m c) ∗ ukPts c (pz 1 c) (wukB m c) ∗ ukPts c (pz 3 c) (wukB m c) ∗ ukPts c (pz 2 c) (wukB m c) ∗ sh c cc0_stg3_0 (zc c) (wuvB m c) ∗ uvPts c (pz 1 c) (wuvB m c) ∗ uvPts c (pz 3 c) (wuvB m c) ∗ (∃ f, pt (F := F) c cc0_scratch1 f)) -∗ Q c))
      ⊢ wpc c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) Q := by
  simp only [k0_part12_eq_skeleton]
  unfold k0_part12_skel
  unfold peer0 inputs bufs
  iintro ⟨#HR, #Hlev, HO, CB, AB, ⟨TB1, TK1, ⟨A01, A11, A21⟩, ⟨B01, B11, B21⟩, ⟨R01, R11, R21⟩⟩, ⟨TB3, TK3, ⟨A03, A13, A23⟩, ⟨B03, B13, B23⟩, ⟨R03, R13, R23⟩⟩, ⟨TB2, TK2, ⟨A02, A12, A22⟩, ⟨B02, B12, B22⟩, ⟨R02, R12, R22⟩⟩, ⟨X, D, U, V⟩, ⟨⟨%fc, S0⟩, ⟨%fr, S1⟩⟩, ⟨%f4, G4⟩, ⟨%f5, G5⟩, HQ⟩
  ihave S1 := (Entails.of_eq (r_split c fr)) $$ S1
  icases S1 with ⟨L0, L1, L3, L2⟩
  ihave PL1 := (mk_place c 1 fr) $$ L1
  ihave PL3 := (mk_place c 3 fr) $$ L3
  ihave PL2 := (mk_place c 2 fr) $$ L2
  ihave Hs := (Entails.of_eq (uk_split c (wukB m c))) $$ U
  icases Hs with ⟨U0, U1, U3, U2⟩
  ihave Hs := (Entails.of_eq (uv_split c (wuvB m c))) $$ V
  icases Hs with ⟨V0, V1, V3, V2⟩
  iapply (bind_step c)
  iapply (part1 c)
  iintro %v2 %v5 %v19 %v30 %v33 %v34
  iapply (bind_step c)
  iapply (part2 m K c v2 v5 v19 v30 v33 v34)
  isplitr; · iexact HR
  isplitr; · iexact Hlev
  isplitl [HO]; · iexact HO
  isplitl [TB1]; · iexact TB1
  isplitl [PL1]; · iexact PL1
  isplitl [TB3]; · iexact TB3
  isplitl [PL3]; · iexact PL3
  isplitl [TB2]; · iexact TB2
  isplitl [PL2]; · iexact PL2
  isplitl [CB]; · iexact CB
  isplitl [AB]; · iexact AB
  isplitl [X]; · iexact X
  isplitl [D]; · iexact D
  iintro %v41 ⟨HO, AB, BP1, BP3, BP2, X, D⟩
  ihave Hs := (paths c 1) $$ [BP1 TK1]
  · isplitl [BP1]; · iexact BP1
    iexact TK1
  icases Hs with ⟨P01, P11, P21⟩
  ihave Hs := (paths c 3) $$ [BP3 TK3]
  · isplitl [BP3]; · iexact BP3
    iexact TK3
  icases Hs with ⟨P03, P13, P23⟩
  ihave Hs := (paths c 2) $$ [BP2 TK2]
  · isplitl [BP2]; · iexact BP2
    iexact TK2
  icases Hs with ⟨P02, P12, P22⟩
  iapply (bind_step c)
  iapply (part3 m K c v2 v5 v19 fc)
  isplitr; · iexact HR
  isplitl [S0]; · iexact S0
  isplitl [P01]; · iexact P01
  isplitl [HO]; · iexact HO
  isplitl [U1]; · iexact U1
  isplitl [P11]; · iexact P11
  iintro %v96 %v97 ⟨C0, C3, C2, HO, Q01, Q11⟩
  iapply (bind_step c)
  iapply (part4 m K c v2 v5 v30 v96 v97)
  isplitr; · iexact HR
  isplitl [V1]; · iexact V1
  isplitl [P21]; · iexact P21
  isplitl [HO]; · iexact HO
  isplitl [C3]; · iexact C3
  isplitl [P03]; · iexact P03
  isplitl [U3]; · iexact U3
  isplitl [P13]; · iexact P13
  iintro %v130 %v131 ⟨HO, Q21, Q03, Q13⟩
  iapply (bind_step c)
  iapply (part5 m K c v2 v5 v30 v41 v130 v131)
  isplitr; · iexact HR
  isplitl [V3]; · iexact V3
  isplitl [P23]; · iexact P23
  isplitl [HO]; · iexact HO
  isplitl [C2]; · iexact C2
  isplitl [P02]; · iexact P02
  isplitl [U2]; · iexact U2
  isplitl [P12]; · iexact P12
  iintro %v165 %z ⟨HO, Q23, Q02, Q12⟩
  iapply (bind_step c)
  iapply (part6 m K c v2 v5 v19 v41 v165 z f4 f5)
  isplitr; · iexact HR
  isplitl [V2]; · iexact V2
  isplitl [P22]; · iexact P22
  isplitl [HO]; · iexact HO
  isplitl [C0]; · iexact C0
  isplitl [U0]; · iexact U0
  isplitl [G4]; · iexact G4
  isplitl [V0]; · iexact V0
  isplitl [G5]; · iexact G5
  isplitl [R01]; · iexact R01
  isplitl [B01]; · iexact B01
  iintro ⟨HO, Q22, C0, U0, G4, V0, G5, B01, I01⟩
  iapply (bind_step c)
  iapply (part7 m K c v2 v5 v19)
  isplitr; · iexact HR
  isplitl [R11]; · iexact R11
  isplitl [B11]; · iexact B11
  isplitl [HO]; · iexact HO
  isplitl [R21]; · iexact R21
  isplitl [B21]; · iexact B21
  isplitl [I01]; · iexact I01
  isplitl [G4]; · iexact G4
  isplitl [G5]; · iexact G5
  iintro ⟨B11, HO, I11, B21, I21, I01, G4, G5⟩
  iapply (bind_step c)
  iapply (part8 m K c v2 v5 v19 v30)
  isplitr; · iexact HR
  isplitl [I21]; · iexact I21
  isplitl [G5]; · iexact G5
  isplitl [R03]; · iexact R03
  isplitl [B03]; · iexact B03
  isplitl [HO]; · iexact HO
  isplitl [R13]; · iexact R13
  isplitl [B13]; · iexact B13
  iintro %v258 ⟨I21, G5, B03, HO, I03, B13, I13⟩
  iapply (bind_step c)
  iapply (part9 m K c v2 v5 v30 v41 v258)
  isplitr; · iexact HR
  isplitl [R23]; · iexact R23
  isplitl [B23]; · iexact B23
  isplitl [HO]; · iexact HO
  isplitl [I03]; · iexact I03
  isplitl [G4]; · iexact G4
  isplitl [I13]; · iexact I13
  isplitl [G5]; · iexact G5
  iintro ⟨B23, HO, I23, I03, G4, I13, G5⟩
  iapply (bind_step c)
  iapply (part10 m K c v2 v5 v41)
  isplitr; · iexact HR
  isplitl [R02]; · iexact R02
  isplitl [B02]; · iexact B02
  isplitl [HO]; · iexact HO
  isplitl [R12]; · iexact R12
  isplitl [B12]; · iexact B12
  isplitl [R22]; · iexact R22
  isplitl [B22]; · iexact B22
  isplitl [G4]; · iexact G4
  iintro ⟨B02, HO, I02, B12, I12, B22, I22, G4⟩
  iapply (bind_step c)
  iapply (part11 m K c v41)
  isplitr; · iexact HR
  isplitl [G4]; · iexact G4
  isplitl [G5]; · iexact G5
  isplitl [I22]; · iexact I22
  isplitl [Q01]; · iexact Q01
  isplitl [A01]; · iexact A01
  isplitl [HO]; · iexact HO
  isplitl [Q11]; · iexact Q11
  isplitl [A11]; · iexact A11
  isplitl [Q21]; · iexact Q21
  isplitl [A21]; · iexact A21
  iintro ⟨G4, G5, I22, A01, HO, C1, A11, U1, A21, V1⟩
  simp only [Prog.lift, Prog.bind_op, Prog.bind_ret, Prog.pure_eq_ret]
  iapply (wait_x m K c 0 0 (pz 3 c) (pz_ne 3 (by decide) c) (sem_at 0 cc0_scratch2 scratch2_ix 0 (pz 3 c) _ (off1_3 c) _) (dst := ctM) rfl) $$ [Q03 A03 HO]
  · isplitr; · iexact HR
    isplitl [Q03]; · iexact Q03
    isplitl [A03]; · iexact A03
    iexact HO
  iintro ⟨HO, A03, Hp⟩
  ihave C3 := (Entails.of_eq (xPay_0 m c (pz 3 c))) $$ Hp
  iapply (wait_x m K c 0 1 (pz 3 c) (pz_ne 3 (by decide) c) (sem_at 0 cc0_scratch2 scratch2_ix 1 (pz 3 c) _ (off4_3 c) _) (dst := ukM) rfl) $$ [Q13 A13 HO]
  · isplitr; · iexact HR
    isplitl [Q13]; · iexact Q13
    isplitl [A13]; · iexact A13
    iexact HO
  iintro ⟨HO, A13, Hp⟩
  ihave U3 := (Entails.of_eq (xPay_1 m c (pz 3 c))) $$ Hp
  iapply (wait_x m K c 0 2 (pz 3 c) (pz_ne 3 (by decide) c) (sem_at 0 cc0_scratch2 scratch2_ix 2 (pz 3 c) _ (off7_3 c) _) (dst := uvM) rfl) $$ [Q23 A23 HO]
  · isplitr; · iexact HR
    isplitl [Q23]; · iexact Q23
    isplitl [A23]; · iexact A23
    iexact HO
  iintro ⟨HO, A23, Hp⟩
  ihave V3 := (Entails.of_eq (xPay_2 m c (pz 3 c))) $$ Hp
  iapply (wait_x m K c 0 0 (pz 2 c) (pz_ne 2 (by decide) c) (sem_at 0 cc0_scratch2 scratch2_ix 0 (pz 2 c) _ (off1_2 c) _) (dst := ctM) rfl) $$ [Q02 A02 HO]
  · isplitr; · iexact HR
    isplitl [Q02]; · iexact Q02
    isplitl [A02]; · iexact A02
    iexact HO
  iintro ⟨HO, A02, Hp⟩
  ihave C2 := (Entails.of_eq (xPay_0 m c (pz 2 c))) $$ Hp
  iapply (wait_x m K c 0 1 (pz 2 c) (pz_ne 2 (by decide) c) (sem_at 0 cc0_scratch2 scratch2_ix 1 (pz 2 c) _ (off4_2 c) _) (dst := ukM) rfl) $$ [Q12 A12 HO]
  · isplitr; · iexact HR
    isplitl [Q12]; · iexact Q12
    isplitl [A12]; · iexact A12
    iexact HO
  iintro ⟨HO, A12, Hp⟩
  ihave U2 := (Entails.of_eq (xPay_1 m c (pz 2 c))) $$ Hp
  iapply (done c)
  iapply HQ
  isplitl [HO]; · iexact HO
  isplitl [AB]; · iexact AB
  isplitl [Q22]; · iexact Q22
  isplitl [A22]; · iexact A22
  isplitl [A01]; · iexact A01
  isplitl [A11]; · iexact A11
  isplitl [A21]; · iexact A21
  isplitl [A03]; · iexact A03
  isplitl [A13]; · iexact A13
  isplitl [A23]; · iexact A23
  isplitl [A02]; · iexact A02
  isplitl [A12]; · iexact A12
  isplitl [B01]; · iexact B01
  isplitl [B11]; · iexact B11
  isplitl [B21]; · iexact B21
  isplitl [B03]; · iexact B03
  isplitl [B13]; · iexact B13
  isplitl [B23]; · iexact B23
  isplitl [B02]; · iexact B02
  isplitl [B12]; · iexact B12
  isplitl [B22]; · iexact B22
  isplitl [X]; · iexact X
  isplitl [D]; · iexact D
  isplitl [G4]; · iexact G4
  isplitl [G5]; · iexact G5
  isplitl [C0]; · iexact C0
  isplitl [C1]; · iexact C1
  isplitl [C3]; · iexact C3
  isplitl [C2]; · iexact C2
  isplitl [U0]; · iexact U0
  isplitl [U1]; · iexact U1
  isplitl [U3]; · iexact U3
  isplitl [U2]; · iexact U2
  isplitl [V0]; · iexact V0
  isplitl [V1]; · iexact V1
  isplitl [V3]; · iexact V3
  iapply (r_join c fr)
  isplitl [L0]
  · icases L0 with ⟨L00, L01, L02⟩
    isplitl [L00]; · iexists fr; iexact L00
    isplitl [L01]; · iexists fr; iexact L01
    iexists fr; iexact L02
  isplitl [I01 I11 I21]
  · iapply (lnd_place m c 1)
    isplitl [I01]; · iexact I01
    isplitl [I11]; · iexact I11
    iexact I21
  isplitl [I03 I13 I23]
  · iapply (lnd_place m c 3)
    isplitl [I03]; · iexact I03
    isplitl [I13]; · iexact I13
    iexact I23
  iapply (lnd_place m c 2)
  isplitl [I02]; · iexact I02
  isplitl [I12]; · iexact I12
  iexact I22

/-- The body, from the first signal to the last wait. -/
theorem body_run {Q : PUnit → sProp 𝕄} :
    iprop(records m K c ∗ levAts L lv ∗ ows c (ow c 12) ∗ cred (tallyAt (barCell c) () 3) ∗ atPos ER (barCell c) 0 ∅ 0
      ∗ peer0 (F := F) c 1 ∗ peer0 (F := F) c 3 ∗ peer0 (F := F) c 2 ∗ inputs m c ∗ bufs (F := F) c ∗ (∃ f, pt (F := F) c cc0_stg4_0 f) ∗ (∃ f, pt (F := F) c cc0_stg5_0 f)
      ∗ ((ows c 0 ∗ atPos ER (barCell c) 1 ∅ 0 ∗ peer1 (F := F) c 1 ∗ peer1 (F := F) c 3 ∗ peer1 (F := F) c 2
          ∗ inputs m c ∗ bufs (F := F) c ∗ pt c cc0_stg4_0 (kc4 m c) ∗ pt c cc0_stg5_0 (vc4 m c)) -∗ Q ⟨⟩))
      ⊢ wpc c (PB (F := F)) Q := by
  simp only [PB, cc0__kv_body_eq_skeleton]
  unfold cc0__kv_body_skel
  iintro ⟨#HR, Hlev, HO, CB, AB, E1, E3, E2, HI, HB, G4, G5, HQ⟩
  iapply (bind_step c)
  iapply (run12 m K c)
  isplitr; · iexact HR
  isplitl [Hlev]; · iexact Hlev
  isplitl [HO]; · iexact HO
  isplitl [CB]; · iexact CB
  isplitl [AB]; · iexact AB
  isplitl [E1]; · iexact E1
  isplitl [E3]; · iexact E3
  isplitl [E2]; · iexact E2
  isplitl [HI]; · iexact HI
  isplitl [HB]; · iexact HB
  isplitl [G4]; · iexact G4
  isplitl [G5]; · iexact G5
  iintro ⟨HO, AB, Q22, A22, A01, A11, A21, A03, A13, A23, A02, A12, B01, B11, B21, B03, B13, B23, B02, B12, B22, X, D, G4, G5, C0, C1, C3, C2, U0, U1, U3, U2, V0, V1, V3, L0⟩
  simp only [Prog.lift, Prog.bind_op, Prog.bind_ret, Prog.pure_eq_ret]
  iapply (wait_x m K c 0 2 (pz 2 c) (pz_ne 2 (by decide) c) (sem_at 0 cc0_scratch2 scratch2_ix 2 (pz 2 c) _ (off7_2 c) _) (dst := uvM) rfl) $$ [Q22 A22 HO]
  · isplitr; · iexact HR
    isplitl [Q22]; · iexact Q22
    isplitl [A22]; · iexact A22
    iexact HO
  iintro ⟨HO, A22, Hp⟩
  ihave V2 := (Entails.of_eq (xPay_2 m c (pz 2 c))) $$ Hp
  iapply (done c)
  iapply HQ
  unfold peer1 inputs bufs
  isplitl [HO]; · iexact HO
  isplitl [AB]; · iexact AB
  isplitl [A01 A11 A21 B01 B11 B21]
  · isplitl [A01 A11 A21]
    · isplitl [A01]; · iexact A01
      isplitl [A11]; · iexact A11
      iexact A21
    isplitl [B01]; · iexact B01
    isplitl [B11]; · iexact B11
    iexact B21
  isplitl [A03 A13 A23 B03 B13 B23]
  · isplitl [A03 A13 A23]
    · isplitl [A03]; · iexact A03
      isplitl [A13]; · iexact A13
      iexact A23
    isplitl [B03]; · iexact B03
    isplitl [B13]; · iexact B13
    iexact B23
  isplitl [A02 A12 A22 B02 B12 B22]
  · isplitl [A02 A12 A22]
    · isplitl [A02]; · iexact A02
      isplitl [A12]; · iexact A12
      iexact A22
    isplitl [B02]; · iexact B02
    isplitl [B12]; · iexact B12
    iexact B22
  isplitl [X D U0 U1 U3 U2 V0 V1 V3 V2]
  · isplitl [X]; · iexact X
    isplitl [D]; · iexact D
    isplitl [U0 U1 U3 U2]
    · rw [uk_split]
      isplitl [U0]; · iexact U0
      isplitl [U1]; · iexact U1
      isplitl [U3]; · iexact U3
      iexact U2
    rw [uv_split]
    isplitl [V0]; · iexact V0
    isplitl [V1]; · iexact V1
    isplitl [V3]; · iexact V3
    iexact V2
  isplitl [C0 C1 C3 C2 L0]
  · isplitl [C0 C1 C3 C2]
    · iexists (ctV m c)
      rw [ct_split]
      isplitl [C0]; · iexact C0
      isplitl [C1]; · iexact C1
      isplitl [C3]; · iexact C3
      iexact C2
    iexact L0
  isplitl [G4]; · iexact G4
  iexact G5

end Cert.KernelIdeal.Run

end
-- ==== Proof.RunKernelIdeal.Tokens.lean ====
/-
# The semaphores and the tokens at launch

Every duty of the protocol has one token. The tokens are made with the semaphore they belong to, and dealt to the
device that does the duty: those of a barrier and of the landings go over to the other end of the connection. The
barrier's semaphores are there from the start; the transfer semaphores are the first call's own, and are opened when
that call is entered.
-/
module

public import proofs.«01_k».proof.Proof.RunKernelIdeal.Body

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

theorem opt_eq {A : Type} [Fintype A] (Φ : Option A → sProp 𝕄) :
    bigSep Finset.univ Φ = iprop(Φ none ∗ bigSep Finset.univ fun a => Φ (some a)) := by
  rw [bigSep_univ_equiv (Equiv.optionEquivSumPUnit A).symm Φ, bigSep_univ_sum]
  have h : bigSep Finset.univ (fun _ : PUnit.{1} => Φ none) = Φ none := by rw [Finset.univ_unique, bigSep_singleton]
  exact (BI.Entails.antisymm sep_comm sep_comm).trans (congrArg (fun X : sProp 𝕄 => iprop(X ∗ bigSep Finset.univ fun a => Φ (some a))) h)

/-! ## Cells -/

theorem xs_inj {q q' : Xi} (h : xs q.1 q.2.1 q.2.2 = xs q'.1 q'.2.1 q'.2.2) : q = q' := by
  obtain ⟨a, j, w⟩ := q; obtain ⟨a', j', w'⟩ := q'
  have h1 : a = a' := by have e := congrArg xa h; dsimp only at e; rwa [xa_xs, xa_xs] at e
  have h2 : j = j' := by have e := congrArg xj h; dsimp only at e; rwa [xj_xs, xj_xs] at e
  have h3 : w = w' := by have e := congrArg xw h; dsimp only at e; rwa [xw_xs, xw_xs] at e
  rw [h1, h2, h3]
theorem bar_injective : Function.Injective (barCell : Dev nD → GSem nD τ sig) := fun c c' h => congrArg (fun g : GSem nD τ sig => g.1.1) h
/-- A transfer semaphore of a device. -/
def xc (p : Dev nD × Xi) : GSem nD τ sig := xCell p.2.1 p.2.2.1 p.2.2.2 p.1
theorem xc_injective : Function.Injective xc := by
  rintro ⟨c, q⟩ ⟨c', q'⟩ h
  have h1 : c = c' := congrArg (fun g : GSem nD τ sig => g.1.1) h
  have h2 : SemLoc.dma (sig := sig) (xs q.1 q.2.1 q.2.2) = .dma (xs q'.1 q'.2.1 q'.2.2) := congrArg Prod.snd h
  rw [h1, xs_inj (SemLoc.dma.inj h2)]
def barCells : Finset (GSem nD τ sig) := Finset.univ.map ⟨barCell, bar_injective⟩
def xCells : Finset (GSem nD τ sig) := Finset.univ.map ⟨xc, xc_injective⟩
theorem cells_disjoint : Disjoint barCells xCells := by
  rw [Finset.disjoint_left]
  intro g h h'
  obtain ⟨c, -, rfl⟩ := Finset.mem_map.mp h
  obtain ⟨p, -, e⟩ := Finset.mem_map.mp h'
  exact absurd (congrArg Prod.snd e) (fun h => by cases h)
theorem bars_eq (Φ : GSem nD τ sig → sProp 𝕄) : bigSep barCells Φ = bigSep Finset.univ fun c : Dev nD => Φ (barCell c) := by
  unfold barCells; rw [bigSep_map]; rfl
theorem xs_eq (Φ : GSem nD τ sig → sProp 𝕄) : bigSep xCells Φ = bigSep Finset.univ fun c : Dev nD => bigSep Finset.univ fun q : Xi => Φ (xc (c, q)) := by
  unfold xCells; rw [bigSep_map, bigSep_univ_prod]; rfl
theorem cells_eq (Φ : GSem nD τ sig → sProp 𝕄) : bigSep (barCells ∪ xCells) Φ = bigSep Finset.univ fun p : Dev nD × Ci => Φ (cl p) := by
  rw [bigSep_union cells_disjoint, bars_eq, xs_eq, bigSep_univ_prod]
  simp only [opt_eq]
  rw [bigSep_sep']
  rfl

/-- The first call's own semaphores that are not for staging. -/
def osem (q : Xi) : SemLoc sig := .dma (xs q.1 q.2.1 q.2.2)
theorem ownSemFacts : Pipeline.OwnSemFacts spec0 osem := by decide

theorem ownSems_eq : (Pipeline.ownSems0 (Ix := Unit) (Name := ℕ) (U := UU) (Lvl := ℕ) (Val := Elt F) (τ := τ) osem c : sProp 𝕄)
    = bigSep Finset.univ fun q : Xi => semVal (xCell q.1 q.2.1 q.2.2 c) 0 := rfl
theorem unscopedSems_eq : (unscopedSems0 c : sProp 𝕄) = semVal (barCell c) 0 := by
  unfold unscopedSems0; rw [bigSep_eq_bigSepL_of_eq [SemLoc.reg barS] (by decide) (by decide)]; rfl

/-! ## Peer by peer -/

/-- What belongs to the peer `w`, of things that are one for each transfer semaphore. -/
def row (Φ : Fin 2 → Fin 3 → Fin 4 → sProp 𝕄) (w : Fin 4) : sProp 𝕄 := iprop((Φ 0 0 w ∗ Φ 0 1 w ∗ Φ 0 2 w) ∗ (Φ 1 0 w ∗ Φ 1 1 w ∗ Φ 1 2 w))
theorem two_eq (Φ : Fin 2 → sProp 𝕄) : bigSep Finset.univ Φ = iprop(Φ 0 ∗ Φ 1) :=
  bigSep_univ_eq_bigSepL [0, 1] (by decide) (by decide) Φ
/-- The transfer semaphores, the peer first. -/
def byPeer : Fin 4 × Fin 2 × Fin 3 ≃ Xi where
  toFun p := (p.2.1, p.2.2, p.1)
  invFun q := (q.2.2, q.1, q.2.1)
  left_inv _ := rfl
  right_inv _ := rfl
theorem x_split (Φ : Fin 2 → Fin 3 → Fin 4 → sProp 𝕄) : (bigSep Finset.univ fun q : Xi => Φ q.1 q.2.1 q.2.2)
    = iprop(row Φ (zc c) ∗ row Φ (pz 1 c) ∗ row Φ (pz 3 c) ∗ row Φ (pz 2 c)) := by
  rw [bigSep_univ_equiv byPeer, bigSep_univ_prod, peers_eq c]
  simp only [bigSep_univ_prod, two_eq, things_eq]
  rfl

/-! ## Duty tokens -/

/-- The duties: of the barrier of `c`, one for each coordinate; of each transfer semaphore, one. -/
def tok (p : Dev nD × (Fin 4 ⊕ Xi)) : GSem nD τ sig × ℕ × Fin 4 := match p.2 with
  | .inl w => (barCell p.1, 0, w)
  | .inr q => (xc (p.1, q), 0, 0)
theorem tok_injective : Function.Injective tok := by
  rintro ⟨c, o⟩ ⟨c', o'⟩ h
  have h1 : c = c' := by
    rcases o with _ | _ <;> rcases o' with _ | _ <;> exact congrArg (fun g : GSem nD τ sig × ℕ × Fin 4 => g.1.1.1) h
  rcases o with w | q <;> rcases o' with w' | q'
  · have h2 : w = w' := congrArg (fun g : GSem nD τ sig × ℕ × Fin 4 => g.2.2) h
    rw [h1, h2]
  · exact absurd (congrArg (fun g : GSem nD τ sig × ℕ × Fin 4 => g.1.2) h) (fun h' => by cases h')
  · exact absurd (congrArg (fun g : GSem nD τ sig × ℕ × Fin 4 => g.1.2) h) (fun h' => by cases h')
  · have h2 : SemLoc.dma (sig := sig) (xs q.1 q.2.1 q.2.2) = .dma (xs q'.1 q'.2.1 q'.2.2) := congrArg (fun g : GSem nD τ sig × ℕ × Fin 4 => g.1.2) h
    rw [h1, xs_inj (SemLoc.dma.inj h2)]
def allToks : Finset (GSem nD τ sig × ℕ × Fin 4) := Finset.univ.map ⟨tok, tok_injective⟩

/-- The tokens of a device's own semaphores, as made. -/
def made : sProp 𝕄 :=
  iprop((bigSep Finset.univ fun w : Fin 4 => dutyTok ER (barCell c) 0 w) ∗ (bigSep Finset.univ fun q : Xi => dutyTok ER (xc (c, q)) 0 0))
theorem made_eq : bigSep allToks (fun x => (dutyTok ER x.1 x.2.1 x.2.2 : sProp 𝕄)) = bigSep Finset.univ fun c : Dev nD => made c := by
  unfold allToks; rw [bigSep_map, bigSep_univ_prod]
  refine bigSep_congr fun c _ => ?_
  rw [bigSep_univ_sum]
  rfl
/-- The token of what a device does at a transfer semaphore: its own for a departure, the peer's for a landing. -/
def payX (a : Fin 2) (j : Fin 3) (w : Fin 4) : sProp 𝕄 := match a with
  | 0 => dutyTok ER (xCell 0 j w c) 0 0
  | 1 => dutyTok ER (xCell 1 j (zc c) (at_ w c)) 0 0
/-- The tokens of what a device does. -/
def payToks : sProp 𝕄 :=
  iprop((bigSep Finset.univ fun w : Fin 4 => dutyTok ER (barCell (at_ w c)) 0 (zc c)) ∗ (bigSep Finset.univ fun q : Xi => payX (F := F) c q.1 q.2.1 q.2.2))

/-- Exchanging the two ends of a connection. -/
def flip : Dev nD × Fin 4 ≃ Dev nD × Fin 4 where
  toFun p := (at_ p.2 p.1, zc p.1)
  invFun p := (at_ p.2 p.1, zc p.1)
  left_inv p := by obtain ⟨c, w⟩ := p; exact Prod.ext (at_back w c) (zc_at w c)
  right_inv p := by obtain ⟨c, w⟩ := p; exact Prod.ext (at_back w c) (zc_at w c)
/-- The same for the landings only. -/
def cross (p : Dev nD × Xi) : Dev nD × Xi := match p.2.1 with
  | 0 => p
  | 1 => (at_ p.2.2.2 p.1, 1, p.2.2.1, zc p.1)
theorem cross_cross (p : Dev nD × Xi) : cross (cross p) = p := by
  obtain ⟨c, a, j, w⟩ := p
  match a with
  | 0 => rfl
  | 1 =>
    show ((at_ (zc c) (at_ w c), (1 : Fin 2), j, zc (at_ w c)) : Dev nD × Xi) = (c, 1, j, w)
    rw [at_back, zc_at]
def crossE : Dev nD × Xi ≃ Dev nD × Xi := ⟨cross, cross, cross_cross, cross_cross⟩
theorem flip_sep (Ψ : Dev nD → Fin 4 → sProp 𝕄) :
    (bigSep Finset.univ fun c : Dev nD => bigSep Finset.univ fun w : Fin 4 => Ψ c w)
      = bigSep Finset.univ fun c : Dev nD => bigSep Finset.univ fun w : Fin 4 => Ψ (at_ w c) (zc c) := by
  rw [← bigSep_univ_prod (fun p : Dev nD × Fin 4 => Ψ p.1 p.2), bigSep_univ_equiv flip, bigSep_univ_prod]
  rfl
theorem cross_sep : (bigSep Finset.univ fun c : Dev nD => bigSep Finset.univ fun q : Xi => (dutyTok ER (xc (c, q)) 0 0 : sProp 𝕄))
    = bigSep Finset.univ fun c : Dev nD => bigSep Finset.univ fun q : Xi => payX (F := F) c q.1 q.2.1 q.2.2 := by
  rw [← bigSep_univ_prod (fun p : Dev nD × Xi => (dutyTok ER (xc p) 0 0 : sProp 𝕄)), bigSep_univ_equiv crossE, bigSep_univ_prod]
  refine bigSep_congr fun c _ => bigSep_congr fun q _ => ?_
  obtain ⟨a, j, w⟩ := q
  match a with
  | 0 => rfl
  | 1 => rfl
theorem toks_dealt : (bigSep Finset.univ fun c : Dev nD => (made c : sProp 𝕄)) ⊢ bigSep Finset.univ fun c : Dev nD => payToks c := by
  unfold made payToks
  simp only [bigSep_sep']
  rw [flip_sep (F := F) (fun c w => dutyTok ER (barCell c) 0 w), cross_sep]

/-- The tokens of what a device does at and for the peer at distance `r`. -/
def give (r : Fin 4) : sProp 𝕄 := iprop(dutyTok ER (barCell (pd r c)) 0 (zc c) ∗ toks (F := F) c r)
theorem row_toks (r : Fin 4) : row (payX (F := F) c) (pz r c) ⊢ toks (F := F) c r := by
  unfold row toks
  show iprop((dutyTok ER (xCell 0 0 (pz r c) c) 0 0 ∗ dutyTok ER (xCell 0 1 (pz r c) c) 0 0 ∗ dutyTok ER (xCell 0 2 (pz r c) c) 0 0)
    ∗ (dutyTok ER (xCell 1 0 (zc c) (pd r c)) 0 0 ∗ dutyTok ER (xCell 1 1 (zc c) (pd r c)) 0 0 ∗ dutyTok ER (xCell 1 2 (zc c) (pd r c)) 0 0)) ⊢ _
  iintro ⟨⟨A0, A1, A2⟩, B0, B1, B2⟩
  isplitl [A0 B0]
  · isplitl [A0]; · iexact A0
    iexact B0
  isplitl [A1 B1]
  · isplitl [A1]; · iexact A1
    iexact B1
  isplitl [A2]; · iexact A2
  iexact B2
theorem payToks_give : payToks (F := F) c ⊢ iprop(give (F := F) c 1 ∗ give (F := F) c 3 ∗ give (F := F) c 2) := by
  unfold payToks give
  rw [peers_eq c, x_split c (payX (F := F) c)]
  iintro ⟨⟨-, b1, b3, b2⟩, -, x1, x3, x2⟩
  isplitl [b1 x1]
  · isplitl [b1]; · iexact b1
    iapply (row_toks (F := F) c 1); iexact x1
  isplitl [b3 x3]
  · isplitl [b3]; · iexact b3
    iapply (row_toks (F := F) c 3); iexact x3
  isplitl [b2]; · iexact b2
  iapply (row_toks (F := F) c 2); iexact x2

/-! ## What the launch makes -/

/-- What a device gets for itself: its position at its barrier, the right to open its transfer semaphores, and the
    tokens of what it does. -/
def linear : sProp 𝕄 :=
  iprop(atPos ER (barCell c) 0 ∅ 0 ∗ (bigSep Finset.univ fun q : Xi => openTok ER (xc (c, q))) ∗ payToks (F := F) c)
def ghost : sProp 𝕄 := iprop(∃ K, base m K ∗ linear (F := F) c)

theorem sep_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro : iprop(base m K ∗ linear c) ⊢ ghost m c := by
  unfold ghost; iintro H; iexists K; iexact H

/-- From every device's barrier at zero to every device's share of the protocol. -/
theorem fund_all : iprop((bigSep Finset.univ fun c : Dev nD => semVal (barCell c) 0) ∗ BI.own (ER (launchOf barCells xCells allToks)))
    ⊢ (|={Set.univ}=> bigSep Finset.univ (ghost m) : sProp 𝕄) := by
  iintro ⟨Hv, Hu⟩
  imod (Rounds.fund_launch ER (rd m) cells_disjoint (fun g _ h => h) allToks) $$ [Hv Hu] with ⟨%κ, -, #Hinv, #Hr, Hat, Hopen, Htok⟩
  · isplitl [Hv]
    · iapply (Entails.of_eq (bars_eq (F := F) (fun g => semVal g 0)).symm); iexact Hv
    · iexact Hu
  imodintro
  ihave #HI := (Entails.of_eq (cells_eq (F := F) (fun g => cellInv ER (rd m) (κ g) g))) $$ Hinv
  ihave #HR := (Entails.of_eq (bars_eq (F := F) (fun g => reached ER g 0))) $$ Hr
  ihave Hat := (Entails.of_eq (bars_eq (F := F) (fun g => atPos ER g 0 ∅ 0))) $$ Hat
  ihave Hopen := (Entails.of_eq (xs_eq (F := F) (fun g => openTok ER g))) $$ Hopen
  ihave Htok := (Entails.of_eq (made_eq (F := F))) $$ Htok
  ihave Htk := (toks_dealt (F := F)) $$ Htok
  iapply (sep_all (R := base m fun p => κ (cl p)) fun c _ => ghost_intro m (fun p => κ (cl p)) c)
  isplitr
  · unfold base; isplitl; · iexact HI
    iexact HR
  · unfold linear
    iapply (Entails.of_eq (bigSep_sep' Finset.univ (fun c : Dev nD => (atPos ER (barCell c) 0 ∅ 0 : sProp 𝕄)) (fun c => iprop((bigSep Finset.univ fun q : Xi => openTok ER (xc (c, q))) ∗ payToks (F := F) c))).symm)
    isplitl [Hat]; · iexact Hat
    iapply (Entails.of_eq (bigSep_sep' Finset.univ (fun c : Dev nD => (bigSep Finset.univ fun q : Xi => openTok ER (xc (c, q)) : sProp 𝕄)) (fun c => payToks (F := F) c)).symm)
    isplitl [Hopen]; · iexact Hopen
    iexact Htk

/-! ## The credits -/

theorem pd_iff (r : Fin 4) (d c : Dev nD) : pd r d = c ↔ d = pd (-r) c := by
  constructor
  · rintro rfl
    show d = at_ (zc (at_ (pz r d) d) + -r) (at_ (pz r d) d)
    rw [at_at, zc_at, show pz r d + -r = zc d by unfold pz; generalize zc d = z; revert r z; decide, at_self]
  · rintro rfl
    show at_ (zc (at_ (pz (-r) c) c) + r) (at_ (pz (-r) c) c) = c
    rw [at_at, zc_at, show pz (-r) c + r = zc c by unfold pz; generalize zc c = z; revert r z; decide, at_self]

/-- If each device owes `n` to the device at distance `r`, each is owed `n` by the device at distance `-r`. -/
theorem one_cred (r : Fin 4) (sm : Dev nD → SemLoc sig) (n : ℕ) :
    (Pipeline.launchCred (fun d => tallyAt (((pd r d : Dev nD) : Thread nD τ), sm d) () n) c : sProp 𝕄)
      ⊢ cred (tallyAt ((c : Thread nD τ), sm (pd (-r) c)) () n) := by
  refine (Pipeline.launchCred_elim _ c (sm (pd (-r) c))).trans (Entails.of_eq (congrArg cred ?_))
  unfold tallyAt
  refine congrArg _ (Finsupp.ext fun u => ?_)
  cases u
  rw [Pipeline.launchCredit_owing, Finsupp.single_eq_same, Finset.sum_eq_single (pd (-r) c)]
  · have h : pd r (pd (-r) c) = c := (pd_iff r _ c).mpr rfl
    rw [h]
    exact (tallyAt_apply _ _ _ _ _).trans (if_pos ⟨rfl, rfl⟩)
  · intro d _ hd
    refine (tallyAt_apply _ _ _ _ _).trans (if_neg fun h => hd ((pd_iff r d c).mp ?_))
    exact (congrArg (fun g : GSem nD τ sig => g.1.1) h.1).symm
  · exact fun h => absurd (Finset.mem_univ _) h

/-- What a device is owed at launch by the peer at distance `r`. -/
def cr1 (r : Fin 4) : sProp 𝕄 := iprop(crd (F := F) c 1 0 (pz r c) ∗ crd (F := F) c 1 1 (pz r c) ∗ crd (F := F) c 1 2 (pz r c))

theorem creds : (Pipeline.launchCred O₀ c : sProp 𝕄)
    ⊢ iprop(cred (tallyAt (barCell c) () 3) ∗ cr1 (F := F) c 1 ∗ cr1 (F := F) c 3 ∗ cr1 (F := F) c 2) := by
  have hs (k : ℕ) : (Pipeline.launchCred (fun d => ow d (k + 1)) c : sProp 𝕄) = iprop(Pipeline.launchCred (fun d => ow d k) c ∗ Pipeline.launchCred (fun d => tk d k) c) :=
    Pipeline.launchCred_add (fun d => ow d k) (fun d => tk d k) c
  have hx (r : Fin 4) (j : Fin 3) := one_cred (F := F) c r (fun d => .dma (xs 1 j (zc d))) (N j)
  have hb (r : Fin 4) := one_cred (F := F) c r (fun _ => .reg barS) 1
  show Pipeline.launchCred (fun d => ow d 12) c ⊢ _
  rw [hs 11, hs 10, hs 9, hs 8, hs 7, hs 6, hs 5, hs 4, hs 3, hs 2, hs 1, hs 0]
  iintro ⟨⟨⟨⟨⟨⟨⟨⟨⟨⟨⟨⟨-, H0⟩, H1⟩, H2⟩, H3⟩, H4⟩, H5⟩, H6⟩, H7⟩, H8⟩, H9⟩, H10⟩, H11⟩
  ihave H0 := (show Pipeline.launchCred (fun d => tk d 0) c ⊢ _ from hx 2 2) $$ H0
  ihave H1 := (show Pipeline.launchCred (fun d => tk d 1) c ⊢ _ from hx 2 1) $$ H1
  ihave H2 := (show Pipeline.launchCred (fun d => tk d 2) c ⊢ _ from hx 2 0) $$ H2
  ihave H3 := (show Pipeline.launchCred (fun d => tk d 3) c ⊢ _ from hx 3 2) $$ H3
  ihave H4 := (show Pipeline.launchCred (fun d => tk d 4) c ⊢ _ from hx 3 1) $$ H4
  ihave H5 := (show Pipeline.launchCred (fun d => tk d 5) c ⊢ _ from hx 3 0) $$ H5
  ihave H6 := (show Pipeline.launchCred (fun d => tk d 6) c ⊢ _ from hx 1 2) $$ H6
  ihave H7 := (show Pipeline.launchCred (fun d => tk d 7) c ⊢ _ from hx 1 1) $$ H7
  ihave H8 := (show Pipeline.launchCred (fun d => tk d 8) c ⊢ _ from hx 1 0) $$ H8
  ihave H9 := (show Pipeline.launchCred (fun d => tk d 9) c ⊢ _ from hb 2) $$ H9
  ihave H10 := (show Pipeline.launchCred (fun d => tk d 10) c ⊢ _ from hb 3) $$ H10
  ihave H11 := (show Pipeline.launchCred (fun d => tk d 11) c ⊢ _ from hb 1) $$ H11
  have e2 : zc (pd (-2) c) = pz 2 c := zc_pd _ _
  have e3 : zc (pd (-3) c) = pz 1 c := zc_pd _ _
  have e1 : zc (pd (-1) c) = pz 3 c := zc_pd _ _
  simp only [e1, e2, e3]
  unfold cr1 crd
  isplitl [H9 H10 H11]
  · rw [show (tallyAt (barCell c) () 3 : CellTallies nD τ sig Unit) = (tallyAt (barCell c) () 1 + tallyAt (barCell c) () 1) + tallyAt (barCell c) () 1 by rw [tallyAt_add, tallyAt_add]]
    iapply (cred_add _ _).2
    isplitl [H9 H10]
    · iapply (cred_add _ _).2
      isplitl [H9]; · iexact H9
      iexact H10
    iexact H11
  isplitl [H5 H4 H3]
  · isplitl [H5]; · iexact H5
    isplitl [H4]; · iexact H4
    iexact H3
  isplitl [H8 H7 H6]
  · isplitl [H8]; · iexact H8
    isplitl [H7]; · iexact H7
    iexact H6
  isplitl [H2]; · iexact H2
  isplitl [H1]; · iexact H1
  iexact H0

end Cert.KernelIdeal.Run

end
-- ==== Proof.RunKernelIdeal.Region0.lean ====
/-
# The first call

The body with its pipeline around it: the call is entered with the arrays and the device's share of the protocol, its
own transfer semaphores are opened, the body runs, and they are closed again.
-/
module

public import proofs.«01_k».proof.Proof.RunKernelIdeal.Tokens
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-- At the end every transfer semaphore of the device is at zero again: only those towards itself were never used. -/
def endR (w : Fin 4) : ℕ := if w = zc c then 0 else 1
theorem endR_self : endR c (zc c) = 0 := if_pos rfl
theorem endR_peer (r : Fin 4) (hr : r ≠ 0) : endR c (pz r c) = 1 := if_neg (pz_ne r hr c)
theorem close_x (q : Xi) : iprop(base m K ∗ atPos ER (xc (c, q)) (endR c q.2.2) ∅ 0) ⊢ iprop(|={Set.univ}=> semVal (xc (c, q)) 0 : sProp 𝕄) := by
  have hR : ∀ r, endR c q.2.2 ≤ r → (rd m).duties (xc (c, q)) r = ∅ := by
    intro r hr
    by_cases h : q.2.2 = zc c
    · rcases Nat.eq_zero_or_pos r with rfl | h0
      · unfold xc; dsimp only; rw [h]; exact duties_self m c q.1 q.2.1
      · exact duties_later m _ r h0
    · unfold endR at hr; rw [if_neg h] at hr; exact duties_later m _ r hr
  refine (sep_mono_left (inv_base m K (c, some q))).trans ?_
  exact Rounds.cell_close ER (rd m) (Set.mem_univ (K (c, some q))) (fun h => h) hR
theorem close_all : iprop(base m K ∗ bigSep Finset.univ fun q : Xi => atPos ER (xc (c, q)) (endR c q.2.2) ∅ 0)
    ⊢ iprop(|={Set.univ}=> bigSep Finset.univ fun q : Xi => semVal (xc (c, q)) 0 : sProp 𝕄) :=
  (sep_all fun q _ => close_x m K c q).trans (bigSep_fupd _ _)
/-- and so is the barrier. -/
theorem close_bar : iprop(base m K ∗ atPos ER (barCell c) 1 ∅ 0) ⊢ iprop(|={Set.univ}=> semVal (barCell c) 0 : sProp 𝕄) :=
  (sep_mono_left (inv_base m K (c, none))).trans
    (Rounds.cell_close ER (rd m) (Set.mem_univ (K (c, none))) (fun h => h) (R := 1) (duties_later m (barCell c)))
/-- At the start they are opened. -/
theorem open_x (q : Xi) : iprop(base m K ∗ (openTok ER (xc (c, q)) ∗ semVal (xc (c, q)) 0))
    ⊢ iprop(|={Set.univ}=> (atPos ER (xc (c, q)) 0 ∅ 0 ∗ reached ER (xc (c, q)) 0) : sProp 𝕄) :=
  (sep_mono_left (inv_base m K (c, some q))).trans (Rounds.cell_open ER (rd m) (Set.mem_univ (K (c, some q))))
theorem open_all : iprop(base m K ∗ ((bigSep Finset.univ fun q : Xi => openTok ER (xc (c, q))) ∗ bigSep Finset.univ fun q : Xi => semVal (xc (c, q)) 0))
    ⊢ iprop(|={Set.univ}=> ((bigSep Finset.univ fun q : Xi => atPos ER (xc (c, q)) 0 ∅ 0) ∗ opened (F := F) c) : sProp 𝕄) := by
  have h := (sep_all (S := Finset.univ) (R := base m K) fun q _ => open_x m K c q).trans (bigSep_fupd _ _)
  rw [bigSep_sep', bigSep_sep'] at h
  exact h

theorem post_fupd {α : Type} (p : Prog (TpuEff nD τ sig (Elt F) Λ₀ .tc) α) {Q : α → sProp 𝕄} :
    wpc c p (fun a => iprop(|={Set.univ}=> Q a)) ⊢ wpc c p Q := by
  have h := bind_step (F := F) c p (fun a => .ret a) (Q := Q)
  have e : (p >>= fun a => .ret a) = p := bind_pure p
  rw [e] at h
  exact h

/-! ## The data of the pipeline -/

/-- What a device holds of the protocol before the call, -/
def Tk : sProp 𝕄 := iprop(ghost m c ∗ (cred (tallyAt (barCell c) () 3) ∗ cr1 (F := F) c 1 ∗ cr1 (F := F) c 3 ∗ cr1 (F := F) c 2))
/-- in the call, -/
def Xk : sProp 𝕄 :=
  iprop((∃ K, records m K c ∗ atPos ER (barCell c) 0 ∅ 0 ∗ (bigSep Finset.univ fun q : Xi => atPos ER (xc (c, q)) 0 ∅ 0) ∗ payToks (F := F) c)
    ∗ (cred (tallyAt (barCell c) () 3) ∗ cr1 (F := F) c 1 ∗ cr1 (F := F) c 3 ∗ cr1 (F := F) c 2) ∗ levAts L lv)
/-- and after it. -/
def Yk : sProp 𝕄 := semVal (barCell c) 0

def scr : sProp 𝕄 := Pipeline.scopedRest (Ix := Unit) (Name := ℕ) (U := UU) (Lvl := ℕ) (Val := Elt F) spec0 c
def Φ₀ : sProp 𝕄 := iprop(scr (F := F) c ∗ (∃ r, prngReg c r) ∗ Xk m c)
def Φ₁ : sProp 𝕄 := iprop(scr (F := F) c ∗ (∃ r, prngReg c r) ∗ (bigSep Finset.univ fun q : Xi => semVal (xc (c, q)) 0) ∗ Yk (F := F) c)

def dat0 (c : Dev nD) : Dat τ (Elt F) Unit ℕ UU ℕ cfg0 c where
  A w := V0 m c (Proc.devRef .tc (Pipeline.arrRef spec0 w))
  after w _ := match w with
    | ⟨0, _⟩ => xB m c
    | ⟨1, _⟩ => wdkvB m c
    | ⟨2, _⟩ => wukB m c
    | ⟨3, _⟩ => wuvB m c
    | ⟨4, _⟩ => kc4 m c
    | ⟨5, _⟩ => vc4 m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0_0 (d) : (dat0 m c).before (0 : Fin 6) t0_0 d = xB m c := by unfold Dat.before; rw [if_pos (fetch0_0 t0_0)]; rfl
theorem before0_1 (d) : (dat0 m c).before (1 : Fin 6) t0_0 d = wdkvB m c := by unfold Dat.before; rw [if_pos (fetch0_1 t0_0)]; rfl
theorem before0_2 (d) : (dat0 m c).before (2 : Fin 6) t0_0 d = wukB m c := by unfold Dat.before; rw [if_pos (fetch0_2 t0_0)]; rfl
theorem before0_3 (d) : (dat0 m c).before (3 : Fin 6) t0_0 d = wuvB m c := by unfold Dat.before; rw [if_pos (fetch0_3 t0_0)]; rfl

def bodyPre0 : sProp 𝕄 :=
  iprop(Φ₀ m c ∗ (dat0 m c).owesAt () t0_0.castSucc
    ∗ (∃ d, stg (F := F) c cc0_stg0_0 ((dat0 m c).before (0 : Fin 6) t0_0 d))
    ∗ (∃ d, stg (F := F) c cc0_stg1_0 ((dat0 m c).before (1 : Fin 6) t0_0 d))
    ∗ (∃ d, stg (F := F) c cc0_stg2_0 ((dat0 m c).before (2 : Fin 6) t0_0 d))
    ∗ (∃ d, stg (F := F) c cc0_stg3_0 ((dat0 m c).before (3 : Fin 6) t0_0 d))
    ∗ (∃ d, stg (F := F) c cc0_stg4_0 ((dat0 m c).before (4 : Fin 6) t0_0 d))
    ∗ (∃ d, stg (F := F) c cc0_stg5_0 ((dat0 m c).before (5 : Fin 6) t0_0 d)))
def bodyPost0 : sProp 𝕄 :=
  iprop(Φ₁ (F := F) c ∗ (dat0 m c).owesAt () t0_0.succ
    ∗ stg c cc0_stg0_0 (xB m c)
    ∗ stg c cc0_stg1_0 (wdkvB m c)
    ∗ stg c cc0_stg2_0 (wukB m c)
    ∗ stg c cc0_stg3_0 (wuvB m c)
    ∗ stg c cc0_stg4_0 (kc4 m c)
    ∗ stg c cc0_stg5_0 (vc4 m c))

/-- A row of positions and the tokens and credits of a peer are what the body starts with there. -/
theorem mk_peer0 (r : Fin 4) : iprop(row (fun a j w => pos (F := F) c 0 a j w) (pz r c) ∗ give (F := F) c r ∗ cr1 (F := F) c r) ⊢ peer0 (F := F) c r := by
  unfold row give cr1 peer0
  iintro ⟨⟨S, L⟩, ⟨B, T⟩, C⟩
  isplitl [B]; · iexact B
  isplitl [T]; · iexact T
  isplitl [S]; · iexact S
  isplitl [L]; · iexact L
  iexact C
theorem row_pos : (bigSep Finset.univ fun q : Xi => atPos ER (xc (c, q)) 0 ∅ 0 : sProp 𝕄)
    = iprop(row (fun a j w => pos (F := F) c 0 a j w) (zc c) ∗ row (fun a j w => pos (F := F) c 0 a j w) (pz 1 c)
        ∗ row (fun a j w => pos (F := F) c 0 a j w) (pz 3 c) ∗ row (fun a j w => pos (F := F) c 0 a j w) (pz 2 c)) :=
  (show _ = (bigSep Finset.univ fun q : Xi => pos (F := F) c 0 q.1 q.2.1 q.2.2) from rfl).trans (x_split (F := F) c (fun a j w => pos (F := F) c 0 a j w))
theorem records_base : records (F := F) m K c ⊢ base m K := sep_elim_left
/-- What the dealt things are to the body. -/
theorem deal : iprop((bigSep Finset.univ fun q : Xi => atPos ER (xc (c, q)) 0 ∅ 0) ∗ payToks (F := F) c ∗ cr1 (F := F) c 1 ∗ cr1 (F := F) c 3 ∗ cr1 (F := F) c 2)
    ⊢ iprop(peer0 (F := F) c 1 ∗ peer0 (F := F) c 3 ∗ peer0 (F := F) c 2 ∗ row (fun a j w => pos (F := F) c 0 a j w) (zc c)) := by
  iintro ⟨HA, HP, C1, C3, C2⟩
  ihave HA := (Entails.of_eq (row_pos (F := F) c)) $$ HA
  icases HA with ⟨Z, A1, A3, A2⟩
  ihave HP := (payToks_give (F := F) c) $$ HP
  icases HP with ⟨G1, G3, G2⟩
  isplitl [A1 G1 C1]
  · iapply (mk_peer0 (F := F) c 1)
    isplitl [A1]; · iexact A1
    isplitl [G1]; · iexact G1
    iexact C1
  isplitl [A3 G3 C3]
  · iapply (mk_peer0 (F := F) c 3)
    isplitl [A3]; · iexact A3
    isplitl [G3]; · iexact G3
    iexact C3
  isplitl [A2 G2 C2]
  · iapply (mk_peer0 (F := F) c 2)
    isplitl [A2]; · iexact A2
    isplitl [G2]; · iexact G2
    iexact C2
  iexact Z

/-- The positions at the end. -/
theorem gather : iprop(row (fun a j w => pos (F := F) c 0 a j w) (zc c) ∗ peer1 (F := F) c 1 ∗ peer1 (F := F) c 3 ∗ peer1 (F := F) c 2)
    ⊢ (bigSep Finset.univ fun q : Xi => atPos ER (xc (c, q)) (endR c q.2.2) ∅ 0 : sProp 𝕄) := by
  have h := x_split (F := F) c (fun a j w => pos (F := F) c (endR c w) a j w)
  have e : (bigSep Finset.univ fun q : Xi => atPos ER (xc (c, q)) (endR c q.2.2) ∅ 0 : sProp 𝕄) = bigSep Finset.univ fun q : Xi => pos (F := F) c (endR c q.2.2) q.1 q.2.1 q.2.2 := rfl
  rw [e, h]
  unfold row peer1
  dsimp only
  rw [endR_self, endR_peer c 1 (by decide), endR_peer c 3 (by decide), endR_peer c 2 (by decide)]

set_option maxHeartbeats 1600000 in
theorem sound_body0 : bodyPre0 m c ⊢ wpc c (PB (F := F)) (fun _ => bodyPost0 m c) := by
  unfold bodyPre0 Φ₀ Xk scr
  rw [scopedRest0_eq]
  iintro ⟨⟨⟨S0, S1, Srest⟩, Hp, ⟨%K, #HR, HB, HA, HP⟩, ⟨Hb, C1, C3, C2⟩, #Hlev⟩, Ho, ⟨%d0, %g0, %h0, B0⟩, ⟨%d1, %g1, %h1, B1⟩, ⟨%d2, %g2, %h2, B2⟩, ⟨%d3, %g3, %h3, B3⟩, ⟨%d4, %g4, %h4, B4⟩, ⟨%d5, %g5, %h5, B5⟩⟩
  rw [before0_0 m c] at h0; subst h0
  rw [before0_1 m c] at h1; subst h1
  rw [before0_2 m c] at h2; subst h2
  rw [before0_3 m c] at h3; subst h3
  unfold Dat.owesAt Pipeline.owesWithin
  icases Ho with ⟨%W, %hW, HO⟩
  rw [show (dat0 m c).owed t0_0.castSucc = ow c 12 from rfl]
  ihave Hd := (deal (F := F) c) $$ [HA HP C1 C3 C2]
  · isplitl [HA]; · iexact HA
    isplitl [HP]; · iexact HP
    isplitl [C1]; · iexact C1
    isplitl [C3]; · iexact C3
    iexact C2
  icases Hd with ⟨P1, P3, P2, Z⟩
  iapply (post_fupd c)
  iapply (body_run m K c)
  isplitr; · iexact HR
  isplitr; · iexact Hlev
  isplitl [HO]
  · unfold ows; iexists W; iexact HO
  isplitl [Hb]; · iexact Hb
  isplitl [HB]; · iexact HB
  isplitl [P1]; · iexact P1
  isplitl [P3]; · iexact P3
  isplitl [P2]; · iexact P2
  isplitl [B0 B1 B2 B3]
  · unfold inputs
    isplitl [B0]; · iexact B0
    isplitl [B1]; · iexact B1
    isplitl [B2]; · iexact B2
    iexact B3
  isplitl [S0 S1]
  · unfold bufs
    isplitl [S0]; · iexact S0
    iexact S1
  isplitl [B4]; · iexists g4; iexact B4
  isplitl [B5]; · iexists g5; iexact B5
  unfold inputs bufs
  iintro ⟨HO, HB, P1, P3, P2, ⟨B0, B1, B2, B3⟩, ⟨S0, S1⟩, B4, B5⟩
  unfold ows
  icases HO with ⟨%W', HO⟩
  ihave Ha := (gather (F := F) c) $$ [Z P1 P3 P2]
  · isplitl [Z]; · iexact Z
    isplitl [P1]; · iexact P1
    isplitl [P3]; · iexact P3
    iexact P2
  ihave #Hbase := (records_base m K c) $$ HR
  imod (close_all m K c) $$ [Ha] with Hx
  · isplitr; · iexact Hbase
    iexact Ha
  imod (close_bar m K c) $$ [HB] with HB
  · isplitr; · iexact Hbase
    iexact HB
  imodintro
  unfold bodyPost0 Φ₁ Yk scr Dat.owesAt Pipeline.owesWithin
  rw [scopedRest0_eq]
  isplitl [S0 S1 Srest Hp HB Hx]
  · isplitl [S0 S1 Srest]
    · isplitl [S0]; · iexact S0
      isplitl [S1]; · iexact S1
      iexact Srest
    isplitl [Hp]; · iexact Hp
    isplitl [Hx]; · iexact Hx
    iexact HB
  isplitl [HO]
  · iexists W'
    isplitr
    · ipureintro; exact fun _ _ => Or.inl trivial
    rw [show (dat0 m c).owed t0_0.succ = ow c 0 from rfl]
    iexact HO
  isplitl [B0]
  · iexists _; isplitr; · (ipureintro; rfl)
    iexact B0
  isplitl [B1]
  · iexists _; isplitr; · (ipureintro; rfl)
    iexact B1
  isplitl [B2]
  · iexists _; isplitr; · (ipureintro; rfl)
    iexact B2
  isplitl [B3]
  · iexists _; isplitr; · (ipureintro; rfl)
    iexact B3
  isplitl [B4]
  · iexists _; isplitr; · (ipureintro; rfl)
    iexact B4
  iexists _; isplitr; · (ipureintro; rfl)
  iexact B5

set_option maxRecDepth 4000 in
theorem body_obligation0 : BodyObligation (dat0 (F := F) m c) (defs₀ (F := F)) 𝒱₀ () Set.univ := fun t => by
  rw [fin_N0 t]
  rw [show (bigSep (Finset.univ : Finset (Fin cfg0.W)) : (Fin cfg0.W → sProp 𝕄) → sProp 𝕄) = _ from funext fun Φ => bigSep_W0 Φ]
  simp only [whole_eq]
  exact sound_body0 m c

theorem share0 (w : Fin cfg0.W) : (dat0 m c).share w = fullShare := by unfold Dat.share; split <;> rfl

/-! ## Into the call and out of it -/

theorem hopen0 : iprop(Tk m c ∗ Pipeline.ownSems0 osem c ∗ levAts L lv) ⊢ (|={Set.univ}=> Xk m c : sProp 𝕄) := by
  rw [ownSems_eq]
  unfold Tk Xk ghost linear
  iintro ⟨⟨⟨%K, #HB, Hat, Hopen, Hpay⟩, HC⟩, Hs, #Hlev⟩
  imod (open_all m K c) $$ [Hopen Hs] with ⟨Hpos, #Ho⟩
  · isplitr; · iexact HB
    isplitl [Hopen]; · iexact Hopen
    iexact Hs
  imodintro
  isplitl [Hat Hpos Hpay]
  · iexists K
    isplitr
    · unfold records; isplitr; · iexact HB
      iexact Ho
    isplitl [Hat]; · iexact Hat
    isplitl [Hpos]; · iexact Hpos
    iexact Hpay
  isplitl [HC]; · iexact HC
  iexact Hlev
theorem hin0 : iprop(Pipeline.scopedRest spec0 c ∗ (∃ r, prngReg c r) ∗ StableHlo.held (c.tc : Thread nD τ) (∅ : Finset (DevRef τ sig)) (V0 m c) ∗ Xk m c) ⊢ (dat0 m c).Φ 0 := by
  rw [show (dat0 m c).Φ 0 = Φ₀ m c from rfl]
  unfold Φ₀ scr
  iintro ⟨Hs, Hp, -, Hx⟩
  isplitl [Hs]; · iexact Hs
  isplitl [Hp]; · iexact Hp
  iexact Hx
theorem hout0 (W : Valuation τ sig (Elt F)) : (dat0 m c).Φ (Fin.last cfg0.N)
    ⊢ iprop(Pipeline.scopedRest spec0 c ∗ (∃ r, prngReg c r) ∗ StableHlo.held (c.tc : Thread nD τ) (∅ : Finset (DevRef τ sig)) W ∗ Pipeline.ownSems0 osem c ∗ Yk c) := by
  rw [show (dat0 m c).Φ (Fin.last cfg0.N) = Φ₁ c from rfl, ownSems_eq]
  unfold Φ₁ scr StableHlo.held
  iintro ⟨Hs, Hp, Hx, Hy⟩
  isplitl [Hs]; · iexact Hs
  isplitl [Hp]; · iexact Hp
  isplitr; · rw [bigSep_empty]; iempintro
  isplitl [Hx]; · iexact Hx
  iexact Hy

end Cert.KernelIdeal.Run

end
-- ==== Proof.RunKernelIdeal.Calls.lean ====
/-
# The three local calls

The pipeline's data of the calls after the first, each from the buffers' contents at its entry, and its body at every
grid point.
-/
module

public import proofs.«01_k».proof.Proof.RunKernelIdeal.Proj
public import proofs.«01_k».proof.Proof.RunKernelIdeal.Region0

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

variable (V : Valuation τ sig (Elt F))

/-- What a local call holds besides its arrays and its staging buffers. -/
abbrev rest {G : ℕ} {W : ℕ} (spec : Fin W → Pipeline.WinSpec sig G) : sProp 𝕄 :=
  iprop(Pipeline.scopedRest (Ix := Unit) (Name := ℕ) (U := UU) (Lvl := ℕ) (Val := Elt F) spec c ∗ ∃ r, prngReg c r)

/-! ## Call 1 -/

/-- Window `w`'s block at point `t`, at the call's entry. -/
def in1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))
/-- The data: inputs stay, outputs are what the body computes. -/
def dat1 : Dat τ (Elt F) Unit ℕ UU ℕ cfg1 c where
  A w := V (Proc.devRef .tc (Pipeline.arrRef spec1 w))
  after w t := match w with
    | ⟨0, _⟩ => in1 V 0 t
    | ⟨1, _⟩ => in1 V 1 t
    | ⟨2, _⟩ => in1 V 2 t
    | ⟨3, _⟩ => in1 V 3 t
    | ⟨4, _⟩ => k1_pay8 (in1 V 0 t) (in1 V 1 t)
    | ⟨5, _⟩ => heads (k1_pay9 (in1 V 0 t) (in1 V 2 t))
    | ⟨6, _⟩ => k1_pay6 (k1_pay7 (in1 V 0 t)) (in1 V 3 t)
  Φ _ := rest (F := F) c spec1
  q _ := fullShare
  owed _ := 0
theorem before1_0 (t : Fin cfg1.N) (d) : (dat1 c V).before 0 t d = in1 V 0 t :=
  ((dat1 c V).before_in_eq_fetched 0 rfl (fun _ => rfl) (fun _ _ _ => rfl) (fun _ => rfl) t d).trans rfl
theorem before1_1 (t : Fin cfg1.N) (d) : (dat1 c V).before 1 t d = in1 V 1 t :=
  ((dat1 c V).before_in_eq_fetched 1 rfl (fun _ => rfl) (fun _ _ _ => rfl) (fun _ => rfl) t d).trans rfl
theorem before1_2 (t : Fin cfg1.N) (d) : (dat1 c V).before 2 t d = in1 V 2 t :=
  ((dat1 c V).before_in_eq_fetched 2 rfl (fun _ => rfl) (fun _ _ _ => rfl) (fun _ => rfl) t d).trans rfl
theorem before1_3 (t : Fin cfg1.N) (d) : (dat1 c V).before 3 t d = in1 V 3 t :=
  ((dat1 c V).before_in_eq_fetched 3 rfl (fun _ => rfl) (fun _ _ _ => rfl) (fun _ => rfl) t d).trans rfl
theorem share1 (w : Fin cfg1.W) : (dat1 c V).share w = fullShare := by unfold Dat.share; split <;> rfl
theorem sound1 (t : Fin cfg1.N) :
    iprop(rest (F := F) c spec1 ∗ (dat1 c V).owesAt () t.castSucc
        ∗ (∃ d, hold c (st1_0 t) ((dat1 c V).before 0 t d))
        ∗ (∃ d, hold c (st1_1 t) ((dat1 c V).before 1 t d))
        ∗ (∃ d, hold c (st1_2 t) ((dat1 c V).before 2 t d))
        ∗ (∃ d, hold c (st1_3 t) ((dat1 c V).before 3 t d))
        ∗ (∃ d, hold c (st1_4 t) ((dat1 c V).before 4 t d))
        ∗ (∃ d, hold c (st1_5 t) ((dat1 c V).before 5 t d))
        ∗ (∃ d, hold c (st1_6 t) ((dat1 c V).before 6 t d)))
      ⊢ wpc c (bodyAt1 (F := F) t) (fun _ => iprop(rest (F := F) c spec1 ∗ (dat1 c V).owesAt () t.succ
        ∗ hold c (st1_0 t) (in1 V 0 t)
        ∗ hold c (st1_1 t) (in1 V 1 t)
        ∗ hold c (st1_2 t) (in1 V 2 t)
        ∗ hold c (st1_3 t) (in1 V 3 t)
        ∗ hold c (st1_4 t) (k1_pay8 (in1 V 0 t) (in1 V 1 t))
        ∗ hold c (st1_5 t) (heads (k1_pay9 (in1 V 0 t) (in1 V 2 t)))
        ∗ hold c (st1_6 t) (k1_pay6 (k1_pay7 (in1 V 0 t)) (in1 V 3 t)))) := by
  iintro ⟨HR, HO, ⟨%d0, H0⟩, ⟨%d1, H1⟩, ⟨%d2, H2⟩, ⟨%d3, H3⟩, ⟨%d4, H4⟩, ⟨%d5, H5⟩, ⟨%d6, H6⟩⟩
  rw [before1_0 c V t d0]
  rw [before1_1 c V t d1]
  rw [before1_2 c V t d2]
  rw [before1_3 c V t d3]
  iapply (proj_run c _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HR]; · iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6
set_option maxRecDepth 4000 in
theorem body_obligation1 : BodyObligation (dat1 c V) (defs₀ (F := F)) 𝒱₀ () Set.univ := fun t => by
  rw [show (bigSep (Finset.univ : Finset (Fin cfg1.W)) : (Fin cfg1.W → sProp 𝕄) → sProp 𝕄) = _ from funext fun Φ => bigSep_W1 Φ]
  exact sound1 c V t

/-! ## Call 2 -/

/-- Window `w`'s block at point `t`, at the call's entry. -/
def in2 (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))
/-- The data: inputs stay, outputs are what the body computes. -/
def dat2 : Dat τ (Elt F) Unit ℕ UU ℕ cfg2 c where
  A w := V (Proc.devRef .tc (Pipeline.arrRef spec2 w))
  after w t := match w with
    | ⟨0, _⟩ => in2 V 0 t
    | ⟨1, _⟩ => in2 V 1 t
    | ⟨2, _⟩ => in2 V 2 t
    | ⟨3, _⟩ => in2 V 3 t
    | ⟨4, _⟩ => in2 V 4 t
    | ⟨5, _⟩ => k2_pay1 (in2 V 0 t) (in2 V 1 t) (in2 V 3 t) (in2 V 4 t) (in2 V 2 t)
  Φ _ := rest (F := F) c spec2
  q _ := fullShare
  owed _ := 0
theorem before2_0 (t : Fin cfg2.N) (d) : (dat2 c V).before 0 t d = in2 V 0 t :=
  ((dat2 c V).before_in_eq_fetched 0 rfl (fun _ => rfl) (fun _ _ _ => rfl) (fun _ => rfl) t d).trans rfl
theorem before2_1 (t : Fin cfg2.N) (d) : (dat2 c V).before 1 t d = in2 V 1 t :=
  ((dat2 c V).before_in_eq_fetched 1 rfl (fun _ => rfl) (fun _ _ _ => rfl) (fun _ => rfl) t d).trans rfl
theorem before2_2 (t : Fin cfg2.N) (d) : (dat2 c V).before 2 t d = in2 V 2 t :=
  ((dat2 c V).before_in_eq_fetched 2 rfl (fun _ => rfl) (fun _ _ _ => rfl) (fun _ => rfl) t d).trans rfl
theorem before2_3 (t : Fin cfg2.N) (d) : (dat2 c V).before 3 t d = in2 V 3 t :=
  ((dat2 c V).before_in_eq_fetched 3 rfl (fun _ => rfl) (fun _ _ _ => rfl) (fun _ => rfl) t d).trans rfl
theorem before2_4 (t : Fin cfg2.N) (d) : (dat2 c V).before 4 t d = in2 V 4 t :=
  ((dat2 c V).before_in_eq_fetched 4 rfl (fun _ => rfl) (fun _ _ _ => rfl) (fun _ => rfl) t d).trans rfl
theorem share2 (w : Fin cfg2.W) : (dat2 c V).share w = fullShare := by unfold Dat.share; split <;> rfl
theorem sound2 (t : Fin cfg2.N) :
    iprop(rest (F := F) c spec2 ∗ (dat2 c V).owesAt () t.castSucc
        ∗ (∃ d, hold c (st2_0 t) ((dat2 c V).before 0 t d))
        ∗ (∃ d, hold c (st2_1 t) ((dat2 c V).before 1 t d))
        ∗ (∃ d, hold c (st2_2 t) ((dat2 c V).before 2 t d))
        ∗ (∃ d, hold c (st2_3 t) ((dat2 c V).before 3 t d))
        ∗ (∃ d, hold c (st2_4 t) ((dat2 c V).before 4 t d))
        ∗ (∃ d, hold c (st2_5 t) ((dat2 c V).before 5 t d)))
      ⊢ wpc c (bodyAt2 (F := F) t) (fun _ => iprop(rest (F := F) c spec2 ∗ (dat2 c V).owesAt () t.succ
        ∗ hold c (st2_0 t) (in2 V 0 t)
        ∗ hold c (st2_1 t) (in2 V 1 t)
        ∗ hold c (st2_2 t) (in2 V 2 t)
        ∗ hold c (st2_3 t) (in2 V 3 t)
        ∗ hold c (st2_4 t) (in2 V 4 t)
        ∗ hold c (st2_5 t) (k2_pay1 (in2 V 0 t) (in2 V 1 t) (in2 V 3 t) (in2 V 4 t) (in2 V 2 t)))) := by
  iintro ⟨HR, HO, ⟨%d0, H0⟩, ⟨%d1, H1⟩, ⟨%d2, H2⟩, ⟨%d3, H3⟩, ⟨%d4, H4⟩, ⟨%d5, H5⟩⟩
  rw [before2_0 c V t d0]
  rw [before2_1 c V t d1]
  rw [before2_2 c V t d2]
  rw [before2_3 c V t d3]
  rw [before2_4 c V t d4]
  iapply (attn_run c _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HR]; · iexact HR
  isplitl [HO]; · iexact HO
  isplitl [H0]; · iexact H0
  isplitl [H1]; · iexact H1
  isplitl [H2]; · iexact H2
  isplitl [H3]; · iexact H3
  isplitl [H4]; · iexact H4
  iexact H5
set_option maxRecDepth 4000 in
theorem body_obligation2 : BodyObligation (dat2 c V) (defs₀ (F := F)) 𝒱₀ () Set.univ := fun t => by
  rw [show (bigSep (Finset.univ : Finset (Fin cfg2.W)) : (Fin cfg2.W → sProp 𝕄) → sProp 𝕄) = _ from funext fun Φ => bigSep_W2 Φ]
  exact sound2 c V t

/-! ## Call 3 -/

/-- Window `w`'s block at point `t`, at the call's entry. -/
def in3 (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))
/-- The data: inputs stay, outputs are what the body computes. -/
def dat3 : Dat τ (Elt F) Unit ℕ UU ℕ cfg3 c where
  A w := V (Proc.devRef .tc (Pipeline.arrRef spec3 w))
  after w t := match w with
    | ⟨0, _⟩ => in3 V 0 t
    | ⟨1, _⟩ => in3 V 1 t
    | ⟨2, _⟩ => k3_pay1 (in3 V 0 t) (in3 V 1 t)
  Φ _ := rest (F := F) c spec3
  q _ := fullShare
  owed _ := 0
theorem before3_0 (t : Fin cfg3.N) (d) : (dat3 c V).before 0 t d = in3 V 0 t :=
  ((dat3 c V).before_in_eq_fetched 0 rfl (fun _ => rfl) (fun _ _ _ => rfl) (fun _ => rfl) t d).trans rfl
theorem before3_1 (t : Fin cfg3.N) (d) : (dat3 c V).before 1 t d = in3 V 1 t :=
  ((dat3 c V).before_in_eq_fetched 1 rfl (fun _ => rfl) (fun _ _ _ => rfl) (fun _ => rfl) t d).trans rfl
theorem share3 (w : Fin cfg3.W) : (dat3 c V).share w = fullShare := by unfold Dat.share; split <;> rfl
theorem sound3 (t : Fin cfg3.N) :
    iprop(rest (F := F) c spec3 ∗ (dat3 c V).owesAt () t.castSucc
        ∗ (∃ d, hold c (st3_0 t) ((dat3 c V).before 0 t d))
        ∗ (∃ d, hold c (st3_1 t) ((dat3 c V).before 1 t d))
        ∗ (∃ d, hold c (st3_2 t) ((dat3 c V).before 2 t d)))
      ⊢ wpc c (bodyAt3 (F := F) t) (fun _ => iprop(rest (F := F) c spec3 ∗ (dat3 c V).owesAt () t.succ
        ∗ hold c (st3_0 t) (in3 V 0 t)
        ∗ hold c (st3_1 t) (in3 V 1 t)
        ∗ hold c (st3_2 t) (k3_pay1 (in3 V 0 t) (in3 V 1 t)))) := by
  iintro ⟨HR, HO, ⟨%d0, H0⟩, ⟨%d1, H1⟩, ⟨%d2, H2⟩⟩
  rw [before3_0 c V t d0]
  rw [before3_1 c V t d1]
  iapply (out_run c _ _ _ _ _ _ _ _ _)
  isplitl [H0]; · iexact H0
  isplitl [H1]; · iexact H1
  isplitl [H2]; · iexact H2
  iintro ⟨H0, H1, H2⟩
  isplitl [HR]; · iexact HR
  isplitl [HO]; · iexact HO
  isplitl [H0]; · iexact H0
  isplitl [H1]; · iexact H1
  iexact H2
set_option maxRecDepth 4000 in
theorem body_obligation3 : BodyObligation (dat3 c V) (defs₀ (F := F)) 𝒱₀ () Set.univ := fun t => by
  rw [show (bigSep (Finset.univ : Finset (Fin cfg3.W)) : (Fin cfg3.W → sProp 𝕄) → sProp 𝕄) = _ from funext fun Φ => bigSep_W3 Φ]
  exact sound3 c V t

end Cert.KernelIdeal.Run

end
-- ==== Proof.RunKernelIdeal.Launch.lean ====
/-
# The launch

The four calls in order.  Between two of them a device holds every array that outlives a call at the contents the
calls before have left; the first call is entered with what the launch funds for the exchange.  From any memory
with every semaphore at zero, every weakly fair run of the 32 devices ends, with each device's arrays at what the
four calls leave and every semaphore at zero.
-/
module

public import proofs.«01_k».proof.Proof.RunKernelIdeal.Calls

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ci → ℕ) (c : Dev nD)

/-! ## What the calls leave -/

/-- After the first call. -/
def W1 (c : Dev nD) : Valuation τ sig (Elt F) := Pipeline.afterRegion (dat0 m c) (V0 m c)
/-- After the second. -/
def W2 (c : Dev nD) : Valuation τ sig (Elt F) := Pipeline.afterRegion (dat1 c (W1 m c)) (W1 m c)
/-- After the third. -/
def W3 (c : Dev nD) : Valuation τ sig (Elt F) := Pipeline.afterRegion (dat2 c (W2 m c)) (W2 m c)
/-- After the last. -/
def W4 (c : Dev nD) : Valuation τ sig (Elt F) := Pipeline.afterRegion (dat3 c (W3 m c)) (W3 m c)

/-- The four calls' proof data. -/
abbrev pdats : (p : Fin 4) → (c : Dev nD) → Dat τ (Elt F) Unit ℕ UU ℕ (cfgs p) c
  | ⟨0, _⟩ => fun c => dat0 m c
  | ⟨1, _⟩ => fun c => dat1 c (W1 m c)
  | ⟨2, _⟩ => fun c => dat2 c (W2 m c)
  | ⟨3, _⟩ => fun c => dat3 c (W3 m c)
  | ⟨_ + 4, h⟩ => absurd h (Nat.not_lt.mpr (Nat.le_add_left 4 _))

/-- Call 1's layout facts. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Call 2's layout facts. -/
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- Call 3's layout facts. -/
theorem kit2 : Pipeline.PLaunchFacts (nD := nD) (τ := τ) (pcfgs (F := F)) 2 where
  cellOf_inj a := by rw [Subsingleton.elim a adm]; exact cellOf_inj
  win := winFacts2
  pre := Pipeline.PreFacts.none _
  block_pos := block_pos2
  arr_whole := arr_whole2
  stage_whole := stage_whole2

/-- Call 4's layout facts. -/
theorem kit3 : Pipeline.PLaunchFacts (nD := nD) (τ := τ) (pcfgs (F := F)) 3 where
  cellOf_inj a := by rw [Subsingleton.elim a adm]; exact cellOf_inj
  win := winFacts3
  pre := Pipeline.PreFacts.none _
  block_pos := block_pos3
  arr_whole := arr_whole3
  stage_whole := stage_whole3

/-- Every array that outlives a call. -/
abbrev allRefs : Finset (DevRef τ sig) := Pipeline.ucRefs τ sig

theorem sub0 : Pipeline.arrRefs (pcfgs (F := F) 0).spec ⊆ allRefs :=
  (by decide : Pipeline.arrRefs spec0 ⊆ allRefs)

theorem sub1 : Pipeline.arrRefs (pcfgs (F := F) 1).spec ⊆ allRefs :=
  (by decide : Pipeline.arrRefs spec1 ⊆ allRefs)

theorem sub2 : Pipeline.arrRefs (pcfgs (F := F) 2).spec ⊆ allRefs :=
  (by decide : Pipeline.arrRefs spec2 ⊆ allRefs)

theorem sub3 : Pipeline.arrRefs (pcfgs (F := F) 3).spec ⊆ allRefs :=
  (by decide : Pipeline.arrRefs spec3 ⊆ allRefs)

/-! ## The regions -/

/-- The generator register, whatever it holds. -/
def reg (c : Dev nD) : sProp 𝕄 := iprop(∃ r, prngReg c r)

/-- The barrier semaphore at zero. -/
def bar0 (c : Dev nD) : sProp 𝕄 := semVal (barCell c) 0

theorem stage_lt0 : ∀ (w : Fin 6) (s : Fin (spec0 w).nbuf), ((spec0 w).sem s).val < 6 := by decide

theorem cut0 : Pipeline.LevelCutOwed (pcfgs (F := F)) adm (pdats m) () L lv 0 (fun _ => 0) where
  hι c w s := by rw [L_tc]; exact Finset.mem_singleton_self _
  hιb c w s := le_of_eq (lv_stage c _ (stage_lt0 w s))
  hD c t g i h := by
    obtain ⟨t, ht⟩ := t
    rcases t with _ | t
    · have := ow_pos (c := c) (k := 12) h
      exact ⟨by rw [this.1]; exact Finset.mem_singleton_self _, this.2.1⟩
    · exact absurd h (Nat.lt_irrefl 0)

set_option backward.isDefEq.respectTransparency.types false in
/-- The first call's region. -/
def region0 : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ (allRefs \ Pipeline.arrRefs (pcfgs (F := F) 0).spec) (Finset.empty_subset _) kit0 rfl
    (fun c => (body_obligation0 m c).loose)
    (fun _ => 0) O₀ (fun c => (zero_add (O₀ c)).symm) (fun _ => rfl) (fun _ => rfl) (share0 m)
    (V0 m) (W1 m) (fun c b hb => Pipeline.afterRegion_off (dat0 m c) (V0 m c) allRefs b (Finset.mem_sdiff.mp hb).1)
    (Tk m) bar0 (Xk m) Yk (hopen0 m) (hin0 m) (fun c => hout0 m c (W1 m c))
    (fun c => show bar0 (F := F) c ⊢ _ from by iintro H; imodintro; iexact H)
    (fun _ => 0) (cut0 m) (fun _ => iprop(emp))
    (fun _ _ => rfl) (fun c w => (Pipeline.afterRegion_arr (dat0 m c) (V0 m c) winFacts0.arr_inj w).symm)

theorem cut1 : Pipeline.LevelCut (pcfgs (F := F)) adm () L lv 1 (fun _ => 0) (fun _ => 0) where
  hι c w s := by rw [L_tc]; exact Finset.mem_singleton_self _
  hιb c w s := le_of_eq (by fin_cases w <;> fin_cases s <;> rfl)
  hD c g i h := absurd h (Nat.lt_irrefl 0)

set_option backward.isDefEq.respectTransparency.types false in
/-- Call 2's region. -/
def region1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) allRefs reg reg kit1 rfl
    (fun c => (body_obligation1 c (W1 m c)).loose) (fun _ _ => rfl) (fun _ => rfl) (fun c w => share1 c (W1 m c) w)
    (fun _ => .rfl) (fun _ => .rfl) (fun _ => 0) cut1 bar0 (W1 m) (fun _ _ => rfl)

theorem cut2 : Pipeline.LevelCut (pcfgs (F := F)) adm () L lv 2 (fun _ => 0) (fun _ => 0) where
  hι c w s := by rw [L_tc]; exact Finset.mem_singleton_self _
  hιb c w s := le_of_eq (by fin_cases w <;> fin_cases s <;> rfl)
  hD c g i h := absurd h (Nat.lt_irrefl 0)

set_option backward.isDefEq.respectTransparency.types false in
/-- Call 3's region. -/
def region2 : Pipeline.RegionSeg (pcfgs (F := F)) adm (pdats m) () defs₀ 𝒱₀ L lv 2 :=
  Pipeline.RegionSeg.ofHeldIn (pcfgs (F := F)) adm (pdats m) () defs₀ 𝒱₀ L lv 2 (fun _ => 0) allRefs reg reg kit2 rfl
    (fun c => (body_obligation2 c (W2 m c)).loose) (fun _ _ => rfl) (fun _ => rfl) (fun c w => share2 c (W2 m c) w)
    (fun _ => .rfl) (fun _ => .rfl) (fun _ => 0) cut2 bar0 (W2 m) (fun _ _ => rfl)

theorem cut3 : Pipeline.LevelCut (pcfgs (F := F)) adm () L lv 3 (fun _ => 0) (fun _ => 0) where
  hι c w s := by rw [L_tc]; exact Finset.mem_singleton_self _
  hιb c w s := le_of_eq (by fin_cases w <;> fin_cases s <;> rfl)
  hD c g i h := absurd h (Nat.lt_irrefl 0)

set_option backward.isDefEq.respectTransparency.types false in
/-- Call 4's region. -/
def region3 : Pipeline.RegionSeg (pcfgs (F := F)) adm (pdats m) () defs₀ 𝒱₀ L lv 3 :=
  Pipeline.RegionSeg.ofHeldIn (pcfgs (F := F)) adm (pdats m) () defs₀ 𝒱₀ L lv 3 (fun _ => 0) allRefs reg reg kit3 rfl
    (fun c => (body_obligation3 c (W3 m c)).loose) (fun _ _ => rfl) (fun _ => rfl) (fun c w => share3 c (W3 m c) w)
    (fun _ => .rfl) (fun _ => .rfl) (fun _ => 0) cut3 bar0 (W3 m) (fun _ _ => rfl)

/-! ## The states between -/

/-- What a device holds between two calls, its arrays at `W`. -/
def mid (W : Valuation τ sig (Elt F)) (c : Dev nD) : sProp 𝕄 :=
  iprop(StableHlo.held (c.tc : Thread nD τ) allRefs W ∗ ((∃ Wd, owes (c : Thread nD τ) (0 : CellTallies nD τ sig Unit) Wd) ∗ reg c ∗ bar0 c))

/-- What a device starts from. -/
def T₀ (c : Dev nD) : sProp 𝕄 :=
  iprop(StableHlo.held (c.tc : Thread nD τ) allRefs (V0 m c) ∗ ((∃ Wd, owes (c : Thread nD τ) (O₀ c) Wd) ∗ reg c ∗ Tk m c))

/-- What a device ends with. -/
def Tₙ (c : Dev nD) : sProp 𝕄 := iprop(StableHlo.held (c.tc : Thread nD τ) allRefs (W4 m c) ∗ bar0 c)

theorem pre0 : T₀ m c ⊢ (region0 m).pre c := by
  show _ ⊢ iprop(StableHlo.held (c.tc : Thread nD τ) (Pipeline.arrRefs (pcfgs (F := F) 0).spec) (V0 m c) ∗ (∃ r, prngReg c r)
    ∗ (StableHlo.held (c.tc : Thread nD τ) (allRefs \ Pipeline.arrRefs (pcfgs (F := F) 0).spec) (V0 m c) ∗ emp) ∗ Tk m c
    ∗ ∃ Wd, owes (c : Thread nD τ) ((0 : CellTallies nD τ sig Unit) + O₀ c) Wd)
  unfold T₀ reg
  rw [StableHlo.held_sub_split (c.tc : Thread nD τ) (sub0 (F := F)) (V0 m c), zero_add]
  iintro ⟨⟨Ha, Hu⟩, HO, HX, HT⟩
  isplitl [Ha]; · iexact Ha
  isplitl [HX]; · iexact HX
  isplitl [Hu]
  · isplitl [Hu]; · iexact Hu
    iempintro
  isplitl [HT]; · iexact HT
  iexact HO

theorem post0 : (region0 m).post c ⊢ mid (W1 m c) c := by
  show iprop(StableHlo.held (c.tc : Thread nD τ) (Pipeline.arrRefs (pcfgs (F := F) 0).spec) (W1 m c) ∗ (∃ r, prngReg c r)
    ∗ (StableHlo.held (c.tc : Thread nD τ) (allRefs \ Pipeline.arrRefs (pcfgs (F := F) 0).spec) (W1 m c) ∗ emp) ∗ bar0 c
    ∗ ∃ Wd, owes (c : Thread nD τ) (0 : CellTallies nD τ sig Unit) Wd) ⊢ _
  unfold mid reg
  rw [StableHlo.held_sub_split (c.tc : Thread nD τ) (sub0 (F := F)) (W1 m c)]
  iintro ⟨Ha, HX, ⟨Hu, -⟩, HT, HO⟩
  isplitl [Ha Hu]
  · isplitl [Ha]; · iexact Ha
    iexact Hu
  isplitl [HO]; · iexact HO
  isplitl [HX]; · iexact HX
  iexact HT

theorem pre1 : mid (W1 m c) c ⊢ (region1 m).pre c := by
  unfold mid region1
  exact Pipeline.RegionSeg.ofHeldIn_pre (D := fun _ => 0) (X := reg) (R := bar0) (W := W1 m) (sub1 (F := F)) c

theorem post1 : (region1 m).post c ⊢ mid (W2 m c) c := by
  unfold mid region1 W2
  exact Pipeline.RegionSeg.ofHeldIn_post (D := fun _ => 0) (Y := reg) (R := bar0) (W := W1 m) (sub1 (F := F)) c

theorem pre2 : mid (W2 m c) c ⊢ (region2 m).pre c := by
  unfold mid region2
  exact Pipeline.RegionSeg.ofHeldIn_pre (D := fun _ => 0) (X := reg) (R := bar0) (W := W2 m) (sub2 (F := F)) c

theorem post2 : (region2 m).post c ⊢ mid (W3 m c) c := by
  unfold mid region2 W3
  exact Pipeline.RegionSeg.ofHeldIn_post (D := fun _ => 0) (Y := reg) (R := bar0) (W := W2 m) (sub2 (F := F)) c

theorem pre3 : mid (W3 m c) c ⊢ (region3 m).pre c := by
  unfold mid region3
  exact Pipeline.RegionSeg.ofHeldIn_pre (D := fun _ => 0) (X := reg) (R := bar0) (W := W3 m) (sub3 (F := F)) c

theorem post3 : (region3 m).post c ⊢ mid (W4 m c) c := by
  unfold mid region3 W4
  exact Pipeline.RegionSeg.ofHeldIn_post (D := fun _ => 0) (Y := reg) (R := bar0) (W := W3 m) (sub3 (F := F)) c

end Cert.KernelIdeal.Run

end
-- ==== Proof.RunKernelIdeal.Run.lean ====
/-
# The run

From any memory with every semaphore at zero, every weakly fair run of the 32 devices ends, with each device's
arrays at what the four calls leave and every semaphore at zero.  The arguments are among the arrays no call writes.
-/
module

public import proofs.«01_k».proof.Proof.RunKernelIdeal.Launch

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ρ : Dev nD → PrngReg) (m : (ℓ : Loc nD τ sig) → Buf (Elt F) ℓ) (c : Dev nD)

/-- The launch's ghost state: the pipelines' rounds and the exchange's. -/
def u₀ : UU := (initOf (Pipeline.cells cfgs cellOf_inj) (Pipeline.launchToks cfgs cellOf_inj), launchOf barCells xCells allToks)

/-- The exchange's rounds as the launch hands them out. -/
def GX : sProp 𝕄 := BI.own (ER (launchOf barCells xCells allToks))

/-- All of it at device 0 to begin with. -/
def G (c : Dev nD) : sProp 𝕄 := if c = 0 then GX else iprop(emp)

theorem G_all : (bigSep Finset.univ G : sProp 𝕄) = GX := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- What the launch hands device `c` without any update. -/
def given (c : Dev nD) : sProp 𝕄 :=
  iprop(StableHlo.held (c.tc : Thread nD τ) allRefs (V0 m c) ∗ (∃ Wd, owes (c : Thread nD τ) (O₀ c) Wd) ∗ reg c
    ∗ (cred (tallyAt (barCell c) () 3) ∗ cr1 (F := F) c 1 ∗ cr1 (F := F) c 3 ∗ cr1 (F := F) c 2))

theorem launch_dev : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(given m c ∗ semVal (barCell c) 0 ∗ G c) : sProp 𝕄) := by
  rw [show (unscopedBufs c (fun b => m ((c.tc : Thread nD τ).loc b)) : sProp 𝕄) = StableHlo.held (c.tc : Thread nD τ) allRefs (V0 m c) from
    Pipeline.unscopedBufs_held c (V0 m c), unscopedSems_eq c]
  unfold given reg
  iintro ⟨Hh, Hs, HO, HC, HP, HG⟩
  ihave HC' := (creds (F := F) c) $$ HC
  isplitr [Hs HG]
  · isplitl [Hh]; · iexact Hh
    isplitl [HO]; · iexists _; iexact HO
    isplitl [HP]; · iexists _; iexact HP
    iexact HC'
  isplitl [Hs]; · iexact Hs
  iexact HG

theorem given_all : iprop((bigSep Finset.univ fun c : Dev nD => given m c) ∗ bigSep Finset.univ (ghost m)) ⊢ (bigSep Finset.univ (T₀ m) : sProp 𝕄) := by
  rw [← bigSep_sep']
  refine bigSep_mono fun c _ => ?_
  unfold given T₀ Tk
  show iprop((StableHlo.held (c.tc : Thread nD τ) allRefs (V0 m c) ∗ (∃ Wd, owes (c : Thread nD τ) (O₀ c) Wd) ∗ reg c
    ∗ (cred (tallyAt (barCell c) () 3) ∗ cr1 (F := F) c 1 ∗ cr1 (F := F) c 3 ∗ cr1 (F := F) c 2)) ∗ ghost m c) ⊢ _
  iintro ⟨⟨Hh, HO, HP, HC⟩, HG⟩
  isplitl [Hh]; · iexact Hh
  isplitl [HO]; · iexact HO
  isplitl [HP]; · iexact HP
  isplitl [HG]; · iexact HG
  iexact HC

theorem init : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)) ∗ levAts L lv)
    ⊢ (|={Set.univ}=> bigSep Finset.univ (T₀ m) : sProp 𝕄) := by
  have h1 : (bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ G c))
      ⊢ (iprop((bigSep Finset.univ fun c : Dev nD => given m c) ∗ (bigSep Finset.univ fun c : Dev nD => semVal (barCell c) 0) ∗ GX) : sProp 𝕄) := by
    rw [← G_all, ← bigSep_sep', ← bigSep_sep']
    exact bigSep_mono fun c _ => launch_dev ρ m c
  iintro ⟨H, -⟩
  ihave H' := h1 $$ H
  icases H' with ⟨HA, HS⟩
  ihave HS' := (show iprop((bigSep Finset.univ fun c : Dev nD => semVal (barCell c) 0) ∗ GX) ⊢ (|={Set.univ}=> bigSep Finset.univ (ghost m) : sProp 𝕄) from fund_all m) $$ HS
  imod HS' with HG
  imodintro
  iapply (given_all m)
  isplitl [HA]; · iexact HA
  iexact HG

theorem unscoped_eq : ∀ sm : SemLoc sig, sm.isScoped .tc = false → sm = .reg barS := by decide

/-- The program's four segments. -/
abbrev parts (c : Dev nD) : List (Pipeline.Seg (pcfgs (F := F)) adm (pdats m) () defs₀ 𝒱₀ L lv) :=
  [.region (region0 m), .region (region1 m), .region (region2 m), .region (region3 m)]

set_option backward.isDefEq.respectTransparency.types false in
/-- The run: every array that outlives a call ends as the four calls leave it, every semaphore at zero. -/
theorem run_main : θ_run defs (onTc (τ := τ) (main (F := F))) ⟨m, fun _ => 0, ρ⟩
    (fun r => (∀ c : Dev nD, ∀ b ∈ allRefs, r.2.mem (c, b) = W4 m c b) ∧ r.2.sem = fun _ => 0) :=
  Pipeline.θ_run_regions_kit_dev_sems (pcfgs (F := F)) adm (pdats m) () cellOf_inj EP defs₀ 𝒱₀ L lv m ρ main (parts m)
    (fun c Q => by
      rewrite [main_chain c, Pipeline.Seg.run_eq_chain,
        show (parts m c).map Pipeline.Seg.prog = [
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [parts, Pipeline.Seg.pipes_region, Pipeline.Seg.pipes_nil]; decide)
    O₀ L_of_ne G u₀
    (by
      unfold u₀
      iintro Hu
      ihave H := (ownU_pair _ _) $$ Hu
      icases H with ⟨HP, HX⟩
      imodintro
      isplitl [HP]; · iexact HP
      iapply (Entails.of_eq ((G_all (F := F)).trans (by unfold GX; rfl)).symm)
      iexact HX)
    (T₀ m) (Tₙ m)
    (fun c => ⟨pre0 m c, (post0 m c).trans (pre1 m c), (post1 m c).trans (pre2 m c), (post2 m c).trans (pre3 m c), (post3 m c).trans (by
      unfold mid Tₙ
      iintro ⟨Hh, HO, -, HB⟩
      isplitr [HO]
      · isplitl [Hh]; · iexact Hh
        iexact HB
      iexact HO)⟩)
    (init ρ m)
    (fun c s => (∀ b ∈ allRefs, s.mem (c, b) = W4 m c b) ∧ s.sem (barCell c) = 0)
    (fun c s' => by
      unfold Tₙ bar0 StableHlo.held
      iintro ⟨⟨Hh, Hb⟩, HSI⟩
      icombine HSI Hb gives %hb
      ihave Hr := (pointsTo_read_all allRefs (fun b => ((c : Thread nD τ).1, b)) (W4 m c) s') $$ [Hh HSI]
      · isplitl [Hh] <;> iassumption
      icases Hr with ⟨%h, HSI⟩
      imodintro
      isplitr
      · ipureintro
        exact ⟨h, by simpa using hb⟩
      iexact HSI)
    (fun s h hs => ⟨fun c => (h c).1, sem_eq_zero hs fun c sm hsm => by
      obtain rfl := unscoped_eq sm hsm
      exact (h c).2⟩)

/-! ## The arguments -/

theorem mem_all (r : Ref sig .tc) (h : r.isScoped = false) : (Proc.devRef .tc r : DevRef τ sig) ∈ allRefs :=
  Finset.mem_filter.mpr ⟨StableHlo.devRef_mem_tcRefs r, by rw [show (Proc.devRef .tc r : DevRef τ sig).isScoped = r.isScoped from rfl, h]; decide⟩

/-- An array that is no output of a call keeps what it held at the launch. -/
theorem W4_keeps (r : Ref sig .tc) (h0 : ∀ w, Pipeline.arrRef cfg0.spec w = r → (cfg0.win w).isOut = false)
    (h1 : ∀ w, Pipeline.arrRef cfg1.spec w = r → (cfg1.win w).isOut = false) (h2 : ∀ w, Pipeline.arrRef cfg2.spec w = r → (cfg2.win w).isOut = false)
    (h3 : ∀ w, Pipeline.arrRef cfg3.spec w = r → (cfg3.win w).isOut = false) : W4 m c (Proc.devRef .tc r) = m ((c : Thread nD τ).loc r) :=
  (Pipeline.afterRegion_keeps (dat3 c (W3 m c)) _ winFacts3.arr_inj (fun _ => rfl) r h3).trans <|
    (Pipeline.afterRegion_keeps (dat2 c (W2 m c)) _ winFacts2.arr_inj (fun _ => rfl) r h2).trans <|
    (Pipeline.afterRegion_keeps (dat1 c (W1 m c)) _ winFacts1.arr_inj (fun _ => rfl) r h1).trans <|
    (Pipeline.afterRegion_keeps (dat0 m c) _ winFacts0.arr_inj (fun _ => rfl) r h0).trans rfl

theorem W4_arg0 : W4 m c (Proc.devRef .tc main_arg0) = m ((c : Thread nD τ).loc main_arg0) :=
  W4_keeps m c main_arg0 (by decide) (by decide) (by decide) (by decide)
theorem W4_arg1 : W4 m c (Proc.devRef .tc main_arg1) = m ((c : Thread nD τ).loc main_arg1) :=
  W4_keeps m c main_arg1 (by decide) (by decide) (by decide) (by decide)
theorem W4_arg2 : W4 m c (Proc.devRef .tc main_arg2) = m ((c : Thread nD τ).loc main_arg2) :=
  W4_keeps m c main_arg2 (by decide) (by decide) (by decide) (by decide)
theorem W4_arg3 : W4 m c (Proc.devRef .tc main_arg3) = m ((c : Thread nD τ).loc main_arg3) :=
  W4_keeps m c main_arg3 (by decide) (by decide) (by decide) (by decide)
theorem W4_arg4 : W4 m c (Proc.devRef .tc main_arg4) = m ((c : Thread nD τ).loc main_arg4) :=
  W4_keeps m c main_arg4 (by decide) (by decide) (by decide) (by decide)
theorem W4_arg5 : W4 m c (Proc.devRef .tc main_arg5) = m ((c : Thread nD τ).loc main_arg5) :=
  W4_keeps m c main_arg5 (by decide) (by decide) (by decide) (by decide)
theorem W4_arg6 : W4 m c (Proc.devRef .tc main_arg6) = m ((c : Thread nD τ).loc main_arg6) :=
  W4_keeps m c main_arg6 (by decide) (by decide) (by decide) (by decide)
theorem W4_arg7 : W4 m c (Proc.devRef .tc main_arg7) = m ((c : Thread nD τ).loc main_arg7) :=
  W4_keeps m c main_arg7 (by decide) (by decide) (by decide) (by decide)

/-- The run, read at the arguments and the result. -/
theorem run_ends : θ_run defs (onTc (τ := τ) (main (F := F))) ⟨m, fun _ => 0, ρ⟩
    (fun r => (∀ c : Dev nD, r.2.mem ((c : Thread nD τ).loc main_v4) = W4 m c (Proc.devRef .tc main_v4) ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun r h => ⟨fun c => ⟨h.1 c _ (mem_all main_v4 rfl), (h.1 c _ (mem_all main_arg0 rfl)).trans (W4_arg0 m c),
    (h.1 c _ (mem_all main_arg1 rfl)).trans (W4_arg1 m c),
    (h.1 c _ (mem_all main_arg2 rfl)).trans (W4_arg2 m c),
    (h.1 c _ (mem_all main_arg3 rfl)).trans (W4_arg3 m c),
    (h.1 c _ (mem_all main_arg4 rfl)).trans (W4_arg4 m c),
    (h.1 c _ (mem_all main_arg5 rfl)).trans (W4_arg5 m c),
    (h.1 c _ (mem_all main_arg6 rfl)).trans (W4_arg6 m c),
    (h.1 c _ (mem_all main_arg7 rfl)).trans (W4_arg7 m c)⟩, h.2⟩) (run_main ρ m)

end Cert.KernelIdeal.Run

end
-- ==== Proof.Frames.lean ====
/-
# The frames

Every run of the kernel, as printed and in the ideal arithmetic, and of the reference ends with its arguments
unchanged and every semaphore at zero: what the runs say, read at the arguments.
-/
module

public import proofs.«01_k».proof.Defs
public import proofs.«01_k».proof.Proof.RunKernel.Run
public import proofs.«01_k».proof.Proof.RunKernelIdeal.Run
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel (hKernel := Cert.Kernel.Gen.facts) := by
  intro m ρ _
  exact (θ_run Cert.Kernel.defs _ _).mono (fun _ h => ⟨fun c => (h.1 c).2, h.2⟩) (Cert.Kernel.Run.run_ends (F := Bits) ρ m)

theorem frame_kernelIdeal : Cert.quiescent_KernelIdeal (hKernelIdeal := Cert.KernelIdeal.Gen.facts) := by
  intro m ρ _
  exact (θ_run Cert.KernelIdeal.defs _ _).mono (fun _ h => ⟨fun c => (h.1 c).2, h.2⟩) (Cert.KernelIdeal.Run.run_ends (F := Ideal) ρ m)

theorem frame_referenceIdeal : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.Attention.lean ====
/-
# Attention weights on the extended reals

The arithmetic behind the value claim, free of shapes: sums scaled by a nonnegative real, values that are real
numbers, and the quotient of a weighted sum by the sum of its weights, which does not change when every exponent is
lowered by one real number.
-/
module

public import Idealize.ShloMosaic.PureOps.Ideal.Laws

@[expose] public section

noncomputable section

namespace Cert.Maths

open Idealize.ShloMosaic
open scoped BigOperators

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) {f : ι → EReal} (hf : ∀ i, IsReal (f i)) : IsReal (∑ i ∈ s, f i) := by
  classical
  induction s using Finset.induction_on with
  | empty => exact ⟨0, by simp⟩
  | insert a s ha ih => rw [Finset.sum_insert ha]; exact (hf a).add ih

/-- The greatest of finitely many real numbers, at least one of them, is a real number. -/
theorem IsReal.fold_max {ι : Type} (s : Finset ι) (hs : s.Nonempty) {f : ι → EReal} (hf : ∀ i, IsReal (f i)) :
    IsReal (s.fold max ⊥ f) := by
  classical
  induction hs using Finset.Nonempty.cons_induction with
  | singleton a => simpa using hf a
  | cons a s ha hs ih =>
    rw [Finset.fold_cons]
    rcases max_choice (f a) (s.fold max ⊥ f) with h | h <;> rw [h]
    · exact hf a
    · exact ih

/-- A nonnegative real factor goes into a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

theorem div_coe (x : EReal) {r : ℝ} (hr : 0 < r) : Ideal.div x (r : EReal) = x * ((r⁻¹ : ℝ) : EReal) := by
  have : (r : EReal) ≠ 0 := by exact_mod_cast hr.ne'
  unfold Ideal.div
  rw [if_neg this, EReal.coe_inv]

/-- The weighted sum over the sum of the weights, the scores being real numbers, is the sum weighted by the
    normalized weights whose exponents are lowered by a real number. -/
theorem weighted_quotient {n : ℕ} (hn : 0 < n) (S V : Fin n → EReal) (μ : EReal) (hS : ∀ t, IsReal (S t)) (hμ : IsReal μ) :
    Ideal.div (∑ t, Ideal.exp (S t) * V t) (∑ t, Ideal.exp (S t))
      = ∑ t, V t * Ideal.div (Ideal.exp (S t - μ)) (∑ u, Ideal.exp (S u - μ)) := by
  choose σ hσ using hS
  obtain ⟨r, rfl⟩ := hμ
  have hne : (Finset.univ : Finset (Fin n)).Nonempty := ⟨⟨0, hn⟩, Finset.mem_univ _⟩
  have hsub : ∀ t, S t - (r : EReal) = ((σ t - r : ℝ) : EReal) := fun t => by rw [hσ t, EReal.coe_sub]
  simp only [hsub]
  simp only [hσ, exp_coe, sum_coe]
  have hD : 0 < ∑ t, Real.exp (σ t) := Finset.sum_pos (fun t _ => Real.exp_pos _) hne
  have hD' : 0 < ∑ t, Real.exp (σ t - r) := Finset.sum_pos (fun t _ => Real.exp_pos _) hne
  rw [div_coe _ hD, sum_mul_real _ _ _ (inv_nonneg.mpr hD.le)]
  refine Finset.sum_congr rfl fun t _ => ?_
  rw [div_coe _ hD', mul_comm ((Real.exp (σ t) : ℝ) : EReal) (V t), mul_assoc, ← EReal.coe_mul, ← EReal.coe_mul]
  congr 2
  have e : ∑ u, Real.exp (σ u - r) = (∑ u, Real.exp (σ u)) * (Real.exp r)⁻¹ := by
    rw [Finset.sum_mul]; exact Finset.sum_congr rfl fun u _ => by rw [Real.exp_sub, div_eq_mul_inv]
  rw [e, Real.exp_sub, mul_inv, inv_inv]
  field_simp

/-- A sum over 512 positions, four blocks of 128 one after the other. -/
theorem sum_blocks (f : Fin 512 → EReal) :
    ∑ a, f a = ∑ w : Fin 4, ∑ j : Fin 128, f ⟨128 * w.val + j.val, by omega⟩ := by
  rw [← Fintype.sum_prod_type' (f := fun (w : Fin 4) (j : Fin 128) => f ⟨128 * w.val + j.val, by omega⟩)]
  refine (Fintype.sum_equiv (finProdFinEquiv (m := 4) (n := 128)) _ _ fun p => ?_).symm
  exact congrArg f (Fin.ext (by show 128 * p.1.val + p.2.val = p.2.val + 128 * p.1.val; omega))

end Cert.Maths

end
-- ==== Proof.Value.Spec.lean ====
/-
# The layer's output of the whole arrays

The mathematics that both programs compute, on extended reals, by rows and columns: the latents, the keys and the
values they give, the queries, the scaled scores, each head's mix of the values by the normalized weights, and the
output projection of the mixes.
-/
module

public import proofs.«01_k».proof.Proof.Value.Attention
public import Idealize.ShloMosaic.Lib.ValueIdx

@[expose] public section

noncomputable section

namespace Cert.Maths

open Idealize.ShloMosaic
open scoped BigOperators

/-- A matrix product at an entry. -/
def mulAt {M K N : ℕ} (A : Fin M → Fin K → EReal) (B : Fin K → Fin N → EReal) (i : Fin M) (j : Fin N) : EReal := ∑ k, A i k * B k j

/-- The eight arguments, by rows and columns. -/
structure Args where
  x : Fin 1024 → Fin 2048 → EReal
  dkv : Fin 2048 → Fin 512 → EReal
  uk : Fin 512 → Fin 2048 → EReal
  uv : Fin 512 → Fin 2048 → EReal
  q : Fin 2048 → Fin 2048 → EReal
  qr : Fin 2048 → Fin 512 → EReal
  kr : Fin 2048 → Fin 32 → EReal
  wo : Fin 2048 → Fin 2048 → EReal

/-- Column `d` of head `h`, of 16 heads of 128 columns; -/
def hcol (h : Fin 16) (d : Fin 128) : Fin 2048 := ⟨128 * h.val + d.val, by omega⟩
/-- of 16 heads of 32 columns. -/
def rcol (h : Fin 16) (d : Fin 32) : Fin 512 := ⟨32 * h.val + d.val, by omega⟩

/-- The scale of the scores, the real number that its word denotes. -/
def scale : EReal := Ideal.ofBits .f32 0x3DA1E89B#32

theorem scale_real : ∃ r : ℝ, 0 ≤ r ∧ scale = (r : EReal) :=
  ⟨10610843 * (2 : ℝ) ^ (-27 : ℤ), by positivity, by
    simp [scale, Ideal.ofBits, Ideal.ieee]⟩

namespace Args
variable (P : Args)

/-- The latents of a row. -/
def lat : Fin 1024 → Fin 512 → EReal := mulAt P.x P.dkv
def key : Fin 1024 → Fin 2048 → EReal := mulAt P.lat P.uk
def val : Fin 1024 → Fin 2048 → EReal := mulAt P.lat P.uv
def qry : Fin 1024 → Fin 2048 → EReal := mulAt P.x P.q
def qryR : Fin 1024 → Fin 512 → EReal := mulAt P.x P.qr
def keyR : Fin 1024 → Fin 32 → EReal := mulAt P.x P.kr

/-- The score of row `t` for row `s` in head `h`. -/
def score (h : Fin 16) (s t : Fin 1024) : EReal :=
  (∑ d, P.qry s (hcol h d) * P.key t (hcol h d) + ∑ r, P.qryR s (rcol h r) * P.keyR t r) * scale
/-- A row's greatest score. -/
def top (h : Fin 16) (s : Fin 1024) : EReal := Finset.univ.fold max ⊥ (P.score h s)
/-- Column `d` of head `h` of the mixes at row `s`. -/
def out (h : Fin 16) (s : Fin 1024) (d : Fin 128) : EReal :=
  ∑ t, P.val t (hcol h d) * Ideal.div (Ideal.exp (P.score h s t - P.top h s)) (∑ u, Ideal.exp (P.score h s u - P.top h s))

/-- The mixes by column. -/
def mixed (s : Fin 1024) (k : Fin 2048) : EReal := P.out ⟨k.val / 128, by omega⟩ s ⟨k.val % 128, Nat.mod_lt _ (by decide)⟩
/-- The layer's output. -/
def res : Fin 1024 → Fin 2048 → EReal := mulAt P.mixed P.wo

theorem mixed_hcol (s : Fin 1024) (h : Fin 16) (d : Fin 128) : P.mixed s (hcol h d) = P.out h s d := by
  have e1 : (⟨(128 * h.val + d.val) / 128, by omega⟩ : Fin 16) = h := Fin.ext (by show (128 * h.val + d.val) / 128 = h.val; omega)
  have e2 : (⟨(128 * h.val + d.val) % 128, Nat.mod_lt _ (by decide)⟩ : Fin 128) = d :=
    Fin.ext (by show (128 * h.val + d.val) % 128 = d.val; omega)
  show P.out ⟨(128 * h.val + d.val) / 128, _⟩ s ⟨(128 * h.val + d.val) % 128, _⟩ = _
  rw [e1, e2]

theorem hcol_split (k : Fin 2048) : hcol ⟨k.val / 128, by omega⟩ ⟨k.val % 128, Nat.mod_lt _ (by decide)⟩ = k :=
  Fin.ext (by show 128 * (k.val / 128) + k.val % 128 = k.val; omega)

/-- All the arguments that the scores depend on are real numbers. -/
structure Real : Prop where
  x : ∀ i j, IsReal (P.x i j)
  dkv : ∀ i j, IsReal (P.dkv i j)
  uk : ∀ i j, IsReal (P.uk i j)
  q : ∀ i j, IsReal (P.q i j)
  qr : ∀ i j, IsReal (P.qr i j)
  kr : ∀ i j, IsReal (P.kr i j)

end Args

theorem IsReal.mulAt {M K N : ℕ} {A : Fin M → Fin K → EReal} {B : Fin K → Fin N → EReal} (hA : ∀ i j, IsReal (A i j))
    (hB : ∀ i j, IsReal (B i j)) (i : Fin M) (j : Fin N) : IsReal (Maths.mulAt A B i j) :=
  IsReal.sum _ fun k => (hA i k).mul (hB k j)

namespace Args
variable (P : Args)

theorem Real.score {P : Args} (hP : P.Real) (h : Fin 16) (s t : Fin 1024) : IsReal (P.score h s t) := by
  obtain ⟨r, _, hr⟩ := scale_real
  have hq := IsReal.mulAt hP.x hP.q
  have hk := IsReal.mulAt (IsReal.mulAt hP.x hP.dkv) hP.uk
  have hqr := IsReal.mulAt hP.x hP.qr
  have hkr := IsReal.mulAt hP.x hP.kr
  exact ((IsReal.sum _ fun d => (hq s _).mul (hk t _)).add (IsReal.sum _ fun d => (hqr s _).mul (hkr t _))).mul ⟨r, hr⟩

/-- The score, the scale already on the queries. -/
theorem score_eq (h : Fin 16) (s t : Fin 1024) :
    P.score h s t = ∑ d, P.qry s (hcol h d) * scale * P.key t (hcol h d) + ∑ r, P.qryR s (rcol h r) * scale * P.keyR t r := by
  obtain ⟨r, h0, hr⟩ := scale_real
  unfold score
  rw [hr, EReal.right_distrib_of_nonneg_of_ne_top (by exact_mod_cast h0) (EReal.coe_ne_top r), sum_mul_real _ _ r h0, sum_mul_real _ _ r h0]
  exact congrArg₂ (· + ·) (Finset.sum_congr rfl fun d _ => mul_right_comm _ _ _) (Finset.sum_congr rfl fun d _ => mul_right_comm _ _ _)

/-- The output as a quotient of sums over the weights that are not normalized. -/
theorem out_eq {P : Args} (hP : P.Real) (h : Fin 16) (s : Fin 1024) (d : Fin 128) :
    P.out h s d = Ideal.div (∑ t, Ideal.exp (P.score h s t) * P.val t (hcol h d)) (∑ t, Ideal.exp (P.score h s t)) :=
  (weighted_quotient (by decide) _ _ _ (hP.score h s) (IsReal.fold_max _ ⟨0, Finset.mem_univ _⟩ (hP.score h s))).symm

end Args

end Cert.Maths

end
-- ==== Proof.Value.Contract.lean ====
/-
# Products read at an index

Each printed product, of the kernel and of the reference, contracts one axis. Here such a product at an index is
a sum over the coordinate of that axis, for the dimension numbers in use.
-/
module

public import Idealize.ShloMosaic.PureOps.Ideal.Laws
public import Idealize.ShloMosaic.Lib.ValueIdx
public import Idealize.ShloMosaic.Lib.MatmulPlain
public import Idealize.ShloMosaic.Lib.Pipeline.Value
public import Mathlib.Tactic.FinCases

@[expose] public section

noncomputable section

namespace Cert.Maths

open Idealize.ShloMosaic
open Idealize.ShloMosaic.ValueIdx
open scoped BigOperators

/-- A sum over the index of one contracted axis, as a sum over its coordinate, once the two operands' indices are known. -/
theorem contract {sl sr so : Shape} (D : DotDims sl sr so) (n : ℕ) (hr : D.contr.rank = 1) (hs : D.contr.size ⟨0, by omega⟩ = n)
    (lhs : sl.Idx → EReal) (rhs : sr.Idx → EReal) (j : so.Idx) (li : Fin n → sl.Idx) (ri : Fin n → sr.Idx)
    (hl : ∀ (k : Fin n) (q : D.contr.Idx), (q ⟨0, by omega⟩).val = k.val → D.lhsIdx j q = li k)
    (hR : ∀ (k : Fin n) (q : D.contr.Idx), (q ⟨0, by omega⟩).val = k.val → D.rhsIdx j q = ri k) :
    ∑ q : D.contr.Idx, lhs (D.lhsIdx j q) * rhs (D.rhsIdx j q) = ∑ k : Fin n, lhs (li k) * rhs (ri k) := by
  rw [← Equiv.sum_comp (contrEquiv1 D n hr hs).symm]
  refine Finset.sum_congr rfl fun k _ => ?_
  have hk := contrEquiv1_symm_val D n hr hs k
  rw [hl k _ hk, hR k _ hk]

/-! ## The kernel's products -/

/-- `[K,M]ᵀ × [K,N]`. -/
def leftT (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    (by decide : (([] ++ [1] ++ [0] : List (Fin 2))).Perm (List.finRange 2)),
    (by decide : (([] ++ [1] ++ [0] : List (Fin 2))).Perm (List.finRange 2)),
    rfl, by show 0 < 2; decide, fun a => by fin_cases a <;> rfl⟩

/-- `[K,M]ᵀ × [N,K]ᵀ`. -/
def bothT (M K N : ℕ) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp,
    (by decide : (([] ++ [1] ++ [0] : List (Fin 2))).Perm (List.finRange 2)),
    (by decide : (([] ++ [0] ++ [1] : List (Fin 2))).Perm (List.finRange 2)),
    rfl, by show 0 < 2; decide, fun a => by fin_cases a <;> rfl⟩

theorem leftT_apply {M K N : ℕ} {φ₁ φ₂ : FTy} (lhs : FVec Ideal ⟨2, ![K, M]⟩ φ₁) (rhs : FVec Ideal ⟨2, ![K, N]⟩ φ₂) (i : Fin M) (j : Fin N) :
    matmul (leftT M K N) none lhs rhs (constant ⟨2, ![M, N]⟩ .f32 0x00000000#32) (ix2 i j) = ∑ k : Fin K, lhs (ix2 k i) * rhs (ix2 k j) := by
  refine (Ideal.matmul_constant_zero_apply _ none lhs rhs _).trans ?_
  refine contract (leftT M K N) K rfl rfl lhs rhs (ix2 i j) (fun k => ix2 k i) (fun k => ix2 k j) (fun k q hq => ?_) (fun k q hq => ?_)
  · funext a; apply Fin.ext
    match a with
    | ⟨0, _⟩ => exact hq
    | ⟨1, _⟩ => rfl
  · funext a; apply Fin.ext
    match a with
    | ⟨0, _⟩ => exact hq
    | ⟨1, _⟩ => rfl

theorem bothT_apply {M K N : ℕ} {φ₁ φ₂ : FTy} (lhs : FVec Ideal ⟨2, ![K, M]⟩ φ₁) (rhs : FVec Ideal ⟨2, ![N, K]⟩ φ₂) (i : Fin M) (j : Fin N) :
    matmul (bothT M K N) none lhs rhs (constant ⟨2, ![M, N]⟩ .f32 0x00000000#32) (ix2 i j) = ∑ k : Fin K, lhs (ix2 k i) * rhs (ix2 j k) := by
  refine (Ideal.matmul_constant_zero_apply _ none lhs rhs _).trans ?_
  refine contract (bothT M K N) K rfl rfl lhs rhs (ix2 i j) (fun k => ix2 k i) (fun k => ix2 j k) (fun k q hq => ?_) (fun k q hq => ?_)
  · funext a; apply Fin.ext
    match a with
    | ⟨0, _⟩ => exact hq
    | ⟨1, _⟩ => rfl
  · funext a; apply Fin.ext
    match a with
    | ⟨0, _⟩ => rfl
    | ⟨1, _⟩ => exact hq

theorem plain_apply {M K N : ℕ} {φ₁ φ₂ : FTy} (lhs : FVec Ideal ⟨2, ![M, K]⟩ φ₁) (rhs : FVec Ideal ⟨2, ![K, N]⟩ φ₂) (i : Fin M) (j : Fin N) :
    matmul (DotDims.plain M K N) none lhs rhs (constant ⟨2, ![M, N]⟩ .f32 0x00000000#32) (ix2 i j) = ∑ k : Fin K, lhs (ix2 i k) * rhs (ix2 k j) := by
  refine (Ideal.matmul_constant_zero_apply _ none lhs rhs _).trans ?_
  refine contract (DotDims.plain M K N) K rfl rfl lhs rhs (ix2 i j) (fun k => ix2 i k) (fun k => ix2 k j) (fun k q hq => ?_) (fun k q hq => ?_)
  · funext a; apply Fin.ext
    match a with
    | ⟨0, _⟩ => rfl
    | ⟨1, _⟩ => exact hq
  · funext a; apply Fin.ext
    match a with
    | ⟨0, _⟩ => exact hq
    | ⟨1, _⟩ => rfl

theorem rightT_apply {M K N : ℕ} {φ₁ φ₂ : FTy} (lhs : FVec Ideal ⟨2, ![M, K]⟩ φ₁) (rhs : FVec Ideal ⟨2, ![N, K]⟩ φ₂) (i : Fin M) (j : Fin N) :
    matmul (DotDims.transposedRhs M K N) none lhs rhs (constant ⟨2, ![M, N]⟩ .f32 0x00000000#32) (ix2 i j) = ∑ k : Fin K, lhs (ix2 i k) * rhs (ix2 j k) := by
  refine (Ideal.matmul_constant_zero_apply _ none lhs rhs _).trans ?_
  refine contract (DotDims.transposedRhs M K N) K rfl rfl lhs rhs (ix2 i j) (fun k => ix2 i k) (fun k => ix2 j k) (fun k q hq => ?_) (fun k q hq => ?_)
  · funext a; apply Fin.ext
    match a with
    | ⟨0, _⟩ => rfl
    | ⟨1, _⟩ => exact hq
  · funext a; apply Fin.ext
    match a with
    | ⟨0, _⟩ => rfl
    | ⟨1, _⟩ => exact hq

/-! ## The reference's products -/

/-- `[1,M,K] × [K,N]`. -/
def rowsDot (M K N : ℕ) : DotDims ⟨3, ![1, M, K]⟩ ⟨2, ![K, N]⟩ ⟨3, ![1, M, N]⟩ where
  lhsContracting := [2]
  rhsContracting := [0]
  lhsNonContracting := [0, 1]
  rhsNonContracting := [1]
  lhsBatch := []
  rhsBatch := []
  wf := ⟨rfl, by simp, rfl, by simp, by simp, by simp,
    (by decide : (([] ++ [0, 1] ++ [2] : List (Fin 3))).Perm (List.finRange 3)),
    (by decide : (([] ++ [1] ++ [0] : List (Fin 2))).Perm (List.finRange 2)),
    rfl, by show 0 < 3; decide, fun a => by fin_cases a <;> rfl⟩

/-- `[1,S,H,K] × [1,T,H,K]`, head by head. -/
def headsDot (S T H K : ℕ) (hH : 0 < H) : DotDims ⟨4, ![1, S, H, K]⟩ ⟨4, ![1, T, H, K]⟩ ⟨4, ![1, H, S, T]⟩ where
  lhsContracting := [3]
  rhsContracting := [3]
  lhsNonContracting := [1]
  rhsNonContracting := [1]
  lhsBatch := [0, 2]
  rhsBatch := [0, 2]
  wf := ⟨rfl, by simp, rfl, by simpa using hH, by simp, by simp,
    (by decide : (([0, 2] ++ [1] ++ [3] : List (Fin 4))).Perm (List.finRange 4)),
    (by decide : (([0, 2] ++ [1] ++ [3] : List (Fin 4))).Perm (List.finRange 4)),
    rfl, by show 0 < 4; decide, fun a => by fin_cases a <;> rfl⟩

/-- `[1,T,H,K] × [1,H,S,T]`, head by head. -/
def mixDot (S T H K : ℕ) (hH : 0 < H) : DotDims ⟨4, ![1, T, H, K]⟩ ⟨4, ![1, H, S, T]⟩ ⟨4, ![1, H, K, S]⟩ where
  lhsContracting := [1]
  rhsContracting := [3]
  lhsNonContracting := [3]
  rhsNonContracting := [2]
  lhsBatch := [0, 2]
  rhsBatch := [0, 1]
  wf := ⟨rfl, by simp, rfl, by simpa using hH, by simp, by simp,
    (by decide : (([0, 2] ++ [3] ++ [1] : List (Fin 4))).Perm (List.finRange 4)),
    (by decide : (([0, 1] ++ [2] ++ [3] : List (Fin 4))).Perm (List.finRange 4)),
    rfl, by show 0 < 4; decide, fun a => by fin_cases a <;> rfl⟩

theorem rowsDot_apply {M K N : ℕ} (lhs : FVec Ideal ⟨3, ![1, M, K]⟩ .f32) (rhs : FVec Ideal ⟨2, ![K, N]⟩ .f32) (u : Fin 1) (i : Fin M) (j : Fin N) :
    Host.dotGeneral (rowsDot M K N) none lhs rhs (ix3 u i j) = ∑ k : Fin K, lhs (ix3 u i k) * rhs (ix2 k j) := by
  refine (Ideal.dotGeneral_apply _ none _ lhs rhs _).trans ?_
  refine contract (rowsDot M K N) K rfl rfl lhs rhs (ix3 u i j) (fun k => ix3 u i k) (fun k => ix2 k j) (fun k q hq => ?_) (fun k q hq => ?_)
  · funext a; apply Fin.ext
    match a with
    | ⟨0, _⟩ => rfl
    | ⟨1, _⟩ => rfl
    | ⟨2, _⟩ => exact hq
  · funext a; apply Fin.ext
    match a with
    | ⟨0, _⟩ => exact hq
    | ⟨1, _⟩ => rfl

theorem headsDot_apply {S T H K : ℕ} (hH : 0 < H) (lhs : FVec Ideal ⟨4, ![1, S, H, K]⟩ .f32) (rhs : FVec Ideal ⟨4, ![1, T, H, K]⟩ .f32)
    (u : Fin 1) (h : Fin H) (i : Fin S) (j : Fin T) :
    Host.dotGeneral (headsDot S T H K hH) none lhs rhs (ix4 u h i j) = ∑ k : Fin K, lhs (ix4 u i h k) * rhs (ix4 u j h k) := by
  refine (Ideal.dotGeneral_apply _ none _ lhs rhs _).trans ?_
  refine contract (headsDot S T H K hH) K rfl rfl lhs rhs (ix4 u h i j) (fun k => ix4 u i h k) (fun k => ix4 u j h k) (fun k q hq => ?_) (fun k q hq => ?_)
  · funext a; apply Fin.ext
    match a with
    | ⟨0, _⟩ => rfl
    | ⟨1, _⟩ => rfl
    | ⟨2, _⟩ => rfl
    | ⟨3, _⟩ => exact hq
  · funext a; apply Fin.ext
    match a with
    | ⟨0, _⟩ => rfl
    | ⟨1, _⟩ => rfl
    | ⟨2, _⟩ => rfl
    | ⟨3, _⟩ => exact hq

theorem mixDot_apply {S T H K : ℕ} (hH : 0 < H) (lhs : FVec Ideal ⟨4, ![1, T, H, K]⟩ .f32) (rhs : FVec Ideal ⟨4, ![1, H, S, T]⟩ .f32)
    (u : Fin 1) (h : Fin H) (d : Fin K) (i : Fin S) :
    Host.dotGeneral (mixDot S T H K hH) none lhs rhs (ix4 u h d i) = ∑ t : Fin T, lhs (ix4 u t h d) * rhs (ix4 u h i t) := by
  refine (Ideal.dotGeneral_apply _ none _ lhs rhs _).trans ?_
  refine contract (mixDot S T H K hH) T rfl rfl lhs rhs (ix4 u h d i) (fun k => ix4 u k h d) (fun k => ix4 u h i k) (fun k q hq => ?_) (fun k q hq => ?_)
  · funext a; apply Fin.ext
    match a with
    | ⟨0, _⟩ => rfl
    | ⟨1, _⟩ => exact hq
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hq

end Cert.Maths

end
-- ==== Proof.Value.Kernel.lean ====
/-
# A device's keys and values at an index

Of whole arrays `P` cut into the devices' blocks: the latents each device computes are its part of all the latents;
a device's keys and values, summed over the four peers in the order of arrival, are all the keys and values.
-/
module

public import proofs.«01_k».proof.Proof.RunKernelIdeal.Contents
public import proofs.«01_k».proof.Proof.Value.Spec
public import proofs.«01_k».proof.Proof.Value.Contract
public import Idealize.ShloMosaic.Lib.Pipeline.Value
public import Idealize.ShloMosaic.Lib.ValueLayout
public import Idealize.ShloMosaic.Lib.ValueLayoutCasts

@[expose] public section

set_option maxRecDepth 16384

noncomputable section

namespace Cert.KernelIdeal.Result

open Cert.KernelIdeal Cert.KernelIdeal.Gen Cert.KernelIdeal.Run Cert.Maths
open Idealize.ShloMosaic Idealize.ShloMosaic.TcCoe
open Idealize.ShloMosaic.ValueIdx
open scoped BigOperators

variable (m : (ℓ : Loc nD τ sig) → Buf (Elt Ideal) ℓ)

/-! ## The staged blocks are the arguments -/

theorem xB_eq (c : Dev nD) : xB m c = m ((c : Thread nD τ).loc main_arg0) := by
  funext i
  refine congrArg (m ((c : Thread nD τ).loc main_arg0)) (funext fun a => Fin.ext ?_)
  match a with
  | ⟨0, _⟩ => show 0 * 1 + 1 * (i 0).val = (i 0).val; omega
  | ⟨1, _⟩ => show 0 * 1024 + 1 * (i 1).val = (i 1).val; omega
  | ⟨2, _⟩ => show 0 * 2048 + 1 * (i 2).val = (i 2).val; omega
theorem wdkvB_eq (c : Dev nD) : wdkvB m c = m ((c : Thread nD τ).loc main_arg1) := by
  funext i
  refine congrArg (m ((c : Thread nD τ).loc main_arg1)) (funext fun a => Fin.ext ?_)
  match a with
  | ⟨0, _⟩ => show 0 * 2048 + 1 * (i 0).val = (i 0).val; omega
  | ⟨1, _⟩ => show 0 * 128 + 1 * (i 1).val = (i 1).val; omega
theorem wukB_eq (c : Dev nD) : wukB m c = m ((c : Thread nD τ).loc main_arg2) := by
  funext i
  refine congrArg (m ((c : Thread nD τ).loc main_arg2)) (funext fun a => Fin.ext ?_)
  match a with
  | ⟨0, _⟩ => show 0 * 128 + 1 * (i 0).val = (i 0).val; omega
  | ⟨1, _⟩ => show 0 * 2048 + 1 * (i 1).val = (i 1).val; omega
theorem wuvB_eq (c : Dev nD) : wuvB m c = m ((c : Thread nD τ).loc main_arg3) := by
  funext i
  refine congrArg (m ((c : Thread nD τ).loc main_arg3)) (funext fun a => Fin.ext ?_)
  match a with
  | ⟨0, _⟩ => show 0 * 128 + 1 * (i 0).val = (i 0).val; omega
  | ⟨1, _⟩ => show 0 * 2048 + 1 * (i 1).val = (i 1).val; omega
/-! ## Whole arrays and their blocks -/

/-- Coordinate `j` of block `w`, of four blocks of 128. -/
def b128 (w : Fin 4) (j : Fin 128) : Fin 512 := ⟨128 * w.val + j.val, by omega⟩

/-- Each device holds its blocks of the arrays `P`, and the arrays that are not cut. -/
structure Holds (P : Args) : Prop where
  x : ∀ (d : Dev nD) i k, m ((d : Thread nD τ).loc main_arg0) (ix3 (n0 := 1) (n1 := 1024) (n2 := 2048) 0 i k) = P.x i k
  dkv : ∀ (d : Dev nD) k j, m ((d : Thread nD τ).loc main_arg1) (ix2 (n0 := 2048) (n1 := 128) k j) = P.dkv k (b128 (zc d) j)
  uk : ∀ (d : Dev nD) a j, m ((d : Thread nD τ).loc main_arg2) (ix2 (n0 := 128) (n1 := 2048) a j) = P.uk (b128 (zc d) a) j
  uv : ∀ (d : Dev nD) a j, m ((d : Thread nD τ).loc main_arg3) (ix2 (n0 := 128) (n1 := 2048) a j) = P.uv (b128 (zc d) a) j
  q : ∀ (d : Dev nD) k j, m ((d : Thread nD τ).loc main_arg4) (ix2 (n0 := 2048) (n1 := 2048) k j) = P.q k j
  qr : ∀ (d : Dev nD) k j, m ((d : Thread nD τ).loc main_arg5) (ix2 (n0 := 2048) (n1 := 512) k j) = P.qr k j
  kr : ∀ (d : Dev nD) k j, m ((d : Thread nD τ).loc main_arg6) (ix2 (n0 := 2048) (n1 := 32) k j) = P.kr k j
  wo : ∀ (d : Dev nD) k j, m ((d : Thread nD τ).loc main_arg7) (ix2 (n0 := 2048) (n1 := 2048) k j) = P.wo k j

section
variable {m} {P : Args} (H : Holds m P)
include H

theorem wuk_at (d : Dev nD) (a : Fin 128) (j : Fin 2048) :
    wukB m d (ix2 (n0 := 128) (n1 := 2048) a j) = P.uk (b128 (zc d) a) j :=
  (congrFun (wukB_eq m d) _).trans (H.uk d a j)
theorem wuv_at (d : Dev nD) (a : Fin 128) (j : Fin 2048) :
    wuvB m d (ix2 (n0 := 128) (n1 := 2048) a j) = P.uv (b128 (zc d) a) j :=
  (congrFun (wuvB_eq m d) _).trans (H.uv d a j)

/-- A device's latents. -/
theorem ctV_at (d : Dev nD) (a : Fin 128) (t : Fin 1024) :
    ctV m d (ix2 (n0 := 128) (n1 := 1024) a t) = P.lat t (b128 (zc d) a) := by
  refine (congrFun (shapeCast_self (matmul dot_S2048x128_S1024x2048_S128x1024_0_1_1_0_n_n none (k0_pay2 (wdkvB m d))
    (k0_pay1 (xB m d)) (constant (F := Ideal) S128x1024 .f32 0x00000000#32)) shapeCasts_S128x1024_S128x1024) _).trans ?_
  refine (bothT_apply (M := 128) (K := 2048) (N := 1024) (φ₁ := .f32) (φ₂ := .f32) _ _ a t).trans ?_
  show _ = ∑ k, P.x t k * P.dkv k (b128 (zc d) a)
  refine Finset.sum_congr rfl fun k _ => ?_
  rw [mul_comm]
  exact congrArg₂ (· * ·) ((shapeCast_1ab_ab_apply (xB m d) _ t k).trans ((congrFun (xB_eq m d) _).trans (H.x d t k)))
    ((congrFun (shapeCast_self _ _) _).trans ((congrFun (wdkvB_eq m d) _).trans (H.dkv d k a)))

/-- What coordinate `w`'s rows add to a product with the latents. -/
def part (P : Args) (W : Fin 512 → Fin 2048 → EReal) (w : Fin 4) (t : Fin 1024) (j : Fin 2048) : EReal :=
  ∑ a : Fin 128, P.lat t (b128 w a) * W (b128 w a) j

omit H in
/-- The four parts in the order of arrival are the whole product. -/
theorem parts_eq (P : Args) (W : Fin 512 → Fin 2048 → EReal) (z : Fin 4) (t : Fin 1024) (j : Fin 2048) :
    part P W z t j + part P W (z + 1) t j + part P W (z + 3) t j + part P W (z + 2) t j = mulAt P.lat W t j := by
  have h : ∀ (g : Fin 4 → EReal) (z : Fin 4), g z + g (z + 1) + g (z + 3) + g (z + 2) = ∑ w, g w := by
    intro g z
    rw [Fin.sum_univ_four]
    match z with
    | 0 => show g 0 + g 1 + g 3 + g 2 = _; ac_rfl
    | 1 => show g 1 + g 2 + g 0 + g 3 = _; ac_rfl
    | 2 => show g 2 + g 3 + g 1 + g 0 = _; ac_rfl
    | 3 => show g 3 + g 0 + g 2 + g 1 = _; ac_rfl
  exact (h (fun w => part P W w t j) z).trans (sum_blocks fun a => P.lat t a * W a j).symm

/-- The product of a device's own latents with its own rows; -/
def own (w : FVec Ideal S128x2048 .f32) (ct : FVec Ideal S128x1024 .f32) : FVec Ideal S1024x2048 .f32 :=
  matmul dot_S128x1024_S128x2048_S1024x2048_0_0_1_1_n_n none ct
    (shapeCast S128x2048 w shapeCasts_S128x2048_S128x2048) (constant S1024x2048 .f32 0x00000000#32)
/-- and what a peer sent, added. -/
def add (acc : FVec Ideal S1024x2048 .f32) (ct : FVec Ideal S1x128x1024 .f32) (w : FVec Ideal S1x128x2048 .f32) : FVec Ideal S1024x2048 .f32 :=
  addf (shapeCast S1024x2048 acc shapeCasts_S1024x2048_S1024x2048)
    (matmul dot_S128x1024_S128x2048_S1024x2048_0_0_1_1_n_n none (shapeCast S128x1024 ct shapeCasts_S1x128x1024_S128x1024)
      (shapeCast S128x2048 w shapeCasts_S1x128x2048_S128x2048) (constant S1024x2048 .f32 0x00000000#32))

theorem own_at (c : Dev nD) (W : Fin 512 → Fin 2048 → EReal) (w : FVec Ideal S128x2048 .f32)
    (hw : ∀ a j, w (ix2 (n0 := 128) (n1 := 2048) a j) = W (b128 (zc c) a) j) (t : Fin 1024) (j : Fin 2048) :
    own w (ctV m c) (ix2 (n0 := 1024) (n1 := 2048) t j) = part P W (zc c) t j := by
  unfold own
  rw [shapeCast_self]
  exact (leftT_apply (M := 1024) (K := 128) (N := 2048) (φ₁ := .f32) (φ₂ := .f32) (ctV m c) w t j).trans
    (Finset.sum_congr rfl fun a _ => congrArg₂ (· * ·) (ctV_at H c a t) (hw a j))

theorem add_at (c : Dev nD) (r : Fin 4) (W : Fin 512 → Fin 2048 → EReal) (acc : FVec Ideal S1024x2048 .f32) (w : FVec Ideal S1x128x2048 .f32)
    (hw : ∀ a j, w (ix3 (n0 := 1) (n1 := 128) (n2 := 2048) 0 a j) = W (b128 (zc (pd r c)) a) j) (t : Fin 1024) (j : Fin 2048) :
    add acc (ctIn m c (pz r c)) w (ix2 (n0 := 1024) (n1 := 2048) t j)
      = acc (ix2 (n0 := 1024) (n1 := 2048) t j) + part P W (zc c + r) t j := by
  unfold add
  rw [shapeCast_self]
  refine congrArg (acc (ix2 (n0 := 1024) (n1 := 2048) t j) + ·) ?_
  refine (leftT_apply (M := 1024) (K := 128) (N := 2048) (φ₁ := .f32) (φ₂ := .f32) (shapeCast S128x1024 (ctIn m c (pz r c)) shapeCasts_S1x128x1024_S128x1024)
    (shapeCast S128x2048 w shapeCasts_S1x128x2048_S128x2048) t j).trans ?_
  refine Finset.sum_congr rfl fun a _ => congrArg₂ (· * ·) ?_ ?_
  · refine (shapeCast_1ab_ab_apply (ctIn m c (pz r c)) _ a t).trans ?_
    refine (ctV_at H (pd r c) a t).trans ?_
    rw [zc_pd]; rfl
  · refine (shapeCast_1ab_ab_apply w _ a j).trans ((hw a j).trans ?_)
    rw [zc_pd]; rfl

/-- The rows a peer sent are the peer's. -/
theorem ukIn_at (c : Dev nD) (r : Fin 4) (a : Fin 128) (j : Fin 2048) :
    ukIn m c (pz r c) (ix3 (n0 := 1) (n1 := 128) (n2 := 2048) 0 a j) = P.uk (b128 (zc (pd r c)) a) j :=
  wuk_at H (pd r c) a j
theorem uvIn_at (c : Dev nD) (r : Fin 4) (a : Fin 128) (j : Fin 2048) :
    uvIn m c (pz r c) (ix3 (n0 := 1) (n1 := 128) (n2 := 2048) 0 a j) = P.uv (b128 (zc (pd r c)) a) j :=
  wuv_at H (pd r c) a j

/-- A device's keys are all the keys; -/
theorem kc4_at (c : Dev nD) (t : Fin 1024) (j : Fin 2048) :
    kc4 m c (ix2 (n0 := 1024) (n1 := 2048) t j) = P.key t j := by
  have e : kc4 m c = add (add (add (own (wukB m c) (ctV m c))
      (ctIn m c (pz 1 c)) (ukIn m c (pz 1 c))) (ctIn m c (pz 3 c)) (ukIn m c (pz 3 c))) (ctIn m c (pz 2 c)) (ukIn m c (pz 2 c)) := rfl
  rw [e, add_at H c 2 P.uk _ _ (ukIn_at H c 2), add_at H c 3 P.uk _ _ (ukIn_at H c 3), add_at H c 1 P.uk _ _ (ukIn_at H c 1),
    own_at H c P.uk _ (wuk_at H c)]
  exact parts_eq P P.uk (zc c) t j
/-- the values likewise. -/
theorem vc4_at (c : Dev nD) (t : Fin 1024) (j : Fin 2048) :
    vc4 m c (ix2 (n0 := 1024) (n1 := 2048) t j) = P.val t j := by
  have e : vc4 m c = add (add (add (own (wuvB m c) (ctV m c))
      (ctIn m c (pz 1 c)) (uvIn m c (pz 1 c))) (ctIn m c (pz 3 c)) (uvIn m c (pz 3 c))) (ctIn m c (pz 2 c)) (uvIn m c (pz 2 c)) := rfl
  rw [e, add_at H c 2 P.uv _ _ (uvIn_at H c 2), add_at H c 3 P.uv _ _ (uvIn_at H c 3), add_at H c 1 P.uv _ _ (uvIn_at H c 1),
    own_at H c P.uv _ (wuv_at H c)]
  exact parts_eq P P.uv (zc c) t j

end

end Cert.KernelIdeal.Result

end
-- ==== Proof.Value.Reference.lean ====
/-
# The reference's result at an index

The reference's operations one after the other, each read at an index, down to the output of the whole arrays.
-/
module

public import proofs.«01_k».proof.Proof.Gen.ReferenceIdeal.Run
public import proofs.«01_k».proof.Proof.Value.Spec
public import proofs.«01_k».proof.Proof.Value.Contract
public import Idealize.ShloMosaic.Lib.IdealHost
public import Idealize.ShloMosaic.Lib.KernelVsHost

@[expose] public section

set_option maxRecDepth 16384

noncomputable section

namespace Cert.ReferenceIdeal.Result

open Cert.ReferenceIdeal Cert.ReferenceIdeal.Gen Cert.Maths
open Idealize.ShloMosaic Idealize.ShloMosaic.TcCoe
open Idealize.ShloMosaic.ValueIdx (ix0 ix1 ix2 ix3 ix4 eq_ix0 eq_ix2 eq_ix3 eq_ix4)
open scoped BigOperators

variable (a0 : FVec Ideal S1x1024x2048 .f32) (a1 : FVec Ideal S2048x512 .f32) (a2 a3 : FVec Ideal S512x2048 .f32)
  (a4 : FVec Ideal S2048x2048 .f32) (a5 : FVec Ideal S2048x512 .f32) (a6 : FVec Ideal S2048x32 .f32) (a7 : FVec Ideal S2048x2048 .f32)

/-- The arguments by rows and columns. -/
def argsOf : Args where
  x i k := a0 (ix3 (n0 := 1) (n1 := 1024) (n2 := 2048) 0 i k)
  dkv i k := a1 (ix2 (n0 := 2048) (n1 := 512) i k)
  uk i k := a2 (ix2 (n0 := 512) (n1 := 2048) i k)
  uv i k := a3 (ix2 (n0 := 512) (n1 := 2048) i k)
  q i k := a4 (ix2 (n0 := 2048) (n1 := 2048) i k)
  qr i k := a5 (ix2 (n0 := 2048) (n1 := 512) i k)
  kr i k := a6 (ix2 (n0 := 2048) (n1 := 32) i k)
  wo i k := a7 (ix2 (n0 := 2048) (n1 := 2048) i k)

/-! ## The operations -/

def latA : FVec Ideal S1x1024x512 .f32 := Host.dotGeneral dot_S1x1024x2048_S2048x512_S1x1024x512_2_0_01_1_n_n none a0 a1
def upA (b : FVec Ideal S512x2048 .f32) : FVec Ideal S1x1024x16x128 .f32 :=
  shapeCast S1x1024x16x128 (Host.dotGeneral dot_S1x1024x512_S512x2048_S1x1024x2048_2_0_01_1_n_n none (latA a0 a1) b) shapeCasts_S1x1024x2048_S1x1024x16x128
def qA : FVec Ideal S1x1024x16x128 .f32 :=
  shapeCast S1x1024x16x128 (Host.dotGeneral dot_S1x1024x2048_S2048x2048_S1x1024x2048_2_0_01_1_n_n none a0 a4) shapeCasts_S1x1024x2048_S1x1024x16x128
def qrA : FVec Ideal S1x1024x16x32 .f32 :=
  shapeCast S1x1024x16x32 (Host.dotGeneral dot_S1x1024x2048_S2048x512_S1x1024x512_2_0_01_1_n_n none a0 a5) shapeCasts_S1x1024x512_S1x1024x16x32
def krA : FVec Ideal S1x1024x1x32 .f32 :=
  shapeCast S1x1024x1x32 (Host.dotGeneral dot_S1x1024x2048_S2048x32_S1x1024x32_2_0_01_1_n_n none a0 a6) shapeCasts_S1x1024x32_S1x1024x1x32
def scA : FVec Ideal S1x16x1024x1024 .f32 :=
  mulf (addf (Host.dotGeneral dot_S1x1024x16x128_S1x1024x16x128_S1x16x1024x1024_3_3_1_1_02_02 none (qA a0 a4) (upA a0 a1 a2))
      (Host.dotGeneral dot_S1x1024x16x32_S1x1024x16x32_S1x16x1024x1024_3_3_1_1_02_02 none (qrA a0 a5)
        (broadcastInDim S1x1024x16x32 ![0, 1, 2, 3] bcast_S1x1024x1x32_S1x1024x16x32_0_1_2_3 (krA a0 a6))))
    (broadcastInDim S1x16x1024x1024 ![] bcast_S_S1x16x1024x1024 (constant S_ .f32 0x3DA1E89B#32))
def spread (y : FVec Ideal S1x16x1024 .f32) : FVec Ideal S1x16x1024x1024 .f32 :=
  broadcastInDim S1x16x1024x1024 ![0, 1, 2, 3] bcast_S1x16x1024x1_S1x16x1024x1024_0_1_2_3
    (broadcastInDim S1x16x1024x1 ![0, 1, 2] bcast_S1x16x1024_S1x16x1024x1_0_1_2 y)
def topA : FVec Ideal S1x16x1024 .f32 :=
  Host.reduce FloatOps.maximumf (scA a0 a1 a2 a4 a5 a6) (constant S_ .f32 0xFF800000#32) reducesTo_S1x16x1024x1024_S1x16x1024_d3 h_S_
def expA : FVec Ideal S1x16x1024x1024 .f32 := Host.exp (subf (scA a0 a1 a2 a4 a5 a6) (spread (topA a0 a1 a2 a4 a5 a6)))
def sumA : FVec Ideal S1x16x1024 .f32 :=
  Host.reduceAdd (expA a0 a1 a2 a4 a5 a6) (constant S_ .f32 0x00000000#32) reducesTo_S1x16x1024x1024_S1x16x1024_d3 h_S_
def wA : FVec Ideal S1x16x1024x1024 .f32 := Host.divf (expA a0 a1 a2 a4 a5 a6) (spread (sumA a0 a1 a2 a4 a5 a6))
def mixA : FVec Ideal S1x1024x2048 .f32 :=
  shapeCast S1x1024x2048 (transpose S1x1024x16x128 [0, 3, 1, 2]
    (Host.dotGeneral dot_S1x1024x16x128_S1x16x1024x1024_S1x16x128x1024_1_3_3_2_02_01 none (upA a0 a1 a3) (wA a0 a1 a2 a4 a5 a6))
    transposes_S1x16x128x1024_S1x1024x16x128_0_3_1_2) shapeCasts_S1x1024x16x128_S1x1024x2048
def outA : FVec Ideal S1x1024x2048 .f32 :=
  Host.dotGeneral dot_S1x1024x2048_S2048x2048_S1x1024x2048_2_0_01_1_n_n none (mixA a0 a1 a2 a3 a4 a5 a6) a7

theorem res_eq (m : (ℓ : Loc nD τ sig) → Buf (Elt Ideal) ℓ) (c : Dev nD) :
    Value.res_out0 m c = outA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) := rfl

/-! ## At an index -/

theorem cast_heads {H D : ℕ} (x : (⟨3, ![1, 1024, H * D]⟩ : Shape).Idx → EReal) (h : (⟨3, ![1, 1024, H * D]⟩ : Shape).ShapeCasts ⟨4, ![1, 1024, H, D]⟩)
    (u : Fin 1) (i : Fin 1024) (j : Fin H) (d : Fin D) (k : Fin (H * D)) (hk : k.val = D * j.val + d.val) :
    shapeCast ⟨4, ![1, 1024, H, D]⟩ x h (ix4 u i j d) = x (ix3 u i k) :=
  shapeCast_apply x h _ _ (by
    rw [Shape.rowMajor_val_three, Shape.rowMajor_val_four]
    show (u.val * 1024 + i.val) * (H * D) + k.val = ((u.val * 1024 + i.val) * H + j.val) * D + d.val
    rw [hk]; ring)

theorem latA_at (u : Fin 1) (i : Fin 1024) (j : Fin 512) :
    latA a0 a1 (ix3 u i j) = (argsOf a0 a1 a2 a3 a4 a5 a6 a7).lat i j := by
  obtain rfl : u = 0 := Subsingleton.elim _ _
  exact rowsDot_apply (M := 1024) (K := 2048) (N := 512) a0 a1 0 i j

theorem upA_at (b : FVec Ideal S512x2048 .f32) (i : Fin 1024) (h : Fin 16) (d : Fin 128) :
    upA a0 a1 b (ix4 (n0 := 1) (n1 := 1024) (n2 := 16) (n3 := 128) 0 i h d)
      = mulAt (argsOf a0 a1 a2 a3 a4 a5 a6 a7).lat (fun k j => b (ix2 (n0 := 512) (n1 := 2048) k j)) i (hcol h d) := by
  refine (cast_heads (H := 16) (D := 128) _ _ 0 i h d (hcol h d) rfl).trans ?_
  refine (rowsDot_apply (M := 1024) (K := 512) (N := 2048) _ b 0 i (hcol h d)).trans ?_
  exact Finset.sum_congr rfl fun k _ => congrArg (· * _) (latA_at a0 a1 a2 a3 a4 a5 a6 a7 0 i k)

theorem qA_at (i : Fin 1024) (h : Fin 16) (d : Fin 128) :
    qA a0 a4 (ix4 (n0 := 1) (n1 := 1024) (n2 := 16) (n3 := 128) 0 i h d) = (argsOf a0 a1 a2 a3 a4 a5 a6 a7).qry i (hcol h d) :=
  (cast_heads (H := 16) (D := 128) _ _ 0 i h d (hcol h d) rfl).trans
    (rowsDot_apply (M := 1024) (K := 2048) (N := 2048) a0 a4 0 i (hcol h d))

theorem qrA_at (i : Fin 1024) (h : Fin 16) (d : Fin 32) :
    qrA a0 a5 (ix4 (n0 := 1) (n1 := 1024) (n2 := 16) (n3 := 32) 0 i h d) = (argsOf a0 a1 a2 a3 a4 a5 a6 a7).qryR i (rcol h d) :=
  (cast_heads (H := 16) (D := 32) _ _ 0 i h d (rcol h d) rfl).trans
    (rowsDot_apply (M := 1024) (K := 2048) (N := 512) a0 a5 0 i (rcol h d))

theorem krA_at (i : Fin 1024) (d : Fin 32) :
    krA a0 a6 (ix4 (n0 := 1) (n1 := 1024) (n2 := 1) (n3 := 32) 0 i 0 d) = (argsOf a0 a1 a2 a3 a4 a5 a6 a7).keyR i d :=
  (cast_heads (H := 1) (D := 32) _ _ 0 i 0 d d (by show d.val = 32 * 0 + d.val; omega)).trans
    (rowsDot_apply (M := 1024) (K := 2048) (N := 32) a0 a6 0 i d)

theorem krB_at (i : Fin 1024) (h : Fin 16) (d : Fin 32) :
    broadcastInDim S1x1024x16x32 ![0, 1, 2, 3] bcast_S1x1024x1x32_S1x1024x16x32_0_1_2_3 (krA a0 a6) (ix4 (n0 := 1) (n1 := 1024) (n2 := 16) (n3 := 32) 0 i h d)
      = (argsOf a0 a1 a2 a3 a4 a5 a6 a7).keyR i d :=
  (broadcastInDim_apply _ _ _ _ (ix4 (n0 := 1) (n1 := 1024) (n2 := 1) (n3 := 32) 0 i 0 d) fun a => by
    match a with
    | ⟨0, _⟩ => rfl
    | ⟨1, _⟩ => rfl
    | ⟨2, _⟩ => rfl
    | ⟨3, _⟩ => rfl).trans (krA_at a0 a1 a2 a3 a4 a5 a6 a7 i d)

theorem scA_at (h : Fin 16) (s t : Fin 1024) :
    scA a0 a1 a2 a4 a5 a6 (ix4 (n0 := 1) (n1 := 16) (n2 := 1024) (n3 := 1024) 0 h s t) = (argsOf a0 a1 a2 a3 a4 a5 a6 a7).score h s t := by
  refine congrArg₂ (· * ·) (congrArg₂ (· + ·) ?_ ?_) rfl
  · refine (headsDot_apply (S := 1024) (T := 1024) (H := 16) (K := 128) (by decide) _ _ 0 h s t).trans ?_
    exact Finset.sum_congr rfl fun d _ => congrArg₂ (· * ·) (qA_at a0 a1 a2 a3 a4 a5 a6 a7 s h d) (upA_at a0 a1 a2 a3 a4 a5 a6 a7 a2 t h d)
  · refine (headsDot_apply (S := 1024) (T := 1024) (H := 16) (K := 32) (by decide) _ _ 0 h s t).trans ?_
    exact Finset.sum_congr rfl fun d _ => congrArg₂ (· * ·) (qrA_at a0 a1 a2 a3 a4 a5 a6 a7 s h d) (krB_at a0 a1 a2 a3 a4 a5 a6 a7 t h d)

theorem spread_at (y : FVec Ideal S1x16x1024 .f32) (h : Fin 16) (s t : Fin 1024) :
    spread y (ix4 (n0 := 1) (n1 := 16) (n2 := 1024) (n3 := 1024) 0 h s t) = y (ix3 (n0 := 1) (n1 := 16) (n2 := 1024) 0 h s) :=
  (broadcastInDim_apply _ _ _ _ (ix4 (n0 := 1) (n1 := 16) (n2 := 1024) (n3 := 1) 0 h s 0) fun a => by
    match a with
    | ⟨0, _⟩ => rfl
    | ⟨1, _⟩ => rfl
    | ⟨2, _⟩ => rfl
    | ⟨3, _⟩ => rfl).trans
  (broadcastInDim_apply _ _ _ _ (ix3 (n0 := 1) (n1 := 16) (n2 := 1024) 0 h s) fun a => by
    match a with
    | ⟨0, _⟩ => rfl
    | ⟨1, _⟩ => rfl
    | ⟨2, _⟩ => rfl)

/-- The one axis the reductions go over. -/
theorem red : S1x16x1024x1024.Reduces [3] S1x16x1024 := by decide
theorem red_lift (h : Fin 16) (s t : Fin 1024) :
    red.lift (ix3 (n0 := 1) (n1 := 16) (n2 := 1024) 0 h s) t = ix4 (n0 := 1) (n1 := 16) (n2 := 1024) (n3 := 1024) 0 h s t := by
  funext a; apply Fin.ext
  match a with
  | ⟨0, _⟩ => rfl
  | ⟨1, _⟩ => rfl
  | ⟨2, _⟩ => rfl
  | ⟨3, _⟩ => rfl

theorem negInf : Ideal.ofBits .f32 0xFF800000#32 = ⊥ := by simp [Ideal.ofBits, Ideal.ieee]

theorem topA_at (h : Fin 16) (s : Fin 1024) :
    topA a0 a1 a2 a4 a5 a6 (ix3 (n0 := 1) (n1 := 16) (n2 := 1024) 0 h s) = (argsOf a0 a1 a2 a3 a4 a5 a6 a7).top h s := by
  refine (Host.reduce_eq_fold_single (max : EReal → EReal → EReal) (scA a0 a1 a2 a4 a5 a6) (constant (F := Ideal) S_ .f32 0xFF800000#32)
    reducesTo_S1x16x1024x1024_S1x16x1024_d3 red h_S_ _).trans ?_
  have e : (scA a0 a1 a2 a4 a5 a6) ∘ red.lift (ix3 (n0 := 1) (n1 := 16) (n2 := 1024) 0 h s) = (argsOf a0 a1 a2 a3 a4 a5 a6 a7).score h s :=
    funext fun t => (congrArg (scA a0 a1 a2 a4 a5 a6) (red_lift h s t)).trans (scA_at a0 a1 a2 a3 a4 a5 a6 a7 h s t)
  rw [e]
  show Finset.fold max (Ideal.ofBits .f32 0xFF800000#32) _ _ = _
  rw [negInf]; rfl

theorem expA_at (h : Fin 16) (s t : Fin 1024) :
    expA a0 a1 a2 a4 a5 a6 (ix4 (n0 := 1) (n1 := 16) (n2 := 1024) (n3 := 1024) 0 h s t)
      = Ideal.exp ((argsOf a0 a1 a2 a3 a4 a5 a6 a7).score h s t - (argsOf a0 a1 a2 a3 a4 a5 a6 a7).top h s) :=
  congrArg Ideal.exp (congrArg₂ (· - ·) (scA_at a0 a1 a2 a3 a4 a5 a6 a7 h s t)
    ((spread_at _ h s t).trans (topA_at a0 a1 a2 a3 a4 a5 a6 a7 h s)))

theorem sumA_at (h : Fin 16) (s : Fin 1024) :
    sumA a0 a1 a2 a4 a5 a6 (ix3 (n0 := 1) (n1 := 16) (n2 := 1024) 0 h s)
      = ∑ t, Ideal.exp ((argsOf a0 a1 a2 a3 a4 a5 a6 a7).score h s t - (argsOf a0 a1 a2 a3 a4 a5 a6 a7).top h s) := by
  refine (Ideal.hostReduceAdd_single reducesTo_S1x16x1024x1024_S1x16x1024_d3 red (expA a0 a1 a2 a4 a5 a6) (Ideal.ofBits .f32 0x00000000#32) _).trans ?_
  rw [show Ideal.ofBits .f32 0x00000000#32 = 0 by simp [Ideal.ofBits, Ideal.ieee], zero_add]
  exact Finset.sum_congr rfl fun t _ => (congrArg (expA a0 a1 a2 a4 a5 a6) (red_lift h s t)).trans (expA_at a0 a1 a2 a3 a4 a5 a6 a7 h s t)

theorem wA_at (h : Fin 16) (s t : Fin 1024) :
    wA a0 a1 a2 a4 a5 a6 (ix4 (n0 := 1) (n1 := 16) (n2 := 1024) (n3 := 1024) 0 h s t)
      = Ideal.div (Ideal.exp ((argsOf a0 a1 a2 a3 a4 a5 a6 a7).score h s t - (argsOf a0 a1 a2 a3 a4 a5 a6 a7).top h s))
          (∑ u, Ideal.exp ((argsOf a0 a1 a2 a3 a4 a5 a6 a7).score h s u - (argsOf a0 a1 a2 a3 a4 a5 a6 a7).top h s)) :=
  congrArg₂ Ideal.div (expA_at a0 a1 a2 a3 a4 a5 a6 a7 h s t) ((spread_at _ h s t).trans (sumA_at a0 a1 a2 a3 a4 a5 a6 a7 h s))

/-- The mixes at row `s`, column `d` of head `h`. -/
theorem mixA_at (h : Fin 16) (s : Fin 1024) (d : Fin 128) :
    mixA a0 a1 a2 a3 a4 a5 a6 (ix3 (n0 := 1) (n1 := 1024) (n2 := 2048) 0 s (hcol h d)) = (argsOf a0 a1 a2 a3 a4 a5 a6 a7).out h s d := by
  unfold mixA
  refine (shapeCast_apply (s := S1x1024x16x128) (t := S1x1024x2048) _ _ (ix3 (n0 := 1) (n1 := 1024) (n2 := 2048) 0 s (hcol h d))
    (ix4 (n0 := 1) (n1 := 1024) (n2 := 16) (n3 := 128) 0 s h d) (by
    rw [Shape.rowMajor_val_three, Shape.rowMajor_val_four]
    show ((0 * 1024 + s.val) * 16 + h.val) * 128 + d.val = (0 * 1024 + s.val) * 2048 + (128 * h.val + d.val)
    omega)).trans ?_
  refine (transpose_apply _ _ _ _ (ix4 (n0 := 1) (n1 := 16) (n2 := 128) (n3 := 1024) 0 h d s) fun b => by
    match b with
    | ⟨0, _⟩ => rfl
    | ⟨1, _⟩ => rfl
    | ⟨2, _⟩ => rfl
    | ⟨3, _⟩ => rfl).trans ?_
  refine (mixDot_apply (S := 1024) (T := 1024) (H := 16) (K := 128) (by decide) _ _ 0 h d s).trans ?_
  exact Finset.sum_congr rfl fun t _ => congrArg₂ (· * ·) (upA_at a0 a1 a2 a3 a4 a5 a6 a7 a3 t h d) (wA_at a0 a1 a2 a3 a4 a5 a6 a7 h s t)

/-- The reference's result at row `s`, column `j`. -/
theorem outA_at (s : Fin 1024) (j : Fin 2048) :
    outA a0 a1 a2 a3 a4 a5 a6 a7 (ix3 (n0 := 1) (n1 := 1024) (n2 := 2048) 0 s j) = (argsOf a0 a1 a2 a3 a4 a5 a6 a7).res s j := by
  refine (rowsDot_apply (M := 1024) (K := 2048) (N := 2048) (mixA a0 a1 a2 a3 a4 a5 a6) a7 0 s j).trans ?_
  refine Finset.sum_congr rfl fun k _ => congrArg (· * _) ?_
  have e := mixA_at a0 a1 a2 a3 a4 a5 a6 a7 ⟨k.val / 128, by omega⟩ s ⟨k.val % 128, Nat.mod_lt _ (by decide)⟩
  rw [Args.hcol_split] at e
  exact e

end Cert.ReferenceIdeal.Result

end
-- ==== Proof.Value.Blocks.lean ====
/-
# The devices' blocks of the whole arrays

Where every device holds its block of the reference's arguments, the entries of a block are entries of the whole
array, at the columns or the rows of the device's `z` coordinate; and every entry of a whole array is in some
device's block.
-/
module

public import proofs.«01_k».proof.Proof.Value.Kernel
public import proofs.«01_k».proof.Proof.Value.Reference
public import Idealize.ShloMosaic.Lib.Layout

@[expose] public section

set_option maxRecDepth 16384

noncomputable section

namespace Cert.KernelIdeal.Result

open Cert.KernelIdeal Cert.KernelIdeal.Gen Cert.KernelIdeal.Run Cert.Maths
open Idealize.ShloMosaic Idealize.ShloMosaic.TcCoe
open Idealize.ShloMosaic.ValueIdx

/-- The block of a device along an axis cut by `z` is its `z` coordinate. -/
theorem lin_z (c : Dev nD) : Layout.meshLin [2, 4, 4] c.val [2] = (zc c).val := by revert c; decide

/-- A block of columns at an index; -/
theorem cols_at {α : Type} {M N W : ℕ} (v : (⟨2, ![M, N]⟩ : Shape).Idx → α)
    (h : Layout.TilesN ⟨2, ![M, W]⟩ ⟨2, ![M, N]⟩ fun b => Layout.cutSize [2, 4, 4] ((![[], [2]] : Fin 2 → List ℕ) b))
    (c : Dev nD) (i : Fin M) (j : Fin W) (k : Fin N) (hk : k.val = W * (zc c).val + j.val) :
    Layout.blockN ⟨2, ![M, W]⟩ ⟨2, ![M, N]⟩ (Layout.meshBlock [2, 4, 4] ![[], [2]] c) v h (ix2 i j) = v (ix2 i k) := by
  refine congrArg v (funext fun a => Fin.ext ?_)
  match a with
  | ⟨0, _⟩ => show 0 * M + i.val = i.val; omega
  | ⟨1, _⟩ =>
    show Layout.meshLin [2, 4, 4] c.val [2] * W + j.val = k.val
    rw [lin_z, hk, mul_comm]
/-- a block of rows. -/
theorem rows_at {α : Type} {M N W : ℕ} (v : (⟨2, ![M, N]⟩ : Shape).Idx → α)
    (h : Layout.TilesN ⟨2, ![W, N]⟩ ⟨2, ![M, N]⟩ fun b => Layout.cutSize [2, 4, 4] ((![[2], []] : Fin 2 → List ℕ) b))
    (c : Dev nD) (i : Fin W) (j : Fin N) (k : Fin M) (hk : k.val = W * (zc c).val + i.val) :
    Layout.blockN ⟨2, ![W, N]⟩ ⟨2, ![M, N]⟩ (Layout.meshBlock [2, 4, 4] ![[2], []] c) v h (ix2 i j) = v (ix2 k j) := by
  refine congrArg v (funext fun a => Fin.ext ?_)
  match a with
  | ⟨0, _⟩ =>
    show Layout.meshLin [2, 4, 4] c.val [2] * W + i.val = k.val
    rw [lin_z, hk, mul_comm]
  | ⟨1, _⟩ => show 0 * N + j.val = j.val; omega

/-- Some device whose coordinate is `w`. -/
def ofZ (w : Fin 4) : Dev nD := ⟨w.val, by show w.val < 32; omega⟩
theorem zc_ofZ (w : Fin 4) : zc (ofZ w) = w := by revert w; decide

theorem b128_split (k : Fin 512) : b128 ⟨k.val / 128, by omega⟩ ⟨k.val % 128, Nat.mod_lt _ (by decide)⟩ = k :=
  Fin.ext (by show 128 * (k.val / 128) + k.val % 128 = k.val; omega)

variable {m : (ℓ : Loc nD τ sig) → Buf (Elt Ideal) ℓ} {P : Args}

/-- Every entry of a whole array is in some device's block: if the blocks are real, so are the arrays. -/
theorem real_of_blocks (H : Holds m P)
    (h : ∀ d : Dev nD, (∀ i, IsReal (m ((d : Thread nD τ).loc main_arg0) i)) ∧ (∀ i, IsReal (m ((d : Thread nD τ).loc main_arg1) i))
      ∧ (∀ i, IsReal (m ((d : Thread nD τ).loc main_arg2) i)) ∧ (∀ i, IsReal (m ((d : Thread nD τ).loc main_arg4) i))
      ∧ (∀ i, IsReal (m ((d : Thread nD τ).loc main_arg5) i)) ∧ (∀ i, IsReal (m ((d : Thread nD τ).loc main_arg6) i))) : P.Real where
  x i k := H.x (ofZ 0) i k ▸ (h _).1 _
  dkv i k := by
    have e := H.dkv (ofZ ⟨k.val / 128, by omega⟩) i ⟨k.val % 128, Nat.mod_lt _ (by decide)⟩
    rw [zc_ofZ, b128_split] at e
    exact e ▸ (h _).2.1 _
  uk i k := by
    have e := H.uk (ofZ ⟨i.val / 128, by omega⟩) ⟨i.val % 128, Nat.mod_lt _ (by decide)⟩ k
    rw [zc_ofZ, b128_split] at e
    exact e ▸ (h _).2.2.1 _
  q i k := H.q (ofZ 0) i k ▸ (h _).2.2.2.1 _
  qr i k := H.qr (ofZ 0) i k ▸ (h _).2.2.2.2.1 _
  kr i k := H.kr (ofZ 0) i k ▸ (h _).2.2.2.2.2 _

end Cert.KernelIdeal.Result

end
-- ==== Proof.Value.Heads.lean ====
/-
# One head and the projections at an index

A head is the exponentials of the scores, their products with the values, and the quotient by the sum of the
exponentials. With the keys, values and queries of the whole arrays it is that head's columns of the mixes. The
projections before and after it are sums of products.
-/
module

public import proofs.«01_k».proof.Proof.RunKernelIdeal.Proj
public import proofs.«01_k».proof.Proof.Value.Kernel

@[expose] public section

set_option maxRecDepth 16384

noncomputable section

namespace Cert.KernelIdeal.Result

open Cert.KernelIdeal Cert.KernelIdeal.Gen Cert.KernelIdeal.Run Cert.Maths
open Idealize.ShloMosaic Idealize.ShloMosaic.TcCoe
open Idealize.ShloMosaic.ValueIdx
open scoped BigOperators

/-! ## One head -/

section Head
variable (q k : FVec Ideal S1024x128 .f32) (qr : FVec Ideal S1x1024x32 .f32) (kr : FVec Ideal S1024x32 .f32) (v : FVec Ideal S1024x128 .f32)

/-- The exponentials of the scores. -/
def expS : FVec Ideal S1024x1024 .f32 :=
  exp (addf (matmul dot_S1024x128_S1024x128_S1024x1024_1_1_0_0_n_n none q k (constant S1024x1024 .f32 0x00000000#32))
    (matmul dot_S1024x32_S1024x32_S1024x1024_1_1_0_0_n_n none (shapeCast S1024x32 qr shapeCasts_S1x1024x32_S1024x32) kr (constant S1024x1024 .f32 0x00000000#32)))
/-- A head's output from the exponentials. -/
def mix (p : FVec Ideal S1024x1024 .f32) : FVec Ideal S1024x128 .f32 :=
  divf (matmul dot_S1024x1024_S1024x128_S1024x128_1_0_0_1_n_n none p v (constant S1024x128 .f32 0x00000000#32))
    (broadcastTo S1024x128 (shapeCast S1024x1 (multiReduction .add [1] S1024 p 0x00000000#32 reduces_S1024x1024_S1024 (.inl rfl) rfl) shapeCasts_S1024_S1024x1)
      broadcasts_S1024x1_S1024x128)

/-- The third call's payload is one head. -/
theorem pay_eq : k2_pay1 q k qr kr v = mix v (expS q k qr kr) := by
  have e : k2_pay1 q k qr kr v = mix (shapeCast S1024x128 v shapeCasts_S1024x128_S1024x128)
      (expS (shapeCast S1024x128 q shapeCasts_S1024x128_S1024x128) (shapeCast S1024x128 k shapeCasts_S1024x128_S1024x128) qr
        (shapeCast S1024x32 kr shapeCasts_S1024x32_S1024x32)) := rfl
  rw [e, shapeCast_self, shapeCast_self, shapeCast_self, shapeCast_self]

theorem expS_at (s t : Fin 1024) :
    expS q k qr kr (ix2 (n0 := 1024) (n1 := 1024) s t)
      = Ideal.exp (∑ d : Fin 128, q (ix2 (n0 := 1024) (n1 := 128) s d) * k (ix2 (n0 := 1024) (n1 := 128) t d)
          + ∑ r : Fin 32, qr (ix3 (n0 := 1) (n1 := 1024) (n2 := 32) 0 s r) * kr (ix2 (n0 := 1024) (n1 := 32) t r)) := by
  refine congrArg Ideal.exp (congrArg₂ (· + ·) (rightT_apply (M := 1024) (K := 128) (N := 1024) q k s t) ?_)
  refine (rightT_apply (M := 1024) (K := 32) (N := 1024) (φ₁ := .f32) (φ₂ := .f32) _ kr s t).trans ?_
  exact Finset.sum_congr rfl fun r _ => congrArg (· * _) (shapeCast_1ab_ab_apply qr _ s r)

theorem row_lift (s t : Fin 1024) :
    reduces_S1024x1024_S1024.lift (ix1 (n := 1024) s) t = ix2 (n0 := 1024) (n1 := 1024) s t := by
  funext a; apply Fin.ext
  match a with
  | ⟨0, _⟩ => rfl
  | ⟨1, _⟩ => rfl

theorem mix_at (p : FVec Ideal S1024x1024 .f32) (s : Fin 1024) (d : Fin 128) :
    mix v p (ix2 (n0 := 1024) (n1 := 128) s d)
      = Ideal.div (∑ t : Fin 1024, p (ix2 (n0 := 1024) (n1 := 1024) s t) * v (ix2 (n0 := 1024) (n1 := 128) t d)) (∑ t : Fin 1024, p (ix2 (n0 := 1024) (n1 := 1024) s t)) := by
  refine congrArg₂ Ideal.div (plain_apply (M := 1024) (K := 1024) (N := 128) (φ₁ := .f32) (φ₂ := .f32) _ v s d) ?_
  refine (broadcastTo_apply _ _ _ (ix2 (n0 := 1024) (n1 := 1) s 0) fun a => by
    match a with
    | ⟨0, _⟩ => rfl
    | ⟨1, _⟩ => rfl).trans ?_
  refine (shapeCast_a_a1_apply _ shapeCasts_S1024_S1024x1 s 0).trans ?_
  refine (Ideal.multiReduction_add_single p _ reduces_S1024x1024_S1024 (.inl rfl) rfl (ix1 (n := 1024) s)).trans ?_
  exact Finset.sum_congr rfl fun t _ => congrArg p (row_lift s t)

end Head

/-! ## The head of the whole arrays -/

variable {P : Args}

/-- With head `h` of the whole queries, keys and values, the third call's block is head `h` of the mixes. -/
theorem head_at (hP : P.Real) (h : Fin 16) (q k : FVec Ideal S1024x128 .f32) (qr : FVec Ideal S1x1024x32 .f32) (kr : FVec Ideal S1024x32 .f32)
    (v : FVec Ideal S1024x128 .f32)
    (hq : ∀ s d, q (ix2 (n0 := 1024) (n1 := 128) s d) = P.qry s (hcol h d) * scale)
    (hk : ∀ t d, k (ix2 (n0 := 1024) (n1 := 128) t d) = P.key t (hcol h d))
    (hr : ∀ s r, qr (ix3 (n0 := 1) (n1 := 1024) (n2 := 32) 0 s r) = P.qryR s (rcol h r) * scale)
    (hkr : ∀ t r, kr (ix2 (n0 := 1024) (n1 := 32) t r) = P.keyR t r)
    (hv : ∀ t d, v (ix2 (n0 := 1024) (n1 := 128) t d) = P.val t (hcol h d)) (s : Fin 1024) (d : Fin 128) :
    k2_pay1 (F := Ideal) q k qr kr v (ix2 (n0 := 1024) (n1 := 128) s d) = P.out h s d := by
  have hp : ∀ t, expS q k qr kr (ix2 (n0 := 1024) (n1 := 1024) s t) = Ideal.exp (P.score h s t) := fun t => by
    rw [expS_at, P.score_eq]
    exact congrArg Ideal.exp (congrArg₂ (· + ·) (Finset.sum_congr rfl fun d _ => congrArg₂ (· * ·) (hq s d) (hk t d))
      (Finset.sum_congr rfl fun r _ => congrArg₂ (· * ·) (hr s r) (hkr t r)))
  rw [Args.out_eq hP, pay_eq]
  refine (mix_at _ _ s d).trans (congrArg₂ Ideal.div ?_ ?_)
  · exact Finset.sum_congr rfl fun t _ => congrArg₂ (· * ·) (hp t) (hv t d)
  · exact Finset.sum_congr rfl fun t _ => hp t

/-! ## The projections -/

/-- The queries: the rows times the weights, scaled; -/
theorem qpay_at (x : FVec Ideal S1x1024x2048 .f32) (w : FVec Ideal S2048x2048 .f32) (s : Fin 1024) (j : Fin 2048) :
    k1_pay8 (F := Ideal) x w (ix2 (n0 := 1024) (n1 := 2048) s j)
      = (∑ k : Fin 2048, x (ix3 (n0 := 1) (n1 := 1024) (n2 := 2048) 0 s k) * w (ix2 (n0 := 2048) (n1 := 2048) k j)) * scale := by
  refine congrArg (· * scale) ?_
  refine (plain_apply (M := 1024) (K := 2048) (N := 2048) (φ₁ := .f32) (φ₂ := .f32) _ _ s j).trans ?_
  exact Finset.sum_congr rfl fun k _ => congrArg₂ (· * ·) (shapeCast_1ab_ab_apply x _ s k) (congrFun (shapeCast_self w _) _)
/-- the rotary queries likewise, -/
theorem qrpay_at (x : FVec Ideal S1x1024x2048 .f32) (w : FVec Ideal S2048x512 .f32) (s : Fin 1024) (j : Fin 512) :
    k1_pay9 (F := Ideal) x w (ix2 (n0 := 1024) (n1 := 512) s j)
      = (∑ k : Fin 2048, x (ix3 (n0 := 1) (n1 := 1024) (n2 := 2048) 0 s k) * w (ix2 (n0 := 2048) (n1 := 512) k j)) * scale := by
  refine congrArg (· * scale) ?_
  refine (plain_apply (M := 1024) (K := 2048) (N := 512) (φ₁ := .f32) (φ₂ := .f32) _ _ s j).trans ?_
  exact Finset.sum_congr rfl fun k _ => congrArg₂ (· * ·) (shapeCast_1ab_ab_apply x _ s k) (congrFun (shapeCast_self w _) _)
/-- by head; -/
theorem qrheads_at (x : FVec Ideal S1x1024x2048 .f32) (w : FVec Ideal S2048x512 .f32) (h : Fin 16) (s : Fin 1024) (r : Fin 32) :
    heads (F := Ideal) (k1_pay9 (F := Ideal) x w) (ix3 (n0 := 16) (n1 := 1024) (n2 := 32) h s r)
      = (∑ k : Fin 2048, x (ix3 (n0 := 1) (n1 := 1024) (n2 := 2048) 0 s k) * w (ix2 (n0 := 2048) (n1 := 512) k (rcol h r))) * scale :=
  qrpay_at x w s (rcol h r)
/-- the rotary keys, not scaled; -/
theorem krpay_at (x : FVec Ideal S1x1024x2048 .f32) (w : FVec Ideal S2048x32 .f32) (s : Fin 1024) (j : Fin 32) :
    k1_pay6 (F := Ideal) (k1_pay7 (F := Ideal) x) w (ix2 (n0 := 1024) (n1 := 32) s j)
      = ∑ k : Fin 2048, x (ix3 (n0 := 1) (n1 := 1024) (n2 := 2048) 0 s k) * w (ix2 (n0 := 2048) (n1 := 32) k j) := by
  refine (plain_apply (M := 1024) (K := 2048) (N := 32) (φ₁ := .f32) (φ₂ := .f32) _ _ s j).trans ?_
  exact Finset.sum_congr rfl fun k _ => congrArg₂ (· * ·) (shapeCast_1ab_ab_apply x _ s k) (congrFun (shapeCast_self w _) _)
/-- and the output. -/
theorem opay_at (o : FVec Ideal S1024x2048 .f32) (w : FVec Ideal S2048x2048 .f32) (s : Fin 1024) (j : Fin 2048) :
    k3_pay1 (F := Ideal) o w (ix3 (n0 := 1) (n1 := 1024) (n2 := 2048) 0 s j)
      = ∑ k : Fin 2048, o (ix2 (n0 := 1024) (n1 := 2048) s k) * w (ix2 (n0 := 2048) (n1 := 2048) k j) := by
  refine (shapeCast_ab_1ab_apply (matmul dot_S1024x2048_S2048x2048_S1024x2048_1_0_0_1_n_n none (shapeCast S1024x2048 o shapeCasts_S1024x2048_S1024x2048)
    (shapeCast S2048x2048 w shapeCasts_S2048x2048_S2048x2048) (constant (F := Ideal) S1024x2048 .f32 0x00000000#32)) shapeCasts_S1024x2048_S1x1024x2048 0 s j).trans ?_
  refine (plain_apply (M := 1024) (K := 2048) (N := 2048) (φ₁ := .f32) (φ₂ := .f32) _ _ s j).trans ?_
  exact Finset.sum_congr rfl fun k _ => congrArg₂ (· * ·) (congrFun (shapeCast_self o _) _) (congrFun (shapeCast_self w _) _)

end Cert.KernelIdeal.Result

end
-- ==== Proof.Value.Arrays.lean ====
/-
# The arrays between the calls

Each call's outputs as functions of the arrays it finds: the calls of one grid point take whole arrays, the attention
call takes at point `h` the columns of head `h`. One after another, from arrays cut into the devices' blocks, they end
in the layer's output on every device.
-/
module

public import proofs.«01_k».proof.Proof.RunKernelIdeal.Launch
public import proofs.«01_k».proof.Proof.Value.Heads

@[expose] public section

set_option maxRecDepth 16384

noncomputable section

namespace Cert.KernelIdeal.Result

open Cert.KernelIdeal Cert.KernelIdeal.Gen Cert.KernelIdeal.Run Cert.Maths
open Idealize.ShloMosaic Idealize.ShloMosaic.TcCoe
open Idealize.ShloMosaic.ValueIdx
open scoped BigOperators

section
variable (c : Dev nD) (V : Valuation τ sig (Elt Ideal))

/-! ## What the calls of one point read -/

theorem in1_0 : in1 V 0 t1_0 = V (Proc.devRef .tc main_arg0) := by
  funext i
  refine congrArg (V (Proc.devRef .tc main_arg0)) (funext fun a => Fin.ext ?_)
  match a with
  | ⟨0, _⟩ => show 0 * 1 + 1 * (i 0).val = (i 0).val; omega
  | ⟨1, _⟩ => show 0 * 1024 + 1 * (i 1).val = (i 1).val; omega
  | ⟨2, _⟩ => show 0 * 2048 + 1 * (i 2).val = (i 2).val; omega
theorem in1_1 : in1 V 1 t1_0 = V (Proc.devRef .tc main_arg4) := by
  funext i
  refine congrArg (V (Proc.devRef .tc main_arg4)) (funext fun a => Fin.ext ?_)
  match a with
  | ⟨0, _⟩ => show 0 * 2048 + 1 * (i 0).val = (i 0).val; omega
  | ⟨1, _⟩ => show 0 * 2048 + 1 * (i 1).val = (i 1).val; omega
theorem in1_2 : in1 V 2 t1_0 = V (Proc.devRef .tc main_arg5) := by
  funext i
  refine congrArg (V (Proc.devRef .tc main_arg5)) (funext fun a => Fin.ext ?_)
  match a with
  | ⟨0, _⟩ => show 0 * 2048 + 1 * (i 0).val = (i 0).val; omega
  | ⟨1, _⟩ => show 0 * 512 + 1 * (i 1).val = (i 1).val; omega
theorem in1_3 : in1 V 3 t1_0 = V (Proc.devRef .tc main_arg6) := by
  funext i
  refine congrArg (V (Proc.devRef .tc main_arg6)) (funext fun a => Fin.ext ?_)
  match a with
  | ⟨0, _⟩ => show 0 * 2048 + 1 * (i 0).val = (i 0).val; omega
  | ⟨1, _⟩ => show 0 * 32 + 1 * (i 1).val = (i 1).val; omega
theorem in3_0 : in3 V 0 t3_0 = V (Proc.devRef .tc main_v3) := by
  funext i
  refine congrArg (V (Proc.devRef .tc main_v3)) (funext fun a => Fin.ext ?_)
  match a with
  | ⟨0, _⟩ => show 0 * 1024 + 1 * (i 0).val = (i 0).val; omega
  | ⟨1, _⟩ => show 0 * 2048 + 1 * (i 1).val = (i 1).val; omega
theorem in3_1 : in3 V 1 t3_0 = V (Proc.devRef .tc main_arg7) := by
  funext i
  refine congrArg (V (Proc.devRef .tc main_arg7)) (funext fun a => Fin.ext ?_)
  match a with
  | ⟨0, _⟩ => show 0 * 2048 + 1 * (i 0).val = (i 0).val; omega
  | ⟨1, _⟩ => show 0 * 2048 + 1 * (i 1).val = (i 1).val; omega

/-! ## What they write -/

theorem out1_4 : Pipeline.afterRegion (dat1 c V) V (Proc.devRef .tc main_v2_0) = k1_pay8 (in1 V 0 t1_0) (in1 V 1 t1_0) := by
  refine (Pipeline.afterRegion_arr (dat1 c V) V winFacts1.arr_inj 4).trans ?_
  have e : ((cfg1.win 4).blk t1_0).view.read (Elt Ideal) ((dat1 c V).arrAt 4 cfg1.N) = k1_pay8 (in1 V 0 t1_0) (in1 V 1 t1_0) := by
    rw [show cfg1.N = t1_0.val + 1 from rfl, (dat1 c V).arrAt_succ 4 t1_0]
    rw [show (cfg1.win 4).flush t1_0 = true from by decide, if_pos rfl]
    exact View.read_write_univ _ _
  refine Eq.trans ?_ e
  funext i
  refine congrArg ((dat1 c V).arrAt 4 cfg1.N) (funext fun a => Fin.ext ?_)
  match a with
  | ⟨0, _⟩ => show (i 0).val = 0 * 1024 + 1 * (i 0).val; omega
  | ⟨1, _⟩ => show (i 1).val = 0 * 2048 + 1 * (i 1).val; omega
theorem out1_5 : Pipeline.afterRegion (dat1 c V) V (Proc.devRef .tc main_v2_1) = heads (k1_pay9 (in1 V 0 t1_0) (in1 V 2 t1_0)) := by
  refine (Pipeline.afterRegion_arr (dat1 c V) V winFacts1.arr_inj 5).trans ?_
  have e : ((cfg1.win 5).blk t1_0).view.read (Elt Ideal) ((dat1 c V).arrAt 5 cfg1.N) = heads (k1_pay9 (in1 V 0 t1_0) (in1 V 2 t1_0)) := by
    rw [show cfg1.N = t1_0.val + 1 from rfl, (dat1 c V).arrAt_succ 5 t1_0]
    rw [show (cfg1.win 5).flush t1_0 = true from by decide, if_pos rfl]
    exact View.read_write_univ _ _
  refine Eq.trans ?_ e
  funext i
  refine congrArg ((dat1 c V).arrAt 5 cfg1.N) (funext fun a => Fin.ext ?_)
  match a with
  | ⟨0, _⟩ => show (i 0).val = 0 * 16 + 1 * (i 0).val; omega
  | ⟨1, _⟩ => show (i 1).val = 0 * 1024 + 1 * (i 1).val; omega
  | ⟨2, _⟩ => show (i 2).val = 0 * 32 + 1 * (i 2).val; omega
theorem out1_6 : Pipeline.afterRegion (dat1 c V) V (Proc.devRef .tc main_v2_2) = k1_pay6 (k1_pay7 (in1 V 0 t1_0)) (in1 V 3 t1_0) := by
  refine (Pipeline.afterRegion_arr (dat1 c V) V winFacts1.arr_inj 6).trans ?_
  have e : ((cfg1.win 6).blk t1_0).view.read (Elt Ideal) ((dat1 c V).arrAt 6 cfg1.N) = k1_pay6 (k1_pay7 (in1 V 0 t1_0)) (in1 V 3 t1_0) := by
    rw [show cfg1.N = t1_0.val + 1 from rfl, (dat1 c V).arrAt_succ 6 t1_0]
    rw [show (cfg1.win 6).flush t1_0 = true from by decide, if_pos rfl]
    exact View.read_write_univ _ _
  refine Eq.trans ?_ e
  funext i
  refine congrArg ((dat1 c V).arrAt 6 cfg1.N) (funext fun a => Fin.ext ?_)
  match a with
  | ⟨0, _⟩ => show (i 0).val = 0 * 1024 + 1 * (i 0).val; omega
  | ⟨1, _⟩ => show (i 1).val = 0 * 32 + 1 * (i 1).val; omega
theorem out3_2 : Pipeline.afterRegion (dat3 c V) V (Proc.devRef .tc main_v4) = k3_pay1 (in3 V 0 t3_0) (in3 V 1 t3_0) := by
  refine (Pipeline.afterRegion_arr (dat3 c V) V winFacts3.arr_inj 2).trans ?_
  have e : ((cfg3.win 2).blk t3_0).view.read (Elt Ideal) ((dat3 c V).arrAt 2 cfg3.N) = k3_pay1 (in3 V 0 t3_0) (in3 V 1 t3_0) := by
    rw [show cfg3.N = t3_0.val + 1 from rfl, (dat3 c V).arrAt_succ 2 t3_0]
    rw [show (cfg3.win 2).flush t3_0 = true from by decide, if_pos rfl]
    exact View.read_write_univ _ _
  refine Eq.trans ?_ e
  funext i
  refine congrArg ((dat3 c V).arrAt 2 cfg3.N) (funext fun a => Fin.ext ?_)
  match a with
  | ⟨0, _⟩ => show (i 0).val = 0 * 1 + 1 * (i 0).val; omega
  | ⟨1, _⟩ => show (i 1).val = 0 * 1024 + 1 * (i 1).val; omega
  | ⟨2, _⟩ => show (i 2).val = 0 * 2048 + 1 * (i 2).val; omega

end

section
variable (m : (ℓ : Loc nD τ sig) → Buf (Elt Ideal) ℓ) (c : Dev nD)

theorem out0_4 : Pipeline.afterRegion (dat0 m c) (V0 m c) (Proc.devRef .tc main_v1_0) = kc4 m c := by
  refine (Pipeline.afterRegion_arr (dat0 m c) (V0 m c) winFacts0.arr_inj 4).trans ?_
  have e : ((cfg0.win 4).blk t0_0).view.read (Elt Ideal) ((dat0 m c).arrAt 4 cfg0.N) = kc4 m c := by
    rw [show cfg0.N = t0_0.val + 1 from rfl, (dat0 m c).arrAt_succ 4 t0_0]
    rw [show (cfg0.win 4).flush t0_0 = true from by decide, if_pos rfl]
    exact View.read_write_univ _ _
  refine Eq.trans ?_ e
  funext i
  refine congrArg ((dat0 m c).arrAt 4 cfg0.N) (funext fun a => Fin.ext ?_)
  match a with
  | ⟨0, _⟩ => show (i 0).val = 0 * 1024 + 1 * (i 0).val; omega
  | ⟨1, _⟩ => show (i 1).val = 0 * 2048 + 1 * (i 1).val; omega
theorem out0_5 : Pipeline.afterRegion (dat0 m c) (V0 m c) (Proc.devRef .tc main_v1_1) = vc4 m c := by
  refine (Pipeline.afterRegion_arr (dat0 m c) (V0 m c) winFacts0.arr_inj 5).trans ?_
  have e : ((cfg0.win 5).blk t0_0).view.read (Elt Ideal) ((dat0 m c).arrAt 5 cfg0.N) = vc4 m c := by
    rw [show cfg0.N = t0_0.val + 1 from rfl, (dat0 m c).arrAt_succ 5 t0_0]
    rw [show (cfg0.win 5).flush t0_0 = true from by decide, if_pos rfl]
    exact View.read_write_univ _ _
  refine Eq.trans ?_ e
  funext i
  refine congrArg ((dat0 m c).arrAt 5 cfg0.N) (funext fun a => Fin.ext ?_)
  match a with
  | ⟨0, _⟩ => show (i 0).val = 0 * 1024 + 1 * (i 0).val; omega
  | ⟨1, _⟩ => show (i 1).val = 0 * 2048 + 1 * (i 1).val; omega

end

end Cert.KernelIdeal.Result

end
-- ==== Proof.Value.Output.lean ====
/-
# The layer's output

The attention call's point `h` takes the columns of head `h` of the arrays before it and writes those columns of the
mixes; its sixteen points cover the array. With the calls before and after it, every device ends with the whole
layer's output.
-/
module

public import proofs.«01_k».proof.Proof.Value.Arrays

@[expose] public section

set_option maxRecDepth 16384

noncomputable section

namespace Cert.KernelIdeal.Result

open Cert.KernelIdeal Cert.KernelIdeal.Gen Cert.KernelIdeal.Run Cert.Maths
open Idealize.ShloMosaic Idealize.ShloMosaic.TcCoe
open Idealize.ShloMosaic.ValueIdx
open scoped BigOperators

/-! ## The attention call -/

/-- The head of a point. -/
def hd (t : Fin cfg2.N) : Fin 16 := ⟨t.val, t.isLt⟩

theorem row2_0 : ∀ t : Fin cfg2.N, cc2_transform_0 (cfg2.grid.coords t) 0 = 0 := by decide
theorem col2_0 : ∀ t : Fin cfg2.N, cc2_transform_0 (cfg2.grid.coords t) 1 = t.val := by decide
theorem row2_1 : ∀ t : Fin cfg2.N, cc2_transform_1 (cfg2.grid.coords t) 0 = 0 := by decide
theorem col2_1 : ∀ t : Fin cfg2.N, cc2_transform_1 (cfg2.grid.coords t) 1 = t.val := by decide
theorem row2_2 : ∀ t : Fin cfg2.N, cc2_transform_2 (cfg2.grid.coords t) 0 = 0 := by decide
theorem col2_2 : ∀ t : Fin cfg2.N, cc2_transform_2 (cfg2.grid.coords t) 1 = t.val := by decide
theorem row2_5 : ∀ t : Fin cfg2.N, cc2_transform_5 (cfg2.grid.coords t) 0 = 0 := by decide
theorem col2_5 : ∀ t : Fin cfg2.N, cc2_transform_5 (cfg2.grid.coords t) 1 = t.val := by decide
theorem head2_3 : ∀ t : Fin cfg2.N, cc2_transform_3 (cfg2.grid.coords t) 0 = t.val := by decide
theorem row2_3 : ∀ t : Fin cfg2.N, cc2_transform_3 (cfg2.grid.coords t) 1 = 0 := by decide
theorem col2_3 : ∀ t : Fin cfg2.N, cc2_transform_3 (cfg2.grid.coords t) 2 = 0 := by decide
theorem row2_4 : ∀ t : Fin cfg2.N, cc2_transform_4 (cfg2.grid.coords t) 0 = 0 := by decide
theorem col2_4 : ∀ t : Fin cfg2.N, cc2_transform_4 (cfg2.grid.coords t) 1 = 0 := by decide

section
variable (V : Valuation τ sig (Elt Ideal)) (t : Fin cfg2.N)

/-- What a point reads: its head's columns of the queries, -/
theorem in2_0 (s : Fin 1024) (d : Fin 128) : in2 V 0 t (ix2 (n0 := 1024) (n1 := 128) s d)
    = V (Proc.devRef .tc main_v2_0) (ix2 (n0 := 1024) (n1 := 2048) s (hcol (hd t) d)) := by
  refine congrArg (V (Proc.devRef .tc main_v2_0)) (funext fun a => Fin.ext ?_)
  match a with
  | ⟨0, _⟩ =>
    show cc2_transform_0 (cfg2.grid.coords t) 0 * 1024 + 1 * s.val = s.val
    rw [row2_0]; omega
  | ⟨1, _⟩ =>
    show cc2_transform_0 (cfg2.grid.coords t) 1 * 128 + 1 * d.val = 128 * t.val + d.val
    rw [col2_0]; omega
/-- of the keys -/
theorem in2_1 (s : Fin 1024) (d : Fin 128) : in2 V 1 t (ix2 (n0 := 1024) (n1 := 128) s d)
    = V (Proc.devRef .tc main_v1_0) (ix2 (n0 := 1024) (n1 := 2048) s (hcol (hd t) d)) := by
  refine congrArg (V (Proc.devRef .tc main_v1_0)) (funext fun a => Fin.ext ?_)
  match a with
  | ⟨0, _⟩ =>
    show cc2_transform_1 (cfg2.grid.coords t) 0 * 1024 + 1 * s.val = s.val
    rw [row2_1]; omega
  | ⟨1, _⟩ =>
    show cc2_transform_1 (cfg2.grid.coords t) 1 * 128 + 1 * d.val = 128 * t.val + d.val
    rw [col2_1]; omega
/-- and of the values; -/
theorem in2_2 (s : Fin 1024) (d : Fin 128) : in2 V 2 t (ix2 (n0 := 1024) (n1 := 128) s d)
    = V (Proc.devRef .tc main_v1_1) (ix2 (n0 := 1024) (n1 := 2048) s (hcol (hd t) d)) := by
  refine congrArg (V (Proc.devRef .tc main_v1_1)) (funext fun a => Fin.ext ?_)
  match a with
  | ⟨0, _⟩ =>
    show cc2_transform_2 (cfg2.grid.coords t) 0 * 1024 + 1 * s.val = s.val
    rw [row2_2]; omega
  | ⟨1, _⟩ =>
    show cc2_transform_2 (cfg2.grid.coords t) 1 * 128 + 1 * d.val = 128 * t.val + d.val
    rw [col2_2]; omega
/-- its head of the rotary queries; -/
theorem in2_3 (s : Fin 1024) (r : Fin 32) : in2 V 3 t (ix3 (n0 := 1) (n1 := 1024) (n2 := 32) 0 s r)
    = V (Proc.devRef .tc main_v2_1) (ix3 (n0 := 16) (n1 := 1024) (n2 := 32) (hd t) s r) := by
  refine congrArg (V (Proc.devRef .tc main_v2_1)) (funext fun a => Fin.ext ?_)
  match a with
  | ⟨0, _⟩ =>
    show cc2_transform_3 (cfg2.grid.coords t) 0 * 1 + 1 * 0 = t.val
    rw [head2_3]; omega
  | ⟨1, _⟩ =>
    show cc2_transform_3 (cfg2.grid.coords t) 1 * 1024 + 1 * s.val = s.val
    rw [row2_3]; omega
  | ⟨2, _⟩ =>
    show cc2_transform_3 (cfg2.grid.coords t) 2 * 32 + 1 * r.val = r.val
    rw [col2_3]; omega
/-- and all the rotary keys. -/
theorem in2_4 (s : Fin 1024) (r : Fin 32) : in2 V 4 t (ix2 (n0 := 1024) (n1 := 32) s r)
    = V (Proc.devRef .tc main_v2_2) (ix2 (n0 := 1024) (n1 := 32) s r) := by
  refine congrArg (V (Proc.devRef .tc main_v2_2)) (funext fun a => Fin.ext ?_)
  match a with
  | ⟨0, _⟩ =>
    show cc2_transform_4 (cfg2.grid.coords t) 0 * 1024 + 1 * s.val = s.val
    rw [row2_4]; omega
  | ⟨1, _⟩ =>
    show cc2_transform_4 (cfg2.grid.coords t) 1 * 32 + 1 * r.val = r.val
    rw [col2_4]; omega

/-- Where the point's block lies in the array it writes. -/
theorem emb2_5 (s : Fin 1024) (d : Fin 128) :
    ((cfg2.win 5).blk t).view.emb (ix2 (n0 := 1024) (n1 := 128) s d) = ix2 (n0 := 1024) (n1 := 2048) s (hcol (hd t) d) := by
  refine funext fun a => Fin.ext ?_
  match a with
  | ⟨0, _⟩ =>
    show cc2_transform_5 (cfg2.grid.coords t) 0 * 1024 + 1 * s.val = s.val
    rw [row2_5]; omega
  | ⟨1, _⟩ =>
    show cc2_transform_5 (cfg2.grid.coords t) 1 * 128 + 1 * d.val = 128 * t.val + d.val
    rw [col2_5]; omega

end

/-- The sixteen blocks cover the array. -/
theorem cover2_5 (i : S1024x2048.Idx) : ∃ t : Fin cfg2.N, (cfg2.win 5).flush t = true ∧ i ∈ ((cfg2.win 5).blk t).view.set := by
  obtain ⟨s, j, rfl⟩ : ∃ (s : Fin 1024) (j : Fin 2048), i = ix2 s j := ⟨_, _, eq_ix2 i⟩
  let t : Fin cfg2.N := ⟨j.val / 128, by show j.val / 128 < 16; omega⟩
  refine ⟨t, flush2_5 t, ?_⟩
  have e := emb2_5 t s ⟨j.val % 128, Nat.mod_lt _ (by decide)⟩
  rw [show hcol (hd t) ⟨j.val % 128, Nat.mod_lt _ (by decide)⟩ = j from Args.hcol_split j] at e
  rw [← e]
  exact View.emb_mem_set _ _

variable {m : (ℓ : Loc nD τ sig) → Buf (Elt Ideal) ℓ} {P : Args}

/-- The array the attention call leaves. -/
theorem out2_5 (hP : P.Real) (c : Dev nD) (V : Valuation τ sig (Elt Ideal))
    (hq : ∀ s j, V (Proc.devRef .tc main_v2_0) (ix2 (n0 := 1024) (n1 := 2048) s j) = P.qry s j * scale)
    (hk : ∀ s j, V (Proc.devRef .tc main_v1_0) (ix2 (n0 := 1024) (n1 := 2048) s j) = P.key s j)
    (hv : ∀ s j, V (Proc.devRef .tc main_v1_1) (ix2 (n0 := 1024) (n1 := 2048) s j) = P.val s j)
    (hr : ∀ h s r, V (Proc.devRef .tc main_v2_1) (ix3 (n0 := 16) (n1 := 1024) (n2 := 32) h s r) = P.qryR s (rcol h r) * scale)
    (hkr : ∀ s r, V (Proc.devRef .tc main_v2_2) (ix2 (n0 := 1024) (n1 := 32) s r) = P.keyR s r) :
    Pipeline.afterRegion (dat2 c V) V (Proc.devRef .tc main_v3) = fun i : S1024x2048.Idx => P.mixed (i 0) (i 1) := by
  refine (Pipeline.afterRegion_arr (dat2 c V) V winFacts2.arr_inj 5).trans ?_
  refine (dat2 c V).arrAt_eq_of_cover 5 (fun i : S1024x2048.Idx => P.mixed (i 0) (i 1)) (fun t _ => ?_) cover2_5
  funext y
  obtain ⟨s, d, rfl⟩ : ∃ (s : Fin 1024) (d : Fin 128), y = ix2 s d := ⟨_, _, eq_ix2 y⟩
  refine (show (dat2 c V).flushed 5 t (ix2 (n0 := 1024) (n1 := 128) s d) = k2_pay1 (F := Ideal) (in2 V 0 t) (in2 V 1 t) (in2 V 3 t) (in2 V 4 t) (in2 V 2 t) (ix2 (n0 := 1024) (n1 := 128) s d) from rfl).trans ?_
  refine (head_at hP (hd t) _ _ _ _ _ (fun s d => (in2_0 V t s d).trans (hq _ _)) (fun s d => (in2_1 V t s d).trans (hk _ _))
    (fun s r => (in2_3 V t s r).trans (hr _ _ _)) (fun s r => (in2_4 V t s r).trans (hkr _ _)) (fun s d => (in2_2 V t s d).trans (hv _ _)) s d).trans ?_
  refine (P.mixed_hcol s (hd t) d).symm.trans ?_
  have e := congrArg (fun i : S1024x2048.Idx => P.mixed (i 0) (i 1)) (emb2_5 t s d)
  exact e.symm

/-! ## One call after another -/

section
variable (m) (c : Dev nD)
theorem W1_arg0 : W1 m c (Proc.devRef .tc main_arg0) = m ((c : Thread nD τ).loc main_arg0) :=
  (Pipeline.afterRegion_keeps (dat0 m c) _ winFacts0.arr_inj (fun _ => rfl) main_arg0 (by decide)).trans rfl
theorem W1_arg4 : W1 m c (Proc.devRef .tc main_arg4) = m ((c : Thread nD τ).loc main_arg4) :=
  (Pipeline.afterRegion_keeps (dat0 m c) _ winFacts0.arr_inj (fun _ => rfl) main_arg4 (by decide)).trans rfl
theorem W1_arg5 : W1 m c (Proc.devRef .tc main_arg5) = m ((c : Thread nD τ).loc main_arg5) :=
  (Pipeline.afterRegion_keeps (dat0 m c) _ winFacts0.arr_inj (fun _ => rfl) main_arg5 (by decide)).trans rfl
theorem W1_arg6 : W1 m c (Proc.devRef .tc main_arg6) = m ((c : Thread nD τ).loc main_arg6) :=
  (Pipeline.afterRegion_keeps (dat0 m c) _ winFacts0.arr_inj (fun _ => rfl) main_arg6 (by decide)).trans rfl
theorem W3_arg7 : W3 m c (Proc.devRef .tc main_arg7) = m ((c : Thread nD τ).loc main_arg7) :=
  (Pipeline.afterRegion_keeps (dat2 c (W2 m c)) _ winFacts2.arr_inj (fun _ => rfl) main_arg7 (by decide)).trans <|
    (Pipeline.afterRegion_keeps (dat1 c (W1 m c)) _ winFacts1.arr_inj (fun _ => rfl) main_arg7 (by decide)).trans <|
    (Pipeline.afterRegion_keeps (dat0 m c) _ winFacts0.arr_inj (fun _ => rfl) main_arg7 (by decide)).trans rfl
/-- The second call leaves the keys and the values. -/
theorem W2_k : W2 m c (Proc.devRef .tc main_v1_0) = kc4 m c :=
  (Pipeline.afterRegion_keeps (dat1 c (W1 m c)) _ winFacts1.arr_inj (fun _ => rfl) main_v1_0 (by decide)).trans (out0_4 m c)
theorem W2_v : W2 m c (Proc.devRef .tc main_v1_1) = vc4 m c :=
  (Pipeline.afterRegion_keeps (dat1 c (W1 m c)) _ winFacts1.arr_inj (fun _ => rfl) main_v1_1 (by decide)).trans (out0_5 m c)
end

section
variable (H : Holds m P) (c : Dev nD)
include H

theorem x1_at (s : Fin 1024) (k : Fin 2048) : in1 (W1 m c) 0 t1_0 (ix3 (n0 := 1) (n1 := 1024) (n2 := 2048) 0 s k) = P.x s k :=
  (congrFun ((in1_0 (W1 m c)).trans (W1_arg0 m c)) _).trans (H.x c s k)

/-- The queries, scaled; -/
theorem q_at (s : Fin 1024) (j : Fin 2048) : W2 m c (Proc.devRef .tc main_v2_0) (ix2 (n0 := 1024) (n1 := 2048) s j) = P.qry s j * scale := by
  refine (congrFun (out1_4 c (W1 m c)) _).trans ((qpay_at _ _ s j).trans (congrArg (· * scale) ?_))
  exact Finset.sum_congr rfl fun k _ => congrArg₂ (fun a b : EReal => a * b) (x1_at H c s k) ((congrFun ((in1_1 (W1 m c)).trans (W1_arg4 m c)) _).trans (H.q c k j))
/-- the rotary queries, scaled, by head; -/
theorem qr_at (h : Fin 16) (s : Fin 1024) (r : Fin 32) :
    W2 m c (Proc.devRef .tc main_v2_1) (ix3 (n0 := 16) (n1 := 1024) (n2 := 32) h s r) = P.qryR s (rcol h r) * scale := by
  refine (congrFun (out1_5 c (W1 m c)) _).trans ((qrheads_at _ _ h s r).trans (congrArg (· * scale) ?_))
  exact Finset.sum_congr rfl fun k _ => congrArg₂ (fun a b : EReal => a * b) (x1_at H c s k) ((congrFun ((in1_2 (W1 m c)).trans (W1_arg5 m c)) _).trans (H.qr c k _))
/-- the rotary keys. -/
theorem kr_at (s : Fin 1024) (r : Fin 32) : W2 m c (Proc.devRef .tc main_v2_2) (ix2 (n0 := 1024) (n1 := 32) s r) = P.keyR s r := by
  refine (congrFun (out1_6 c (W1 m c)) _).trans ((krpay_at _ _ s r).trans ?_)
  exact Finset.sum_congr rfl fun k _ => congrArg₂ (fun a b : EReal => a * b) (x1_at H c s k) ((congrFun ((in1_3 (W1 m c)).trans (W1_arg6 m c)) _).trans (H.kr c k r))

/-- The mixes. -/
theorem o_at (hP : P.Real) : W3 m c (Proc.devRef .tc main_v3) = fun i : S1024x2048.Idx => P.mixed (i 0) (i 1) :=
  out2_5 hP c (W2 m c) (q_at H c) (fun s j => (congrFun (W2_k m c) _).trans (kc4_at H c s j))
    (fun s j => (congrFun (W2_v m c) _).trans (vc4_at H c s j)) (qr_at H c) (kr_at H c)

/-- A device's result is the layer's output. -/
theorem res_at (hP : P.Real) (s : Fin 1024) (j : Fin 2048) :
    W4 m c (Proc.devRef .tc main_v4) (ix3 (n0 := 1) (n1 := 1024) (n2 := 2048) 0 s j) = P.res s j := by
  refine (congrFun (out3_2 c (W3 m c)) _).trans ((opay_at _ _ s j).trans ?_)
  exact Finset.sum_congr rfl fun k _ => congrArg₂ (fun a b : EReal => a * b) (congrFun ((in3_0 (W3 m c)).trans (o_at H c hP)) _)
    ((congrFun ((in3_1 (W3 m c)).trans (W3_arg7 m c)) _).trans (H.wo c k j))
end

end Cert.KernelIdeal.Result

end
-- ==== Proof.Value.Finite.lean ====
/-
# The precondition read

The predicate compares the magnitude of every entry of six of a device's arguments with infinity and takes the
conjunction of all the comparisons: where it is true, every entry is a real number.
-/
module

public import proofs.«01_k».proof.Pre_finite_inputs_KernelIdeal
public import proofs.«01_k».proof.Pre_finite_inputs_ReferenceIdeal
public import proofs.«01_k».proof.Proof.Value.Attention
public import Idealize.ShloMosaic.Lib.ReduceAll
public import Idealize.ShloMosaic.Lib.KernelVsHost
public import Idealize.ShloMosaic.Lib.ValueIdx

@[expose] public section

set_option maxRecDepth 16384

noncomputable section

namespace Cert.Pre_finite_inputs_KernelIdeal

open Idealize.ShloMosaic Idealize.ShloMosaic.ValueIdx Cert.Maths

/-- The predicate's side conditions hold. -/
theorem facts : Facts where
  bcast_S_S1x1024x2048 := by decide
  reducesTo_S1x1024x2048_S_d0_1_2 := by decide
  h_S_ := by decide
  bcast_S_S2048x128 := by decide
  reducesTo_S2048x128_S_d0_1 := by decide
  bcast_S_S128x2048 := by decide
  reducesTo_S128x2048_S_d0_1 := by decide
  bcast_S_S2048x2048 := by decide
  reducesTo_S2048x2048_S_d0_1 := by decide
  bcast_S_S2048x512 := by decide
  reducesTo_S2048x512_S_d0_1 := by decide
  bcast_S_S2048x32 := by decide
  reducesTo_S2048x32_S_d0_1 := by decide

/-- A value whose magnitude is less than infinity is a real number. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  obtain ⟨h1, h2⟩ := max_lt_iff.1 hlt
  have hb : x ≠ ⊥ := fun e => by subst e; simp at h2
  exact ⟨x.toReal, (EReal.coe_toReal h1.ne hb).symm⟩

instance : Subsingleton S_.Idx := ⟨fun _ _ => funext fun a => a.elim0⟩

/-- One array's conjunct. -/
theorem all_real {s : Shape} {axes : List (Fin s.rank)} (a : FVec Ideal s .f32) (hb : S_.BroadcastsInDim s (![] : Fin 0 → Fin s.rank))
    (h : s.ReducesTo axes S_) (hu : 0 < S_.numel)
    (e : Host.reduce IntOp.andi (cmpf .olt (Host.absf a) (broadcastInDim s ![] hb (constant (F := Ideal) S_ .f32 0x7F800000#32))) (constantI S_ 1 1#1) h hu ix0 = 1#1)
    (i : s.Idx) : IsReal (a i) :=
  isReal_of_lt (a i) (Host.reduce_andi_all _ _ h hu ix0 e i)

variable [Facts]
open Facts

/-- Where the predicate is true, every entry of the six arguments it reads is a real number. -/
theorem real_of_fn (a0 : FVec Ideal S1x1024x2048 .f32) (a1 : FVec Ideal S2048x128 .f32) (a2 a3 : FVec Ideal S128x2048 .f32)
    (a4 : FVec Ideal S2048x2048 .f32) (a5 : FVec Ideal S2048x512 .f32) (a6 : FVec Ideal S2048x32 .f32) (a7 : FVec Ideal S2048x2048 .f32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a4 i)) ∧ (∀ i, IsReal (a5 i)) ∧ (∀ i, IsReal (a6 i)) := by
  have e := congrFun h ix0
  obtain ⟨e, h6⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨all_real a0 _ _ _ h0, all_real a1 _ _ _ h1, all_real a2 _ _ _ h2, all_real a4 _ _ _ h4, all_real a5 _ _ _ h5, all_real a6 _ _ _ h6⟩

end Cert.Pre_finite_inputs_KernelIdeal

namespace Cert.Pre_finite_inputs_ReferenceIdeal

/-- The predicate's side conditions hold, of the whole arrays too. -/
theorem facts : Facts where
  bcast_S_S1x1024x2048 := by decide
  reducesTo_S1x1024x2048_S_d0_1_2 := by decide
  h_S_ := by decide
  bcast_S_S2048x512 := by decide
  reducesTo_S2048x512_S_d0_1 := by decide
  bcast_S_S512x2048 := by decide
  reducesTo_S512x2048_S_d0_1 := by decide
  bcast_S_S2048x2048 := by decide
  reducesTo_S2048x2048_S_d0_1 := by decide
  bcast_S_S2048x32 := by decide
  reducesTo_S2048x32_S_d0_1 := by decide

end Cert.Pre_finite_inputs_ReferenceIdeal

end
-- ==== Proof.Algebraic.lean ====
/-
# The value claim

Every device's result is the reference's, in the ideal arithmetic, wherever the arguments that the scores depend on
are finite.
-/
module

public import proofs.«01_k».proof.Defs
public import proofs.«01_k».proof.Proof.RunKernelIdeal.Run
public import proofs.«01_k».proof.Proof.Value.Blocks
public import proofs.«01_k».proof.Proof.Value.Output
public import proofs.«01_k».proof.Proof.Value.Finite

@[expose] public section

set_option maxRecDepth 16384

noncomputable section

namespace Cert.Proof

open Cert.Maths Cert.KernelIdeal.Run Cert.KernelIdeal.Result
open Idealize.ShloMosaic Idealize.SL.Sem
open Idealize.ShloMosaic.ValueIdx

theorem algebraic : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := Cert.Pre_finite_inputs_KernelIdeal.facts) := by
  intro m ρ m' ρ' hpre hargs
  let P : Args := Cert.ReferenceIdeal.Result.argsOf
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6))
    (m' (((0 : Dev Cert.ReferenceIdeal.nD).tc : Thread Cert.ReferenceIdeal.nD Cert.ReferenceIdeal.τ).loc Cert.ReferenceIdeal.main_arg7))
  have H : Holds m P :=
    { x := fun d i k => congrFun (hargs d).1 _
      dkv := fun d k j => (congrFun (hargs d).2.1 _).trans (cols_at _ _ d k j (b128 (zc d) j) rfl)
      uk := fun d a j => (congrFun (hargs d).2.2.1 _).trans (rows_at _ _ d a j (b128 (zc d) a) rfl)
      uv := fun d a j => (congrFun (hargs d).2.2.2.1 _).trans (rows_at _ _ d a j (b128 (zc d) a) rfl)
      q := fun d k j => congrFun (hargs d).2.2.2.2.1 _
      qr := fun d k j => congrFun (hargs d).2.2.2.2.2.1 _
      kr := fun d k j => congrFun (hargs d).2.2.2.2.2.2.1 _
      wo := fun d k j => congrFun (hargs d).2.2.2.2.2.2.2 _ }
  have hP : P.Real := real_of_blocks H fun d => by
    letI := Cert.Pre_finite_inputs_KernelIdeal.facts
    exact Cert.Pre_finite_inputs_KernelIdeal.real_of_fn _ _ _ _ _ _ _ _ (hpre d)
  refine ⟨Cert.ReferenceIdeal.Value.res_out0 m' 0, ?_, ?_⟩
  · refine (θ_run Cert.KernelIdeal.defs _ _).mono (fun _ h c => ⟨(h.1 c).1.trans ?_, (h.1 c).2⟩) (run_ends (F := Ideal) ρ m)
    funext i
    obtain ⟨s, j, rfl⟩ : ∃ (s : Fin 1024) (j : Fin 2048), i = ix3 0 s j := ⟨i 1, i 2, by
      funext a
      match a with
      | ⟨0, _⟩ => exact Fin.ext (by have h0 : (i 0).val < 1 := (i 0).isLt; show (i 0).val = 0; omega)
      | ⟨1, _⟩ => rfl
      | ⟨2, _⟩ => rfl⟩
    refine (res_at H c hP s j).trans (Eq.symm ?_)
    rw [Cert.ReferenceIdeal.Result.res_eq]
    exact Cert.ReferenceIdeal.Result.outA_at _ _ _ _ _ _ _ _ s j
  · exact (θ_run Cert.ReferenceIdeal.defs _ _).mono (fun r h => h 0) (Cert.ReferenceIdeal.Value.run (F := Ideal) m' ρ')

end Cert.Proof

end
-- ==== Proof.lean ====
/-
# The certificate

The frames of the kernel, printed and ideal, and of the reference; that the ideal kernel is the printed one; and the
value claim. A frame under the precondition follows from the frame without one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_inputs_KernelIdeal.facts, Cert.Pre_finite_inputs_ReferenceIdeal.facts,
  frame_kernel, frame_kernelIdeal, fun m ρ _ => frame_kernelIdeal m ρ trivial, frame_referenceIdeal, fun m ρ _ => frame_referenceIdeal m ρ trivial,
  trivial, algebraic⟩

end Cert.Proof

end
